-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v180_0)) (v1 : (c : Dev Cert.KernelIdeal.nD) → Buf (Elt Ideal) ((c.tc : Thread Cert.KernelIdeal.nD Cert.KernelIdeal.τ).loc Cert.KernelIdeal.main_v180_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180_0) = v0 c
          ∧ r.2.mem ((c.tc : Thread Cert.KernelIdeal.nD Cert.KernelIdeal.τ).loc Cert.KernelIdeal.main_v180_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S128x64 : Shape := ⟨2, ![128, 64]⟩
abbrev S64x100000 : Shape := ⟨2, ![64, 100000]⟩
abbrev S100000 : Shape := ⟨1, ![100000]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S64x100000 : S_.BroadcastsInDim S64x100000 (![] : Fin 0 → Fin S64x100000.rank)
  reducesTo_S64x100000_S_d0_1 : S64x100000.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S128x64 .f32) (main_arg1 : FVec F S64x100000 .f32) (main_arg2 : FVec F S100000 .f32) : IVec S_ 1 :=
  let main_v0 : FVec F S128x64 .f32 := Host.absf main_arg0
  let main_cst : FVec F S_ .f32 := constant S_ .f32 0x7F800000#32
  let main_v1 : FVec F S128x64 .f32 := broadcastInDim S128x64 ![] bcast_S_S128x64 main_cst
  let main_v2 : IVec S128x64 1 := cmpf .olt main_v0 main_v1
  let main_c : IVec S_ 1 := constantI S_ 1 1#1
  let main_v3 : IVec S_ 1 := (fun x v => Host.reduce IntOp.andi x v reducesTo_S128x64_S_d0_1 h_S_) main_v2 main_c
  let main_v4 : FVec F S64x100000 .f32 := Host.absf main_arg1
  let main_cst_0 : FVec F S_ .f32 := constant S_ .f32 0x7F800000#32
  let main_v5 : FVec F S64x100000 .f32 := broadcastInDim S64x100000 ![] bcast_S_S64x100000 main_cst_0
  let main_v6 : IVec S64x100000 1 := cmpf .olt main_v4 main_v5
  let main_c_1 : IVec S_ 1 := constantI S_ 1 1#1
  let main_v7 : IVec S_ 1 := (fun x v => Host.reduce IntOp.andi x v reducesTo_S64x100000_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S128x64 : Shape := ⟨2, ![128, 64]⟩
abbrev S64x100000 : Shape := ⟨2, ![64, 100000]⟩
abbrev S100000 : Shape := ⟨1, ![100000]⟩
abbrev S9600000 : Shape := ⟨1, ![9600000]⟩
abbrev S_ : Shape := ⟨0, ![]⟩
abbrev S96x100000 : Shape := ⟨2, ![96, 100000]⟩
abbrev S1x100000 : Shape := ⟨2, ![1, 100000]⟩
abbrev S128x1 : Shape := ⟨2, ![128, 1]⟩
abbrev S64x25088 : Shape := ⟨2, ![64, 25088]⟩
abbrev S1x25088 : Shape := ⟨2, ![1, 25088]⟩
abbrev S128x25088 : Shape := ⟨2, ![128, 25088]⟩
abbrev S128 : Shape := ⟨1, ![128]⟩
abbrev S128x100000 : Shape := ⟨2, ![128, 100000]⟩
abbrev S64x10240 : Shape := ⟨2, ![64, 10240]⟩
abbrev S1x10240 : Shape := ⟨2, ![1, 10240]⟩
abbrev S96x10240 : Shape := ⟨2, ![96, 10240]⟩
abbrev S128x10240 : Shape := ⟨2, ![128, 10240]⟩
abbrev S32x2048 : Shape := ⟨2, ![32, 2048]⟩
abbrev S32x10240 : Shape := ⟨2, ![32, 10240]⟩
abbrev S32 : Shape := ⟨1, ![32]⟩
abbrev S32x1 : Shape := ⟨2, ![32, 1]⟩
abbrev S96 : Shape := ⟨1, ![96]⟩
abbrev S96x1 : Shape := ⟨2, ![96, 1]⟩

abbrev nBuf : Space → Nat
  | .hbm => 243
  | .vmem => 22
  | .smem => 0
  | _ => 0

abbrev hbmTy0_0 (i : Nat) : BufTy := match i % 128 with
  | 0 => ⟨S128x64, .f32⟩
  | 1 => ⟨S64x100000, .f32⟩
  | 2 => ⟨S100000, .f32⟩
  | 3 => ⟨S9600000, .i32⟩
  | 4 => ⟨S_, .i32⟩
  | 5 => ⟨S9600000, .i32⟩
  | 6 => ⟨S9600000, .i32⟩
  | 7 => ⟨S_, .i32⟩
  | 8 => ⟨S9600000, .i32⟩
  | 9 => ⟨S_, .i32⟩
  | 10 => ⟨S9600000, .i32⟩
  | 11 => ⟨S9600000, .i32⟩
  | 12 => ⟨S9600000, .i32⟩
  | 13 => ⟨S_, .i32⟩
  | 14 => ⟨S9600000, .i32⟩
  | 15 => ⟨S9600000, .i32⟩
  | 16 => ⟨S_, .i32⟩
  | 17 => ⟨S9600000, .i32⟩
  | 18 => ⟨S9600000, .i32⟩
  | 19 => ⟨S9600000, .i32⟩
  | 20 => ⟨S9600000, .i32⟩
  | 21 => ⟨S9600000, .i32⟩
  | 22 => ⟨S_, .i32⟩
  | 23 => ⟨S9600000, .i32⟩
  | 24 => ⟨S9600000, .i32⟩
  | 25 => ⟨S_, .i32⟩
  | 26 => ⟨S9600000, .i32⟩
  | 27 => ⟨S9600000, .i32⟩
  | 28 => ⟨S9600000, .i32⟩
  | 29 => ⟨S9600000, .i32⟩
  | 30 => ⟨S9600000, .i32⟩
  | 31 => ⟨S_, .i32⟩
  | 32 => ⟨S9600000, .i32⟩
  | 33 => ⟨S9600000, .i32⟩
  | 34 => ⟨S_, .i32⟩
  | 35 => ⟨S9600000, .i32⟩
  | 36 => ⟨S9600000, .i32⟩
  | 37 => ⟨S9600000, .i32⟩
  | 38 => ⟨S9600000, .i32⟩
  | 39 => ⟨S9600000, .i32⟩
  | 40 => ⟨S_, .i32⟩
  | 41 => ⟨S9600000, .i32⟩
  | 42 => ⟨S9600000, .i32⟩
  | 43 => ⟨S_, .i32⟩
  | 44 => ⟨S9600000, .i32⟩
  | 45 => ⟨S9600000, .i32⟩
  | 46 => ⟨S9600000, .i32⟩
  | 47 => ⟨S9600000, .i32⟩
  | 48 => ⟨S_, .i32⟩
  | 49 => ⟨S9600000, .i32⟩
  | 50 => ⟨S9600000, .i32⟩
  | 51 => ⟨S_, .i32⟩
  | 52 => ⟨S9600000, .i32⟩
  | 53 => ⟨S9600000, .i32⟩
  | 54 => ⟨S_, .i32⟩
  | 55 => ⟨S9600000, .i32⟩
  | 56 => ⟨S9600000, .i32⟩
  | 57 => ⟨S9600000, .i32⟩
  | 58 => ⟨S_, .i32⟩
  | 59 => ⟨S9600000, .i32⟩
  | 60 => ⟨S9600000, .i32⟩
  | 61 => ⟨S_, .i32⟩
  | 62 => ⟨S9600000, .i32⟩
  | 63 => ⟨S9600000, .i32⟩
  | 64 => ⟨S9600000, .i32⟩
  | 65 => ⟨S9600000, .i32⟩
  | 66 => ⟨S9600000, .i32⟩
  | 67 => ⟨S_, .i32⟩
  | 68 => ⟨S9600000, .i32⟩
  | 69 => ⟨S9600000, .i32⟩
  | 70 => ⟨S_, .i32⟩
  | 71 => ⟨S9600000, .i32⟩
  | 72 => ⟨S9600000, .i32⟩
  | 73 => ⟨S9600000, .i32⟩
  | 74 => ⟨S9600000, .i32⟩
  | 75 => ⟨S9600000, .i32⟩
  | 76 => ⟨S_, .i32⟩
  | 77 => ⟨S9600000, .i32⟩
  | 78 => ⟨S9600000, .i32⟩
  | 79 => ⟨S_, .i32⟩
  | 80 => ⟨S9600000, .i32⟩
  | 81 => ⟨S9600000, .i32⟩
  | 82 => ⟨S9600000, .i32⟩
  | 83 => ⟨S9600000, .i32⟩
  | 84 => ⟨S9600000, .i32⟩
  | 85 => ⟨S_, .i32⟩
  | 86 => ⟨S9600000, .i32⟩
  | 87 => ⟨S9600000, .i32⟩
  | 88 => ⟨S_, .i32⟩
  | 89 => ⟨S9600000, .i32⟩
  | 90 => ⟨S9600000, .i32⟩
  | 91 => ⟨S9600000, .i32⟩
  | 92 => ⟨S9600000, .i32⟩
  | 93 => ⟨S_, .i32⟩
  | 94 => ⟨S9600000, .i32⟩
  | 95 => ⟨S9600000, .i32⟩
  | 96 => ⟨S_, .i32⟩
  | 97 => ⟨S9600000, .i32⟩
  | 98 => ⟨S9600000, .i32⟩
  | 99 => ⟨S_, .i32⟩
  | 100 => ⟨S9600000, .i32⟩
  | 101 => ⟨S9600000, .i32⟩
  | 102 => ⟨S9600000, .i32⟩
  | 103 => ⟨S_, .i32⟩
  | 104 => ⟨S9600000, .i32⟩
  | 105 => ⟨S9600000, .i32⟩
  | 106 => ⟨S_, .i32⟩
  | 107 => ⟨S9600000, .i32⟩
  | 108 => ⟨S9600000, .i32⟩
  | 109 => ⟨S9600000, .i32⟩
  | 110 => ⟨S9600000, .i32⟩
  | 111 => ⟨S9600000, .i32⟩
  | 112 => ⟨S_, .i32⟩
  | 113 => ⟨S9600000, .i32⟩
  | 114 => ⟨S9600000, .i32⟩
  | 115 => ⟨S_, .i32⟩
  | 116 => ⟨S9600000, .i32⟩
  | 117 => ⟨S9600000, .i32⟩
  | 118 => ⟨S9600000, .i32⟩
  | 119 => ⟨S9600000, .i32⟩
  | 120 => ⟨S9600000, .i32⟩
  | 121 => ⟨S_, .i32⟩
  | 122 => ⟨S9600000, .i32⟩
  | 123 => ⟨S9600000, .i32⟩
  | 124 => ⟨S_, .i32⟩
  | 125 => ⟨S9600000, .i32⟩
  | 126 => ⟨S9600000, .i32⟩
  | 127 => ⟨S9600000, .i32⟩
  | _ => ⟨S128x64, .f32⟩

abbrev hbmTy0_1 (i : Nat) : BufTy := match i % 128 with
  | 0 => ⟨S9600000, .i32⟩
  | 1 => ⟨S9600000, .i32⟩
  | 2 => ⟨S_, .i32⟩
  | 3 => ⟨S9600000, .i32⟩
  | 4 => ⟨S9600000, .i32⟩
  | 5 => ⟨S_, .i32⟩
  | 6 => ⟨S9600000, .i32⟩
  | 7 => ⟨S9600000, .i32⟩
  | 8 => ⟨S9600000, .i32⟩
  | 9 => ⟨S9600000, .i32⟩
  | 10 => ⟨S_, .i32⟩
  | 11 => ⟨S9600000, .i32⟩
  | 12 => ⟨S9600000, .i32⟩
  | 13 => ⟨S_, .i32⟩
  | 14 => ⟨S9600000, .i32⟩
  | 15 => ⟨S9600000, .i32⟩
  | 16 => ⟨S_, .i32⟩
  | 17 => ⟨S9600000, .i32⟩
  | 18 => ⟨S9600000, .i32⟩
  | 19 => ⟨S9600000, .i32⟩
  | 20 => ⟨S_, .i32⟩
  | 21 => ⟨S9600000, .i32⟩
  | 22 => ⟨S9600000, .i32⟩
  | 23 => ⟨S_, .i32⟩
  | 24 => ⟨S9600000, .i32⟩
  | 25 => ⟨S9600000, .i32⟩
  | 26 => ⟨S9600000, .i32⟩
  | 27 => ⟨S9600000, .i32⟩
  | 28 => ⟨S9600000, .i32⟩
  | 29 => ⟨S_, .i32⟩
  | 30 => ⟨S9600000, .i32⟩
  | 31 => ⟨S9600000, .i32⟩
  | 32 => ⟨S_, .i32⟩
  | 33 => ⟨S9600000, .i32⟩
  | 34 => ⟨S9600000, .i32⟩
  | 35 => ⟨S9600000, .i32⟩
  | 36 => ⟨S9600000, .i32⟩
  | 37 => ⟨S9600000, .i32⟩
  | 38 => ⟨S_, .i32⟩
  | 39 => ⟨S9600000, .i32⟩
  | 40 => ⟨S9600000, .i32⟩
  | 41 => ⟨S_, .i32⟩
  | 42 => ⟨S9600000, .i32⟩
  | 43 => ⟨S9600000, .i32⟩
  | 44 => ⟨S9600000, .i32⟩
  | 45 => ⟨S9600000, .i32⟩
  | 46 => ⟨S9600000, .i32⟩
  | 47 => ⟨S_, .i32⟩
  | 48 => ⟨S9600000, .i32⟩
  | 49 => ⟨S9600000, .i32⟩
  | 50 => ⟨S_, .i32⟩
  | 51 => ⟨S9600000, .i32⟩
  | 52 => ⟨S9600000, .i32⟩
  | 53 => ⟨S9600000, .i32⟩
  | 54 => ⟨S9600000, .i32⟩
  | 55 => ⟨S_, .i32⟩
  | 56 => ⟨S9600000, .i32⟩
  | 57 => ⟨S9600000, .i32⟩
  | 58 => ⟨S_, .i32⟩
  | 59 => ⟨S9600000, .i32⟩
  | 60 => ⟨S9600000, .i32⟩
  | 61 => ⟨S_, .i32⟩
  | 62 => ⟨S9600000, .i32⟩
  | 63 => ⟨S9600000, .i32⟩
  | 64 => ⟨S9600000, .i32⟩
  | 65 => ⟨S_, .i32⟩
  | 66 => ⟨S9600000, .i32⟩
  | 67 => ⟨S9600000, .i32⟩
  | 68 => ⟨S_, .i32⟩
  | 69 => ⟨S9600000, .i32⟩
  | 70 => ⟨S9600000, .i32⟩
  | 71 => ⟨S9600000, .i32⟩
  | 72 => ⟨S9600000, .i32⟩
  | 73 => ⟨S9600000, .i32⟩
  | 74 => ⟨S_, .i32⟩
  | 75 => ⟨S9600000, .i32⟩
  | 76 => ⟨S9600000, .i32⟩
  | 77 => ⟨S_, .i32⟩
  | 78 => ⟨S9600000, .i32⟩
  | 79 => ⟨S9600000, .i32⟩
  | 80 => ⟨S9600000, .i32⟩
  | 81 => ⟨S9600000, .i32⟩
  | 82 => ⟨S9600000, .i32⟩
  | 83 => ⟨S_, .i32⟩
  | 84 => ⟨S9600000, .i32⟩
  | 85 => ⟨S9600000, .i32⟩
  | 86 => ⟨S_, .i32⟩
  | 87 => ⟨S9600000, .i32⟩
  | 88 => ⟨S9600000, .i32⟩
  | 89 => ⟨S9600000, .i32⟩
  | 90 => ⟨S9600000, .i32⟩
  | 91 => ⟨S9600000, .i32⟩
  | 92 => ⟨S_, .i32⟩
  | 93 => ⟨S9600000, .i32⟩
  | 94 => ⟨S9600000, .i32⟩
  | 95 => ⟨S_, .i32⟩
  | 96 => ⟨S9600000, .i32⟩
  | 97 => ⟨S9600000, .i32⟩
  | 98 => ⟨S9600000, .i32⟩
  | 99 => ⟨S9600000, .i32⟩
  | 100 => ⟨S_, .i32⟩
  | 101 => ⟨S9600000, .i32⟩
  | 102 => ⟨S9600000, .i32⟩
  | 103 => ⟨S_, .i32⟩
  | 104 => ⟨S9600000, .i32⟩
  | 105 => ⟨S9600000, .i32⟩
  | 106 => ⟨S_, .i32⟩
  | 107 => ⟨S9600000, .i32⟩
  | 108 => ⟨S9600000, .i32⟩
  | 109 => ⟨S9600000, .i32⟩
  | 110 => ⟨S96x100000, .i32⟩
  | 111 => ⟨S1x100000, .f32⟩
  | 112 => ⟨S128x1, .f32⟩
  | 113 => ⟨S128x100000, .f32⟩
  | 114 => ⟨S128x1, .i32⟩
  | _ => ⟨S128x64, .f32⟩

abbrev hbmTy (i : Nat) : BufTy := match i / 128 with
  | 0 => hbmTy0_0 i
  | 1 => hbmTy0_1 i
  | _ => ⟨S128x64, .f32⟩

abbrev bufTy : (tb : Table) → Fin (tcTables nBuf tb) → BufTy
  | .hbm, ⟨i, _⟩ => hbmTy i
  | .local _ .vmem, ⟨0, _⟩ => ⟨S128x64, .f32⟩
  | .local _ .vmem, ⟨1, _⟩ => ⟨S64x25088, .f32⟩
  | .local _ .vmem, ⟨2, _⟩ => ⟨S64x25088, .f32⟩
  | .local _ .vmem, ⟨3, _⟩ => ⟨S1x25088, .f32⟩
  | .local _ .vmem, ⟨4, _⟩ => ⟨S1x25088, .f32⟩
  | .local _ .vmem, ⟨5, _⟩ => ⟨S128x1, .f32⟩
  | .local _ .vmem, ⟨6, _⟩ => ⟨S128x64, .f32⟩
  | .local _ .vmem, ⟨7, _⟩ => ⟨S64x10240, .f32⟩
  | .local _ .vmem, ⟨8, _⟩ => ⟨S64x10240, .f32⟩
  | .local _ .vmem, ⟨9, _⟩ => ⟨S1x10240, .f32⟩
  | .local _ .vmem, ⟨10, _⟩ => ⟨S1x10240, .f32⟩
  | .local _ .vmem, ⟨11, _⟩ => ⟨S96x10240, .i32⟩
  | .local _ .vmem, ⟨12, _⟩ => ⟨S96x10240, .i32⟩
  | .local _ .vmem, ⟨13, _⟩ => ⟨S128x1, .f32⟩
  | .local _ .vmem, ⟨14, _⟩ => ⟨S128x10240, .f32⟩
  | .local _ .vmem, ⟨15, _⟩ => ⟨S128x10240, .f32⟩
  | .local _ .vmem, ⟨16, _⟩ => ⟨S128x1, .i32⟩
  | .local _ .vmem, ⟨17, _⟩ => ⟨S128x1, .f32⟩
  | .local _ .vmem, ⟨18, _⟩ => ⟨S128x1, .i32⟩
  | .local _ .vmem, ⟨19, _⟩ => ⟨S32x2048, .i32⟩
  | .local _ .vmem, ⟨20, _⟩ => ⟨S128x10240, .i32⟩
  | .local _ .vmem, ⟨21, _⟩ => ⟨S32x10240, .i32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_v22 : Ref sig .tc := ⟨.hbm, 33, rfl⟩
abbrev main_c_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_8 : Ref sig .tc := ⟨.hbm, 40, rfl⟩
abbrev main_v28 : Ref sig .tc := ⟨.hbm, 41, rfl⟩
abbrev main_v29 : Ref sig .tc := ⟨.hbm, 42, rfl⟩
abbrev main_c_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_10 : Ref sig .tc := ⟨.hbm, 48, rfl⟩
abbrev main_v34 : Ref sig .tc := ⟨.hbm, 49, rfl⟩
abbrev main_v35 : Ref sig .tc := ⟨.hbm, 50, rfl⟩
abbrev main_c_11 : Ref sig .tc := ⟨.hbm, 51, rfl⟩
abbrev main_v36 : Ref sig .tc := ⟨.hbm, 52, rfl⟩
abbrev main_v37 : Ref sig .tc := ⟨.hbm, 53, rfl⟩
abbrev main_c_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_13 : Ref sig .tc := ⟨.hbm, 58, rfl⟩
abbrev main_v41 : Ref sig .tc := ⟨.hbm, 59, rfl⟩
abbrev main_v42 : Ref sig .tc := ⟨.hbm, 60, rfl⟩
abbrev main_c_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_15 : Ref sig .tc := ⟨.hbm, 67, rfl⟩
abbrev main_v48 : Ref sig .tc := ⟨.hbm, 68, rfl⟩
abbrev main_v49 : Ref sig .tc := ⟨.hbm, 69, rfl⟩
abbrev main_c_16 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_17 : Ref sig .tc := ⟨.hbm, 76, rfl⟩
abbrev main_v55 : Ref sig .tc := ⟨.hbm, 77, rfl⟩
abbrev main_v56 : Ref sig .tc := ⟨.hbm, 78, rfl⟩
abbrev main_c_18 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_19 : Ref sig .tc := ⟨.hbm, 85, rfl⟩
abbrev main_v62 : Ref sig .tc := ⟨.hbm, 86, rfl⟩
abbrev main_v63 : Ref sig .tc := ⟨.hbm, 87, rfl⟩
abbrev main_c_20 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_21 : Ref sig .tc := ⟨.hbm, 93, rfl⟩
abbrev main_v68 : Ref sig .tc := ⟨.hbm, 94, rfl⟩
abbrev main_v69 : Ref sig .tc := ⟨.hbm, 95, rfl⟩
abbrev main_c_22 : Ref sig .tc := ⟨.hbm, 96, rfl⟩
abbrev main_v70 : Ref sig .tc := ⟨.hbm, 97, rfl⟩
abbrev main_v71 : Ref sig .tc := ⟨.hbm, 98, rfl⟩
abbrev main_c_23 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_24 : Ref sig .tc := ⟨.hbm, 103, rfl⟩
abbrev main_v75 : Ref sig .tc := ⟨.hbm, 104, rfl⟩
abbrev main_v76 : Ref sig .tc := ⟨.hbm, 105, rfl⟩
abbrev main_c_25 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_26 : Ref sig .tc := ⟨.hbm, 112, rfl⟩
abbrev main_v82 : Ref sig .tc := ⟨.hbm, 113, rfl⟩
abbrev main_v83 : Ref sig .tc := ⟨.hbm, 114, rfl⟩
abbrev main_c_27 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_28 : Ref sig .tc := ⟨.hbm, 121, rfl⟩
abbrev main_v89 : Ref sig .tc := ⟨.hbm, 122, rfl⟩
abbrev main_v90 : Ref sig .tc := ⟨.hbm, 123, rfl⟩
abbrev main_c_29 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_30 : Ref sig .tc := ⟨.hbm, 130, rfl⟩
abbrev main_v96 : Ref sig .tc := ⟨.hbm, 131, rfl⟩
abbrev main_v97 : Ref sig .tc := ⟨.hbm, 132, rfl⟩
abbrev main_c_31 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_32 : Ref sig .tc := ⟨.hbm, 138, rfl⟩
abbrev main_v102 : Ref sig .tc := ⟨.hbm, 139, rfl⟩
abbrev main_v103 : Ref sig .tc := ⟨.hbm, 140, rfl⟩
abbrev main_c_33 : Ref sig .tc := ⟨.hbm, 141, rfl⟩
abbrev main_v104 : Ref sig .tc := ⟨.hbm, 142, rfl⟩
abbrev main_v105 : Ref sig .tc := ⟨.hbm, 143, rfl⟩
abbrev main_c_34 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_35 : Ref sig .tc := ⟨.hbm, 148, rfl⟩
abbrev main_v109 : Ref sig .tc := ⟨.hbm, 149, rfl⟩
abbrev main_v110 : Ref sig .tc := ⟨.hbm, 150, rfl⟩
abbrev main_c_36 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_37 : Ref sig .tc := ⟨.hbm, 157, rfl⟩
abbrev main_v116 : Ref sig .tc := ⟨.hbm, 158, rfl⟩
abbrev main_v117 : Ref sig .tc := ⟨.hbm, 159, rfl⟩
abbrev main_c_38 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_39 : Ref sig .tc := ⟨.hbm, 166, rfl⟩
abbrev main_v123 : Ref sig .tc := ⟨.hbm, 167, rfl⟩
abbrev main_v124 : Ref sig .tc := ⟨.hbm, 168, rfl⟩
abbrev main_c_40 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_41 : Ref sig .tc := ⟨.hbm, 175, rfl⟩
abbrev main_v130 : Ref sig .tc := ⟨.hbm, 176, rfl⟩
abbrev main_v131 : Ref sig .tc := ⟨.hbm, 177, rfl⟩
abbrev main_c_42 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_43 : Ref sig .tc := ⟨.hbm, 183, rfl⟩
abbrev main_v136 : Ref sig .tc := ⟨.hbm, 184, rfl⟩
abbrev main_v137 : Ref sig .tc := ⟨.hbm, 185, rfl⟩
abbrev main_c_44 : Ref sig .tc := ⟨.hbm, 186, rfl⟩
abbrev main_v138 : Ref sig .tc := ⟨.hbm, 187, rfl⟩
abbrev main_v139 : Ref sig .tc := ⟨.hbm, 188, rfl⟩
abbrev main_c_45 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_46 : Ref sig .tc := ⟨.hbm, 193, rfl⟩
abbrev main_v143 : Ref sig .tc := ⟨.hbm, 194, rfl⟩
abbrev main_v144 : Ref sig .tc := ⟨.hbm, 195, rfl⟩
abbrev main_c_47 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_c_48 : Ref sig .tc := ⟨.hbm, 202, rfl⟩
abbrev main_v150 : Ref sig .tc := ⟨.hbm, 203, rfl⟩
abbrev main_v151 : Ref sig .tc := ⟨.hbm, 204, rfl⟩
abbrev main_c_49 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_c_50 : Ref sig .tc := ⟨.hbm, 211, rfl⟩
abbrev main_v157 : Ref sig .tc := ⟨.hbm, 212, rfl⟩
abbrev main_v158 : Ref sig .tc := ⟨.hbm, 213, rfl⟩
abbrev main_c_51 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_c_52 : Ref sig .tc := ⟨.hbm, 220, rfl⟩
abbrev main_v164 : Ref sig .tc := ⟨.hbm, 221, rfl⟩
abbrev main_v165 : Ref sig .tc := ⟨.hbm, 222, rfl⟩
abbrev main_c_53 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_c_54 : Ref sig .tc := ⟨.hbm, 228, rfl⟩
abbrev main_v170 : Ref sig .tc := ⟨.hbm, 229, rfl⟩
abbrev main_v171 : Ref sig .tc := ⟨.hbm, 230, rfl⟩
abbrev main_c_55 : Ref sig .tc := ⟨.hbm, 231, rfl⟩
abbrev main_v172 : Ref sig .tc := ⟨.hbm, 232, rfl⟩
abbrev main_v173 : Ref sig .tc := ⟨.hbm, 233, rfl⟩
abbrev main_c_56 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180_0 : Ref sig .tc := ⟨.hbm, 241, rfl⟩
abbrev main_v180_1 : Ref sig .tc := ⟨.hbm, 242, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc1_scratch3 : Ref sig .tc := ⟨.vmem, 20, rfl⟩
abbrev cc1_scratch4 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc1_sem6_0 : DmaSem sig := 16

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c3_i32 : BitVec 32 := 3#32
  let v10 : BitVec 1 := Scalar.cmpi .slt arg0 c3_i32
  let v11 : BitVec 32 := Scalar.extui v10
  let c0_i32_6 : BitVec 32 := 0#32
  let v12 : BitVec 1 := Scalar.cmpi .ne v11 c0_i32_6
  v12

def k0_cond3 (i : grid0.Coords) : BitVec 1 :=
  let arg0 : BitVec 32 := BitVec.ofNat 32 (i 0).val
  let c3_i32_7 : BitVec 32 := 3#32
  let v13 : BitVec 1 := Scalar.cmpi .eq arg0 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x25088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x25088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![10], ![false]⟩

@[reducible] def k1_t1_loop : Scf.Loop 32 :=
  let c0_i32_12 : BitVec 32 := 0#32
  let c5_i32 : BitVec 32 := 5#32
  let v21 : BitVec 32 := Scalar.addi c0_i32_12 c5_i32
  let c1_i32 : BitVec 32 := 1#32
  ⟨c0_i32_12, v21, c1_i32⟩
def k1_off1 (k1_t1 : Fin k1_t1_loop.trips) : Fin 2 → Nat :=
  let c0_77 : Index := 0#32
  let c0_i32_12 : BitVec 32 := 0#32
  let c1_i32 : BitVec 32 := 1#32
  let arg13 : BitVec 32 := Scf.iv c0_i32_12 c1_i32 k1_t1
  let c2048_i32_76 : BitVec 32 := 2048#32
  let v242 : BitVec 32 := Scalar.muli arg13 c2048_i32_76
  let v243 : Index := Scalar.indexCast v242
  ![0, v243.toNat]
def k1_cond3 (i : grid1.Coords) : BitVec 1 :=
  let arg0 : BitVec 32 := BitVec.ofNat 32 (i 0).val
  let c9_i32_30 : BitVec 32 := 9#32
  let v60 : BitVec 1 := Scalar.cmpi .eq arg0 c9_i32_30
  let v61 : BitVec 32 := Scalar.extui v60
  let c0_i32_31 : BitVec 32 := 0#32
  let v62 : BitVec 1 := Scalar.cmpi .ne v61 c0_i32_31
  v62

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x10240 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x10240 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S96x10240 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x10240 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x1 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S128x64 : Shape := ⟨2, ![128, 64]⟩
abbrev S64x100000 : Shape := ⟨2, ![64, 100000]⟩
abbrev S100000 : Shape := ⟨1, ![100000]⟩
abbrev S128x100000 : Shape := ⟨2, ![128, 100000]⟩
abbrev S1x100000 : Shape := ⟨2, ![1, 100000]⟩
abbrev S_ : Shape := ⟨0, ![]⟩
abbrev S128 : Shape := ⟨1, ![128]⟩
abbrev S128x1 : Shape := ⟨2, ![128, 1]⟩
abbrev S1 : Shape := ⟨1, ![1]⟩
abbrev S2 : Shape := ⟨1, ![2]⟩
abbrev S1x1 : Shape := ⟨2, ![1, 1]⟩

abbrev nBuf : Space → Nat
  | .hbm => 313
  | .vmem => 0
  | .smem => 0
  | _ => 0

abbrev hbmTy0_0 (i : Nat) : BufTy := match i % 128 with
  | 0 => ⟨S128x64, .f32⟩
  | 1 => ⟨S64x100000, .f32⟩
  | 2 => ⟨S100000, .f32⟩
  | 3 => ⟨S128x100000, .f32⟩
  | 4 => ⟨S1x100000, .f32⟩
  | 5 => ⟨S128x100000, .f32⟩
  | 6 => ⟨S128x100000, .f32⟩
  | 7 => ⟨S_, .f32⟩
  | 8 => ⟨S128, .f32⟩
  | 9 => ⟨S_, .f32⟩
  | 10 => ⟨S128, .f32⟩
  | 11 => ⟨S128, .f32⟩
  | 12 => ⟨S128x1, .f32⟩
  | 13 => ⟨S128x100000, .f32⟩
  | 14 => ⟨S128x100000, .f32⟩
  | 15 => ⟨S128x100000, .f32⟩
  | 16 => ⟨S_, .f32⟩
  | 17 => ⟨S128, .f32⟩
  | 18 => ⟨S128x1, .f32⟩
  | 19 => ⟨S128x100000, .f32⟩
  | 20 => ⟨S128x100000, .f32⟩
  | 21 => ⟨S_, .i32⟩
  | 22 => ⟨S_, .i32⟩
  | 23 => ⟨S_, .i32⟩
  | 24 => ⟨S_, .i32⟩
  | 25 => ⟨S1, .i32⟩
  | 26 => ⟨S_, .i32⟩
  | 27 => ⟨S_, .i32⟩
  | 28 => ⟨S_, .i32⟩
  | 29 => ⟨S1, .i32⟩
  | 30 => ⟨S2, .i32⟩
  | 31 => ⟨S_, .f32⟩
  | 32 => ⟨S_, .f32⟩
  | 33 => ⟨S_, .f32⟩
  | 34 => ⟨S_, .f32⟩
  | 35 => ⟨S1x1, .f32⟩
  | 36 => ⟨S1x1, .f32⟩
  | 37 => ⟨S1, .i32⟩
  | 38 => ⟨S_, .i32⟩
  | 39 => ⟨S1, .i32⟩
  | 40 => ⟨S_, .i32⟩
  | 41 => ⟨S128x100000, .i64⟩
  | 42 => ⟨S128x100000, .i64⟩
  | 43 => ⟨S_, .i64⟩
  | 44 => ⟨S128x100000, .i64⟩
  | 45 => ⟨S128x100000, .i64⟩
  | 46 => ⟨S_, .i64⟩
  | 47 => ⟨S128x100000, .i64⟩
  | 48 => ⟨S128x100000, .i64⟩
  | 49 => ⟨S128x100000, .i64⟩
  | 50 => ⟨S_, .i64⟩
  | 51 => ⟨S128x100000, .i64⟩
  | 52 => ⟨S128x100000, .i64⟩
  | 53 => ⟨S128x100000, .i32⟩
  | 54 => ⟨S128x100000, .i32⟩
  | 55 => ⟨S_, .i32⟩
  | 56 => ⟨S_, .i32⟩
  | 57 => ⟨S_, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S128x100000, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S128x100000, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x64, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S128x100000, .i32⟩
  | 12 => ⟨S128x100000, .i32⟩
  | 13 => ⟨S128x100000, .i32⟩
  | 14 => ⟨S128x100000, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S128x100000, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S_, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S128x100000, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S128x100000, .i32⟩
  | 55 => ⟨S128x100000, .i32⟩
  | 56 => ⟨S128x100000, .i32⟩
  | 57 => ⟨S128x100000, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S_, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x64, .f32⟩

abbrev hbmTy0_2 (i : Nat) : BufTy := match i % 128 with
  | 0 => ⟨S_, .i32⟩
  | 1 => ⟨S128x100000, .i32⟩
  | 2 => ⟨S128x100000, .i32⟩
  | 3 => ⟨S128x100000, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S128x100000, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S_, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .f32⟩
  | 29 => ⟨S_, .f32⟩
  | 30 => ⟨S128x100000, .f32⟩
  | 31 => ⟨S128x100000, .f32⟩
  | 32 => ⟨S1x1, .f32⟩
  | 33 => ⟨S128x100000, .f32⟩
  | 34 => ⟨S128x100000, .f32⟩
  | 35 => ⟨S128x100000, .f32⟩
  | 36 => ⟨S128x100000, .f32⟩
  | 37 => ⟨S128x100000, .f32⟩
  | 38 => ⟨S128x100000, .f32⟩
  | 39 => ⟨S_, .f32⟩
  | 40 => ⟨S128x100000, .f32⟩
  | 41 => ⟨S128x100000, .f32⟩
  | 42 => ⟨S128x100000, .f32⟩
  | 43 => ⟨S128x100000, .f32⟩
  | 44 => ⟨S128x100000, .f32⟩
  | 45 => ⟨S128x100000, .f32⟩
  | 46 => ⟨S_, .f32⟩
  | 47 => ⟨S128x100000, .f32⟩
  | 48 => ⟨S128x100000, .f32⟩
  | 49 => ⟨S128x100000, .f32⟩
  | 50 => ⟨S128x100000, .f32⟩
  | 51 => ⟨S128x100000, .i32⟩
  | 52 => ⟨S_, .f32⟩
  | 53 => ⟨S_, .i32⟩
  | 54 => ⟨S128, .f32⟩
  | 55 => ⟨S128, .i32⟩
  | 56 => ⟨S128x1, .i32⟩
  | _ => ⟨S128x64, .f32⟩

abbrev hbmTy (i : Nat) : BufTy := match i / 128 with
  | 0 => hbmTy0_0 i
  | 1 => hbmTy0_1 i
  | 2 => hbmTy0_2 i
  | _ => ⟨S128x64, .f32⟩

abbrev bufTy : (tb : Table) → Fin (tcTables nBuf tb) → BufTy
  | .hbm, ⟨i, _⟩ => hbmTy i
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_c : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_c_1 : Ref sig .tc := ⟨.hbm, 50, rfl⟩
abbrev main_call0_v15 : Ref sig .tc := ⟨.hbm, 51, rfl⟩
abbrev main_call0_v16 : Ref sig .tc := ⟨.hbm, 52, rfl⟩
abbrev main_call0_v17 : Ref sig .tc := ⟨.hbm, 53, rfl⟩
abbrev main_call0_v18 : Ref sig .tc := ⟨.hbm, 54, rfl⟩
abbrev main_call0_call0_v0 : Ref sig .tc := ⟨.hbm, 55, rfl⟩
abbrev main_call0_call0_c : Ref sig .tc := ⟨.hbm, 56, rfl⟩
abbrev main_call0_call0_v1 : Ref sig .tc := ⟨.hbm, 57, rfl⟩
abbrev main_call0_call0_v2 : Ref sig .tc := ⟨.hbm, 58, rfl⟩
abbrev main_call0_call0_v3 : Ref sig .tc := ⟨.hbm, 59, rfl⟩
abbrev main_call0_call0_v4 : Ref sig .tc := ⟨.hbm, 60, rfl⟩
abbrev main_call0_call0_v5 : Ref sig .tc := ⟨.hbm, 61, rfl⟩
abbrev main_call0_call0_v6 : Ref sig .tc := ⟨.hbm, 62, rfl⟩
abbrev main_call0_call0_c_0 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_c_1 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_v11 : Ref sig .tc := ⟨.hbm, 69, rfl⟩
abbrev main_call0_call0_v12 : Ref sig .tc := ⟨.hbm, 70, rfl⟩
abbrev main_call0_call0_v13 : Ref sig .tc := ⟨.hbm, 71, rfl⟩
abbrev main_call0_call0_c_2 : Ref sig .tc := ⟨.hbm, 72, rfl⟩
abbrev main_call0_call0_v14 : Ref sig .tc := ⟨.hbm, 73, rfl⟩
abbrev main_call0_call0_v15 : Ref sig .tc := ⟨.hbm, 74, rfl⟩
abbrev main_call0_call0_c_3 : Ref sig .tc := ⟨.hbm, 75, rfl⟩
abbrev main_call0_call0_v16 : Ref sig .tc := ⟨.hbm, 76, rfl⟩
abbrev main_call0_call0_v17 : Ref sig .tc := ⟨.hbm, 77, rfl⟩
abbrev main_call0_call0_v18 : Ref sig .tc := ⟨.hbm, 78, rfl⟩
abbrev main_call0_call0_v19 : Ref sig .tc := ⟨.hbm, 79, rfl⟩
abbrev main_call0_call0_v20 : Ref sig .tc := ⟨.hbm, 80, rfl⟩
abbrev main_call0_call0_c_4 : Ref sig .tc := ⟨.hbm, 81, rfl⟩
abbrev main_call0_call0_v21 : Ref sig .tc := ⟨.hbm, 82, rfl⟩
abbrev main_call0_call0_v22 : Ref sig .tc := ⟨.hbm, 83, rfl⟩
abbrev main_call0_call0_c_5 : Ref sig .tc := ⟨.hbm, 84, rfl⟩
abbrev main_call0_call0_v23 : Ref sig .tc := ⟨.hbm, 85, rfl⟩
abbrev main_call0_call0_v24 : Ref sig .tc := ⟨.hbm, 86, rfl⟩
abbrev main_call0_call0_v25 : Ref sig .tc := ⟨.hbm, 87, rfl⟩
abbrev main_call0_call0_v26 : Ref sig .tc := ⟨.hbm, 88, rfl⟩
abbrev main_call0_call0_v27 : Ref sig .tc := ⟨.hbm, 89, rfl⟩
abbrev main_call0_call0_c_6 : Ref sig .tc := ⟨.hbm, 90, rfl⟩
abbrev main_call0_call0_v28 : Ref sig .tc := ⟨.hbm, 91, rfl⟩
abbrev main_call0_call0_v29 : Ref sig .tc := ⟨.hbm, 92, rfl⟩
abbrev main_call0_call0_c_7 : Ref sig .tc := ⟨.hbm, 93, rfl⟩
abbrev main_call0_call0_v30 : Ref sig .tc := ⟨.hbm, 94, rfl⟩
abbrev main_call0_call0_v31 : Ref sig .tc := ⟨.hbm, 95, rfl⟩
abbrev main_call0_call0_v32 : Ref sig .tc := ⟨.hbm, 96, rfl⟩
abbrev main_call0_call0_v33 : Ref sig .tc := ⟨.hbm, 97, rfl⟩
abbrev main_call0_call0_v34 : Ref sig .tc := ⟨.hbm, 98, rfl⟩
abbrev main_call0_call0_v35 : Ref sig .tc := ⟨.hbm, 99, rfl⟩
abbrev main_call0_call0_v36 : Ref sig .tc := ⟨.hbm, 100, rfl⟩
abbrev main_call0_call0_v37 : Ref sig .tc := ⟨.hbm, 101, rfl⟩
abbrev main_call0_call0_c_8 : Ref sig .tc := ⟨.hbm, 102, rfl⟩
abbrev main_call0_call0_v38 : Ref sig .tc := ⟨.hbm, 103, rfl⟩
abbrev main_call0_call0_v39 : Ref sig .tc := ⟨.hbm, 104, rfl⟩
abbrev main_call0_call0_v40 : Ref sig .tc := ⟨.hbm, 105, rfl⟩
abbrev main_call0_call0_c_9 : Ref sig .tc := ⟨.hbm, 106, rfl⟩
abbrev main_call0_call0_v41 : Ref sig .tc := ⟨.hbm, 107, rfl⟩
abbrev main_call0_call0_v42 : Ref sig .tc := ⟨.hbm, 108, rfl⟩
abbrev main_call0_call0_c_10 : Ref sig .tc := ⟨.hbm, 109, rfl⟩
abbrev main_call0_call0_v43 : Ref sig .tc := ⟨.hbm, 110, rfl⟩
abbrev main_call0_call0_v44 : Ref sig .tc := ⟨.hbm, 111, rfl⟩
abbrev main_call0_call0_v45 : Ref sig .tc := ⟨.hbm, 112, rfl⟩
abbrev main_call0_call0_v46 : Ref sig .tc := ⟨.hbm, 113, rfl⟩
abbrev main_call0_call0_v47 : Ref sig .tc := ⟨.hbm, 114, rfl⟩
abbrev main_call0_call0_c_11 : Ref sig .tc := ⟨.hbm, 115, rfl⟩
abbrev main_call0_call0_v48 : Ref sig .tc := ⟨.hbm, 116, rfl⟩
abbrev main_call0_call0_v49 : Ref sig .tc := ⟨.hbm, 117, rfl⟩
abbrev main_call0_call0_c_12 : Ref sig .tc := ⟨.hbm, 118, rfl⟩
abbrev main_call0_call0_v50 : Ref sig .tc := ⟨.hbm, 119, rfl⟩
abbrev main_call0_call0_v51 : Ref sig .tc := ⟨.hbm, 120, rfl⟩
abbrev main_call0_call0_v52 : Ref sig .tc := ⟨.hbm, 121, rfl⟩
abbrev main_call0_call0_v53 : Ref sig .tc := ⟨.hbm, 122, rfl⟩
abbrev main_call0_call0_v54 : Ref sig .tc := ⟨.hbm, 123, rfl⟩
abbrev main_call0_call0_c_13 : Ref sig .tc := ⟨.hbm, 124, rfl⟩
abbrev main_call0_call0_v55 : Ref sig .tc := ⟨.hbm, 125, rfl⟩
abbrev main_call0_call0_v56 : Ref sig .tc := ⟨.hbm, 126, rfl⟩
abbrev main_call0_call0_c_14 : Ref sig .tc := ⟨.hbm, 127, rfl⟩
abbrev main_call0_call0_v57 : Ref sig .tc := ⟨.hbm, 128, rfl⟩
abbrev main_call0_call0_v58 : Ref sig .tc := ⟨.hbm, 129, rfl⟩
abbrev main_call0_call0_v59 : Ref sig .tc := ⟨.hbm, 130, rfl⟩
abbrev main_call0_call0_v60 : Ref sig .tc := ⟨.hbm, 131, rfl⟩
abbrev main_call0_call0_v61 : Ref sig .tc := ⟨.hbm, 132, rfl⟩
abbrev main_call0_call0_c_15 : Ref sig .tc := ⟨.hbm, 133, rfl⟩
abbrev main_call0_call0_v62 : Ref sig .tc := ⟨.hbm, 134, rfl⟩
abbrev main_call0_call0_v63 : Ref sig .tc := ⟨.hbm, 135, rfl⟩
abbrev main_call0_call0_c_16 : Ref sig .tc := ⟨.hbm, 136, rfl⟩
abbrev main_call0_call0_v64 : Ref sig .tc := ⟨.hbm, 137, rfl⟩
abbrev main_call0_call0_v65 : Ref sig .tc := ⟨.hbm, 138, rfl⟩
abbrev main_call0_call0_v66 : Ref sig .tc := ⟨.hbm, 139, rfl⟩
abbrev main_call0_call0_v67 : Ref sig .tc := ⟨.hbm, 140, rfl⟩
abbrev main_call0_call0_v68 : Ref sig .tc := ⟨.hbm, 141, rfl⟩
abbrev main_call0_call0_v69 : Ref sig .tc := ⟨.hbm, 142, rfl⟩
abbrev main_call0_call0_v70 : Ref sig .tc := ⟨.hbm, 143, rfl⟩
abbrev main_call0_call0_v71 : Ref sig .tc := ⟨.hbm, 144, rfl⟩
abbrev main_call0_call0_c_17 : Ref sig .tc := ⟨.hbm, 145, rfl⟩
abbrev main_call0_call0_v72 : Ref sig .tc := ⟨.hbm, 146, rfl⟩
abbrev main_call0_call0_v73 : Ref sig .tc := ⟨.hbm, 147, rfl⟩
abbrev main_call0_call0_v74 : Ref sig .tc := ⟨.hbm, 148, rfl⟩
abbrev main_call0_call0_c_18 : Ref sig .tc := ⟨.hbm, 149, rfl⟩
abbrev main_call0_call0_v75 : Ref sig .tc := ⟨.hbm, 150, rfl⟩
abbrev main_call0_call0_v76 : Ref sig .tc := ⟨.hbm, 151, rfl⟩
abbrev main_call0_call0_c_19 : Ref sig .tc := ⟨.hbm, 152, rfl⟩
abbrev main_call0_call0_v77 : Ref sig .tc := ⟨.hbm, 153, rfl⟩
abbrev main_call0_call0_v78 : Ref sig .tc := ⟨.hbm, 154, rfl⟩
abbrev main_call0_call0_v79 : Ref sig .tc := ⟨.hbm, 155, rfl⟩
abbrev main_call0_call0_v80 : Ref sig .tc := ⟨.hbm, 156, rfl⟩
abbrev main_call0_call0_v81 : Ref sig .tc := ⟨.hbm, 157, rfl⟩
abbrev main_call0_call0_c_20 : Ref sig .tc := ⟨.hbm, 158, rfl⟩
abbrev main_call0_call0_v82 : Ref sig .tc := ⟨.hbm, 159, rfl⟩
abbrev main_call0_call0_v83 : Ref sig .tc := ⟨.hbm, 160, rfl⟩
abbrev main_call0_call0_c_21 : Ref sig .tc := ⟨.hbm, 161, rfl⟩
abbrev main_call0_call0_v84 : Ref sig .tc := ⟨.hbm, 162, rfl⟩
abbrev main_call0_call0_v85 : Ref sig .tc := ⟨.hbm, 163, rfl⟩
abbrev main_call0_call0_v86 : Ref sig .tc := ⟨.hbm, 164, rfl⟩
abbrev main_call0_call0_v87 : Ref sig .tc := ⟨.hbm, 165, rfl⟩
abbrev main_call0_call0_v88 : Ref sig .tc := ⟨.hbm, 166, rfl⟩
abbrev main_call0_call0_c_22 : Ref sig .tc := ⟨.hbm, 167, rfl⟩
abbrev main_call0_call0_v89 : Ref sig .tc := ⟨.hbm, 168, rfl⟩
abbrev main_call0_call0_v90 : Ref sig .tc := ⟨.hbm, 169, rfl⟩
abbrev main_call0_call0_c_23 : Ref sig .tc := ⟨.hbm, 170, rfl⟩
abbrev main_call0_call0_v91 : Ref sig .tc := ⟨.hbm, 171, rfl⟩
abbrev main_call0_call0_v92 : Ref sig .tc := ⟨.hbm, 172, rfl⟩
abbrev main_call0_call0_v93 : Ref sig .tc := ⟨.hbm, 173, rfl⟩
abbrev main_call0_call0_v94 : Ref sig .tc := ⟨.hbm, 174, rfl⟩
abbrev main_call0_call0_v95 : Ref sig .tc := ⟨.hbm, 175, rfl⟩
abbrev main_call0_call0_c_24 : Ref sig .tc := ⟨.hbm, 176, rfl⟩
abbrev main_call0_call0_v96 : Ref sig .tc := ⟨.hbm, 177, rfl⟩
abbrev main_call0_call0_v97 : Ref sig .tc := ⟨.hbm, 178, rfl⟩
abbrev main_call0_call0_c_25 : Ref sig .tc := ⟨.hbm, 179, rfl⟩
abbrev main_call0_call0_v98 : Ref sig .tc := ⟨.hbm, 180, rfl⟩
abbrev main_call0_call0_v99 : Ref sig .tc := ⟨.hbm, 181, rfl⟩
abbrev main_call0_call0_v100 : Ref sig .tc := ⟨.hbm, 182, rfl⟩
abbrev main_call0_call0_v101 : Ref sig .tc := ⟨.hbm, 183, rfl⟩
abbrev main_call0_call0_v102 : Ref sig .tc := ⟨.hbm, 184, rfl⟩
abbrev main_call0_call0_v103 : Ref sig .tc := ⟨.hbm, 185, rfl⟩
abbrev main_call0_call0_v104 : Ref sig .tc := ⟨.hbm, 186, rfl⟩
abbrev main_call0_call0_v105 : Ref sig .tc := ⟨.hbm, 187, rfl⟩
abbrev main_call0_call0_c_26 : Ref sig .tc := ⟨.hbm, 188, rfl⟩
abbrev main_call0_call0_v106 : Ref sig .tc := ⟨.hbm, 189, rfl⟩
abbrev main_call0_call0_v107 : Ref sig .tc := ⟨.hbm, 190, rfl⟩
abbrev main_call0_call0_v108 : Ref sig .tc := ⟨.hbm, 191, rfl⟩
abbrev main_call0_call0_c_27 : Ref sig .tc := ⟨.hbm, 192, rfl⟩
abbrev main_call0_call0_v109 : Ref sig .tc := ⟨.hbm, 193, rfl⟩
abbrev main_call0_call0_v110 : Ref sig .tc := ⟨.hbm, 194, rfl⟩
abbrev main_call0_call0_c_28 : Ref sig .tc := ⟨.hbm, 195, rfl⟩
abbrev main_call0_call0_v111 : Ref sig .tc := ⟨.hbm, 196, rfl⟩
abbrev main_call0_call0_v112 : Ref sig .tc := ⟨.hbm, 197, rfl⟩
abbrev main_call0_call0_v113 : Ref sig .tc := ⟨.hbm, 198, rfl⟩
abbrev main_call0_call0_v114 : Ref sig .tc := ⟨.hbm, 199, rfl⟩
abbrev main_call0_call0_v115 : Ref sig .tc := ⟨.hbm, 200, rfl⟩
abbrev main_call0_call0_c_29 : Ref sig .tc := ⟨.hbm, 201, rfl⟩
abbrev main_call0_call0_v116 : Ref sig .tc := ⟨.hbm, 202, rfl⟩
abbrev main_call0_call0_v117 : Ref sig .tc := ⟨.hbm, 203, rfl⟩
abbrev main_call0_call0_c_30 : Ref sig .tc := ⟨.hbm, 204, rfl⟩
abbrev main_call0_call0_v118 : Ref sig .tc := ⟨.hbm, 205, rfl⟩
abbrev main_call0_call0_v119 : Ref sig .tc := ⟨.hbm, 206, rfl⟩
abbrev main_call0_call0_v120 : Ref sig .tc := ⟨.hbm, 207, rfl⟩
abbrev main_call0_call0_v121 : Ref sig .tc := ⟨.hbm, 208, rfl⟩
abbrev main_call0_call0_v122 : Ref sig .tc := ⟨.hbm, 209, rfl⟩
abbrev main_call0_call0_c_31 : Ref sig .tc := ⟨.hbm, 210, rfl⟩
abbrev main_call0_call0_v123 : Ref sig .tc := ⟨.hbm, 211, rfl⟩
abbrev main_call0_call0_v124 : Ref sig .tc := ⟨.hbm, 212, rfl⟩
abbrev main_call0_call0_c_32 : Ref sig .tc := ⟨.hbm, 213, rfl⟩
abbrev main_call0_call0_v125 : Ref sig .tc := ⟨.hbm, 214, rfl⟩
abbrev main_call0_call0_v126 : Ref sig .tc := ⟨.hbm, 215, rfl⟩
abbrev main_call0_call0_v127 : Ref sig .tc := ⟨.hbm, 216, rfl⟩
abbrev main_call0_call0_v128 : Ref sig .tc := ⟨.hbm, 217, rfl⟩
abbrev main_call0_call0_v129 : Ref sig .tc := ⟨.hbm, 218, rfl⟩
abbrev main_call0_call0_c_33 : Ref sig .tc := ⟨.hbm, 219, rfl⟩
abbrev main_call0_call0_v130 : Ref sig .tc := ⟨.hbm, 220, rfl⟩
abbrev main_call0_call0_v131 : Ref sig .tc := ⟨.hbm, 221, rfl⟩
abbrev main_call0_call0_c_34 : Ref sig .tc := ⟨.hbm, 222, rfl⟩
abbrev main_call0_call0_v132 : Ref sig .tc := ⟨.hbm, 223, rfl⟩
abbrev main_call0_call0_v133 : Ref sig .tc := ⟨.hbm, 224, rfl⟩
abbrev main_call0_call0_v134 : Ref sig .tc := ⟨.hbm, 225, rfl⟩
abbrev main_call0_call0_v135 : Ref sig .tc := ⟨.hbm, 226, rfl⟩
abbrev main_call0_call0_v136 : Ref sig .tc := ⟨.hbm, 227, rfl⟩
abbrev main_call0_call0_v137 : Ref sig .tc := ⟨.hbm, 228, rfl⟩
abbrev main_call0_call0_v138 : Ref sig .tc := ⟨.hbm, 229, rfl⟩
abbrev main_call0_call0_v139 : Ref sig .tc := ⟨.hbm, 230, rfl⟩
abbrev main_call0_call0_c_35 : Ref sig .tc := ⟨.hbm, 231, rfl⟩
abbrev main_call0_call0_v140 : Ref sig .tc := ⟨.hbm, 232, rfl⟩
abbrev main_call0_call0_v141 : Ref sig .tc := ⟨.hbm, 233, rfl⟩
abbrev main_call0_call0_v142 : Ref sig .tc := ⟨.hbm, 234, rfl⟩
abbrev main_call0_call0_c_36 : Ref sig .tc := ⟨.hbm, 235, rfl⟩
abbrev main_call0_call0_v143 : Ref sig .tc := ⟨.hbm, 236, rfl⟩
abbrev main_call0_call0_v144 : Ref sig .tc := ⟨.hbm, 237, rfl⟩
abbrev main_call0_call0_c_37 : Ref sig .tc := ⟨.hbm, 238, rfl⟩
abbrev main_call0_call0_v145 : Ref sig .tc := ⟨.hbm, 239, rfl⟩
abbrev main_call0_call0_v146 : Ref sig .tc := ⟨.hbm, 240, rfl⟩
abbrev main_call0_call0_v147 : Ref sig .tc := ⟨.hbm, 241, rfl⟩
abbrev main_call0_call0_v148 : Ref sig .tc := ⟨.hbm, 242, rfl⟩
abbrev main_call0_call0_v149 : Ref sig .tc := ⟨.hbm, 243, rfl⟩
abbrev main_call0_call0_c_38 : Ref sig .tc := ⟨.hbm, 244, rfl⟩
abbrev main_call0_call0_v150 : Ref sig .tc := ⟨.hbm, 245, rfl⟩
abbrev main_call0_call0_v151 : Ref sig .tc := ⟨.hbm, 246, rfl⟩
abbrev main_call0_call0_c_39 : Ref sig .tc := ⟨.hbm, 247, rfl⟩
abbrev main_call0_call0_v152 : Ref sig .tc := ⟨.hbm, 248, rfl⟩
abbrev main_call0_call0_v153 : Ref sig .tc := ⟨.hbm, 249, rfl⟩
abbrev main_call0_call0_v154 : Ref sig .tc := ⟨.hbm, 250, rfl⟩
abbrev main_call0_call0_v155 : Ref sig .tc := ⟨.hbm, 251, rfl⟩
abbrev main_call0_call0_v156 : Ref sig .tc := ⟨.hbm, 252, rfl⟩
abbrev main_call0_call0_c_40 : Ref sig .tc := ⟨.hbm, 253, rfl⟩
abbrev main_call0_call0_v157 : Ref sig .tc := ⟨.hbm, 254, rfl⟩
abbrev main_call0_call0_v158 : Ref sig .tc := ⟨.hbm, 255, rfl⟩
abbrev main_call0_call0_c_41 : Ref sig .tc := ⟨.hbm, 256, rfl⟩
abbrev main_call0_call0_v159 : Ref sig .tc := ⟨.hbm, 257, rfl⟩
abbrev main_call0_call0_v160 : Ref sig .tc := ⟨.hbm, 258, rfl⟩
abbrev main_call0_call0_v161 : Ref sig .tc := ⟨.hbm, 259, rfl⟩
abbrev main_call0_call0_v162 : Ref sig .tc := ⟨.hbm, 260, rfl⟩
abbrev main_call0_call0_v163 : Ref sig .tc := ⟨.hbm, 261, rfl⟩
abbrev main_call0_call0_c_42 : Ref sig .tc := ⟨.hbm, 262, rfl⟩
abbrev main_call0_call0_v164 : Ref sig .tc := ⟨.hbm, 263, rfl⟩
abbrev main_call0_call0_v165 : Ref sig .tc := ⟨.hbm, 264, rfl⟩
abbrev main_call0_call0_c_43 : Ref sig .tc := ⟨.hbm, 265, rfl⟩
abbrev main_call0_call0_v166 : Ref sig .tc := ⟨.hbm, 266, rfl⟩
abbrev main_call0_call0_v167 : Ref sig .tc := ⟨.hbm, 267, rfl⟩
abbrev main_call0_call0_v168 : Ref sig .tc := ⟨.hbm, 268, rfl⟩
abbrev main_call0_call0_v169 : Ref sig .tc := ⟨.hbm, 269, rfl⟩
abbrev main_call0_call0_v170 : Ref sig .tc := ⟨.hbm, 270, rfl⟩
abbrev main_call0_v19_0 : Ref sig .tc := ⟨.hbm, 271, rfl⟩
abbrev main_call0_call0_v172 : Ref sig .tc := ⟨.hbm, 272, rfl⟩
abbrev main_call0_call0_v173 : Ref sig .tc := ⟨.hbm, 273, rfl⟩
abbrev main_call0_call0_c_44 : Ref sig .tc := ⟨.hbm, 274, rfl⟩
abbrev main_call0_call0_v174 : Ref sig .tc := ⟨.hbm, 275, rfl⟩
abbrev main_call0_v19_1 : Ref sig .tc := ⟨.hbm, 276, rfl⟩
abbrev main_call0_v20 : Ref sig .tc := ⟨.hbm, 277, rfl⟩
abbrev main_call0_c_2 : Ref sig .tc := ⟨.hbm, 278, rfl⟩
abbrev main_call0_v21 : Ref sig .tc := ⟨.hbm, 279, rfl⟩
abbrev main_call0_v22 : Ref sig .tc := ⟨.hbm, 280, rfl⟩
abbrev main_call0_c_3 : Ref sig .tc := ⟨.hbm, 281, rfl⟩
abbrev main_call0_v23 : Ref sig .tc := ⟨.hbm, 282, rfl⟩
abbrev main_call0_v24 : Ref sig .tc := ⟨.hbm, 283, rfl⟩
abbrev main_call0_v25 : Ref sig .tc := ⟨.hbm, 284, rfl⟩
abbrev main_call0_cst : Ref sig .tc := ⟨.hbm, 285, rfl⟩
abbrev main_call0_v26 : Ref sig .tc := ⟨.hbm, 286, rfl⟩
abbrev main_call0_v27 : Ref sig .tc := ⟨.hbm, 287, rfl⟩
abbrev main_call0_v28 : Ref sig .tc := ⟨.hbm, 288, rfl⟩
abbrev main_call0_v29 : Ref sig .tc := ⟨.hbm, 289, rfl⟩
abbrev main_call0_v30 : Ref sig .tc := ⟨.hbm, 290, rfl⟩
abbrev main_call0_v31 : Ref sig .tc := ⟨.hbm, 291, rfl⟩
abbrev main_call0_v32 : Ref sig .tc := ⟨.hbm, 292, rfl⟩
abbrev main_call0_v33 : Ref sig .tc := ⟨.hbm, 293, rfl⟩
abbrev main_v22 : Ref sig .tc := ⟨.hbm, 294, rfl⟩
abbrev main_cst_6 : Ref sig .tc := ⟨.hbm, 295, rfl⟩
abbrev main_v23 : Ref sig .tc := ⟨.hbm, 296, rfl⟩
abbrev main_v24 : Ref sig .tc := ⟨.hbm, 297, rfl⟩
abbrev main_v25 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩
abbrev main_cst_7 : Ref sig .tc := ⟨.hbm, 302, rfl⟩
abbrev main_v29 : Ref sig .tc := ⟨.hbm, 303, rfl⟩
abbrev main_v30 : Ref sig .tc := ⟨.hbm, 304, rfl⟩
abbrev main_v31 : Ref sig .tc := ⟨.hbm, 305, rfl⟩
abbrev main_v32 : Ref sig .tc := ⟨.hbm, 306, rfl⟩
abbrev main_call1_v0 : Ref sig .tc := ⟨.hbm, 307, rfl⟩
abbrev main_call1_cst : Ref sig .tc := ⟨.hbm, 308, rfl⟩
abbrev main_call1_c : Ref sig .tc := ⟨.hbm, 309, rfl⟩
abbrev main_call1_v1_0 : Ref sig .tc := ⟨.hbm, 310, rfl⟩
abbrev main_v33 : Ref sig .tc := ⟨.hbm, 311, rfl⟩
abbrev main_v34 : Ref sig .tc := ⟨.hbm, 312, rfl⟩

abbrev nD : Nat := 1
abbrev τ : Topo := Topo.v7x

variable {F : FTy → Type} [FloatOps F]
-- ==== Proof.KernelIdealStats.lean ====
/-
  The first region (the softmax row sums, four chunks of the vocabulary): its proof data, relational because a chunk's staging
  buffer holds unknown words past the end of the array, and the body's triple.
-/
module

public import proofs.«01_k».proof.Proof.Gen.KernelIdeal.Skeleton
public import proofs.«01_k».proof.Proof.Gen.KernelIdeal.Points
public import proofs.«01_k».proof.Proof.Gen.KernelIdeal.Regions
public import Idealize.ShloMosaic.Lib.Exec
public import Idealize.ShloMosaic.Lib.Tactic
public import Idealize.ShloMosaic.Lib.Pipeline.FrameBody
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

/-- The user algebra: one copy of the pipelines' rounds algebra per region. -/
abbrev UU : Type := IProdConst (Fin 2) (URounds (GSem nD τ sig) Unit) × UR sig nD τ

local notation "𝕄" => MT nD τ sig Unit (Elt F) ℕ UU ℕ

/-- What one grid point of the first region does to the running row sums `Y`, given the blocks it finds. -/
def stat0 (t : Fin cfg0.N) (v3 : Vec F S128x64 .f32) (v4 : Vec F S64x25088 .f32) (v6 : Vec F S1x25088 .f32)
    (Y : Vec F S128x1 .f32) : Vec F S128x1 .f32 :=
  let z := if k0_cond1 (grid0.coords t) = 1#1 then k0_pay1 else Y
  let a := if k0_cond2 (grid0.coords t) = 1#1 then k0_pay3 v3 v4 v6 z else z
  if k0_cond3 (grid0.coords t) = 1#1 then k0_pay4 (grid0.coords t) v3 v4 v6 a else a

/-- The first region's arrays on entry. -/
abbrev Arr0 (c : Dev nD) : Type := (w : Fin cfg0.W) → Buf (Elt F) ((cfg0.win w).arr.view.loc (c.tc : Thread nD τ))

/-- What a fetch of window `w` at point `t` leaves in a buffer that held `d`. -/
abbrev fet0 {c : Dev nD} (A : Arr0 (F := F) c) (w : Fin cfg0.W) (t : Fin cfg0.N)
    (d : (cfg0.win w).block.Idx → Elt F (cfg0.win w).elt) : (cfg0.win w).block.Idx → Elt F (cfg0.win w).elt :=
  (cfg0.win w).fill (cfg0.grid.coords t) d (((cfg0.win w).blk t).view.read (Elt F) (A w))

/-- The running row sums before point `n`: anything at first, then one step from what was there, whatever the buffers'
    words past the end of the arrays. -/
def SumR {c : Dev nD} (A : Arr0 (F := F) c) : ℕ → Vec F S128x1 .f32 → Prop
  | 0 => fun _ => True
  | n + 1 => fun X => ∃ (h : n < cfg0.N) (d0 : Vec F S128x64 .f32) (d1 : Vec F S64x25088 .f32) (d2 : Vec F S1x25088 .f32) (Y : Vec F S128x1 .f32),
      SumR A n Y ∧ X = stat0 ⟨n, h⟩ (fet0 A 0 ⟨n, h⟩ d0) (fet0 A 1 ⟨n, h⟩ d1) (fet0 A 2 ⟨n, h⟩ d2) Y

/-- The first region's proof data on core `c`, entered at the valuation `V`. -/
def rd0 (V : Valuation τ sig (Elt F)) (c : Dev nD) : RDat τ (Elt F) Unit ℕ UU ℕ cfg0 c where
  A w := V (Pipeline.arrRef spec0 w)
  after w t Y X := match w with
    | ⟨0, _⟩ => X = Y
    | ⟨1, _⟩ => X = Y
    | ⟨2, _⟩ => X = Y
    | ⟨3, _⟩ => SumR (c := c) (fun w => V (Pipeline.arrRef spec0 w)) (t.val + 1) X
  Φ _ := Pipeline.scopedRest spec0 c
  q _ := fullShare
  owed _ := 0

theorem defs₀_row0 (t : Fin cfg0.N) : defs₀ (F := F) .tc cfg0.body (cfg0.bodyArgs t (cfg0.slots t)) = bodyAt0 t := by
  unfold defs₀; rw [Defs.onTc_tc]

/-- The body at a point, from its four buffers: the inputs come back as they were, the running sums one step on. -/
theorem kernelRun0 (c : Dev nD) (t : Fin cfg0.N) (arg1 : Memref sig .tc .vmem S128x64 .f32) (harg1 : arg1.IsWhole)
    (arg2 : Memref sig .tc .vmem S64x25088 .f32) (harg2 : arg2.IsWhole) (arg3 : Memref sig .tc .vmem S1x25088 .f32) (harg3 : arg3.IsWhole)
    (arg4 : Memref sig .tc .vmem S128x1 .f32) (harg4 : arg4.IsWhole)
    (v3 : Vec F S128x64 .f32) (v4 : Vec F S64x25088 .f32) (v6 : Vec F S1x25088 .f32) (Y : Vec F S128x1 .f32) (K : PUnit → sProp 𝕄) :
    iprop(owns (c : Thread nD τ) arg1 fullShare v3 ∗ owns (c : Thread nD τ) arg2 fullShare v4 ∗ owns (c : Thread nD τ) arg3 fullShare v6
        ∗ owns (c : Thread nD τ) arg4 fullShare Y
        ∗ (iprop(owns (c : Thread nD τ) arg1 fullShare v3 ∗ owns (c : Thread nD τ) arg2 fullShare v4 ∗ owns (c : Thread nD τ) arg3 fullShare v6
            ∗ owns (c : Thread nD τ) arg4 fullShare (stat0 t v3 v4 v6 Y)) -∗ K ⟨⟩))
      ⊢ wp frame (wpE (defs₀ (F := F)) Variants.none c none) Set.univ
          (cc0__stats_body (grid0.coords t) arg1 harg1 arg2 harg2 arg3 harg3 arg4 harg4) K := by
  simp only [cc0__stats_body_eq_skeleton]; unfold cc0__stats_body_skel
  unfold owns
  iintro ⟨⟨%f1, %h1, H1⟩, ⟨%f2, %h2, H2⟩, ⟨%f3, %h3, H3⟩, ⟨%f4, %h4, H4⟩, Hk⟩
  subst h1 h2 h3 h4
  unfold stat0
  by_cases c1 : k0_cond1 (grid0.coords t) = 1#1 <;> by_cases c2 : k0_cond2 (grid0.coords t) = 1#1 <;>
    by_cases c3 : k0_cond3 (grid0.coords t) = 1#1
  all_goals
    sl_exec (disch := assumption)
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    iexists _; isplitr; swap; · iexact H4
    ipureintro
    sl_unfold_words
    try rw [View.read_writes_full]
    repeat rw [View.readCov_full]
    repeat rw [View.readAt_full]
    simp only [c1, c2, c3, if_true, if_false]

/-- What the body finds of an input window is a fetch of it; of the running sums, what the chain of steps allows. -/
theorem finds0_in (V : Valuation τ sig (Elt F)) (c : Dev nD) (t : Fin cfg0.N) (Y : (w : Fin cfg0.W) → (cfg0.win w).block.Idx → Elt F (cfg0.win w).elt)
    (h : ∀ w, (rd0 V c).Finds w t (Y w)) :
    (∃ d, Y 0 = fet0 (c := c) (fun w => V (Pipeline.arrRef spec0 w)) 0 t d)
    ∧ (∃ d, Y 1 = fet0 (c := c) (fun w => V (Pipeline.arrRef spec0 w)) 1 t d)
    ∧ (∃ d, Y 2 = fet0 (c := c) (fun w => V (Pipeline.arrRef spec0 w)) 2 t d)
    ∧ SumR (c := c) (fun w => V (Pipeline.arrRef spec0 w)) t.val (Y 3) := by
  refine ⟨?_, ?_, ?_, ?_⟩
  · exact RDat.finds_in_eq_fetched (rd0 V c) 0 rfl (fun _ _ _ => rfl) (fun _ _ _ h => h) t _ (h 0)
  · exact ((rd0 V c).finds_of_fetch (fetch0_1 t) _).mp (h 1)
  · exact ((rd0 V c).finds_of_fetch (fetch0_2 t) _).mp (h 2)
  · have hf : (cfg0.win 3).fetch t = false := rfl
    by_cases ht : t.val = 0
    · rw [ht]; trivial
    · rcases ((rd0 V c).finds_of_pos hf ht _).mp (h 3) with hfl | ⟨Y', -, hR⟩
      · have := (flush0_3 _).mp hfl
        have h4 : t.val < 4 := lt_of_lt_of_eq t.isLt N_0
        simp only at this
        omega
      · have e : t.val - 1 + 1 = t.val := by omega
        have hR' : SumR (c := c) (fun w => V (Pipeline.arrRef spec0 w)) (t.val - 1 + 1) (Y 3) := hR
        rwa [e] at hR'

/-- The first region's body obligation. -/
theorem body0 (V : Valuation τ sig (Elt F)) (c : Dev nD) :
    (rd0 V c).BodyObligation (defs₀ (F := F)) Variants.none () Set.univ := by
  intro t Y hY
  obtain ⟨⟨d0, h0⟩, ⟨d1, h1⟩, ⟨d2, h2⟩, hS⟩ := finds0_in V c t Y hY
  rw [defs₀_row0, bigSep_W0, bigSep_W0]
  unfold bodyAt0
  iintro ⟨HP, HO, H0, H1, H2, H3⟩
  iapply (kernelRun0 c t _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, H3⟩
  rw [show (rd0 V c).Φ t.succ = (rd0 V c).Φ t.castSucc from rfl, show (rd0 V c).owesAt () t.succ = (rd0 V c).owesAt () t.castSucc from rfl]
  isplitl [HP]; · iexact HP
  isplitl [HO]; · iexact HO
  isplitl [H0]
  · iexists _; isplitr; swap; · iexact H0
    ipureintro; exact (rfl : Y 0 = Y 0)
  isplitl [H1]
  · iexists _; isplitr; swap; · iexact H1
    ipureintro; exact (rfl : Y 1 = Y 1)
  isplitl [H2]
  · iexists _; isplitr; swap; · iexact H2
    ipureintro; exact (rfl : Y 2 = Y 2)
  iexists _; isplitr; swap; · iexact H3
  ipureintro
  exact ⟨t.isLt, d0, d1, d2, Y 3, hS, by rw [h0, h1, h2]⟩

end Cert.KernelIdeal.Hand

end
-- ==== Proof.KernelIdealStep.lean ====
/-
  The second region (probabilities and running argmax, ten chunks of the vocabulary): what one grid point does, and the body's run.
-/
module

public import proofs.«01_k».proof.Proof.KernelIdealStats

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UU ℕ

/-- The random words one trip of the inner loop computes, from the word `v20` the chunk starts at and the row table `v63`. -/
def hashPay (v20 : BitVec 32) (k : Fin k1_t1_loop.trips) (v63 : Vec F S32x2048 .i32) : IVec S32x2048 32 :=
  let v104 := k1_pay18 (F := F) v20 0#32 1#32 k v63
  let v105 := k1_pay19 (F := F) v20 0#32 1#32 k v63
  let v146 := k1_pay29 v104 v105
  let v148 := k1_pay30 v104 v105
  let v150 := k1_pay31 v104 v105
  k1_pay65 (k1_pay45 (k1_pay42 v146 v148 v150) (k1_pay43 v146 v148 v150) (k1_pay44 v146 v148 v150))

theorem trips_eq : k1_t1_loop.trips = 5 := by decide +kernel

/-- The trip that fills column `y 1`. -/
def tripOf (y : S32x10240.Idx) : Fin k1_t1_loop.trips :=
  ⟨(y 1).val / 2048, by rw [trips_eq]; have : (y 1).val < 10240 := (y 1).isLt; omega⟩

/-- The position of column `y 1` within its trip's block. -/
def inTrip (y : S32x10240.Idx) : S32x2048.Idx :=
  fun a => ⟨(![(y 0).val, (y 1).val % 2048] : Fin 2 → ℕ) a, by
    revert a; exact Fin.forall_fin_two.mpr ⟨(y 0).isLt, Nat.mod_lt _ (by decide)⟩⟩

/-- The random words of a whole chunk, rows below 32. -/
def bitsOf (v20 : BitVec 32) (v63 : Vec F S32x2048 .i32) : Vec F S32x10240 .i32 :=
  fun y => hashPay (F := F) v20 (tripOf y) v63 (inTrip y)

/-- The random words, of the columns the first `k` trips fill. -/
def Filled (v20 : BitVec 32) (v63 : Vec F S32x2048 .i32) (k : ℕ) (X : Vec F S32x10240 .i32) : Prop :=
  ∀ y : S32x10240.Idx, (y 1).val < 2048 * k → X y = bitsOf v20 v63 y

/-- Decided classically: the run only ever decides it before the first trip, where nothing is asked. -/
instance (v20 : BitVec 32) (v63 : Vec F S32x2048 .i32) (k : ℕ) (X : Vec F S32x10240 .i32) : Decidable (Filled v20 v63 k X) :=
  Classical.propDecidable _

theorem filled_put (v20 : BitVec 32) (v63 : Vec F S32x2048 .i32) (k : Fin k1_t1_loop.trips) (X : Vec F S32x10240 .i32)
    (h : Filled v20 v63 k.val X) :
    Filled v20 v63 (k.val + 1) (VecWindow.put (s := S32x10240) X ![0, 2048 * k.val] S32x2048.size (hashPay (F := F) v20 k v63)) := by
  intro y hy
  have h0 : (y 0).val < 32 := (y 0).isLt
  unfold VecWindow.put
  by_cases hm : 2048 * k.val ≤ (y 1).val
  · have hall : ∀ a, (![0, 2048 * k.val] : Fin 2 → ℕ) a ≤ (y a).val ∧ (y a).val < (![0, 2048 * k.val] : Fin 2 → ℕ) a + S32x2048.size a :=
      Fin.forall_fin_two.mpr ⟨⟨Nat.zero_le _, show (y 0).val < 0 + 32 by omega⟩, ⟨hm, show (y 1).val < 2048 * k.val + 2048 by omega⟩⟩
    rw [dif_pos hall]
    have hk : tripOf y = k := Fin.ext (by show (y 1).val / 2048 = k.val; omega)
    unfold bitsOf
    rw [hk]
    congr 1
    funext a
    revert a
    refine Fin.forall_fin_two.mpr ⟨Fin.ext ?_, Fin.ext ?_⟩
    · show (y 0).val - 0 = (y 0).val; omega
    · show (y 1).val - 2048 * k.val = (y 1).val % 2048; omega
  · rw [dif_neg (fun hall => hm (hall 1).1)]
    exact h y (by omega)

/-- ONE TRIP of the inner loop: the row table stays, one more block of columns is filled. -/
theorem trip1 (c : Dev nD) (i : grid1.Coords) (arg1 : Memref sig .tc .vmem S128x64 .f32) (harg1 : arg1.IsWhole) (arg2 : Memref sig .tc .vmem S64x10240 .f32) (harg2 : arg2.IsWhole) (arg3 : Memref sig .tc .vmem S1x10240 .f32) (harg3 : arg3.IsWhole) (arg4 : Memref sig .tc .vmem S96x10240 .i32) (harg4 : arg4.IsWhole) (arg5 : Memref sig .tc .vmem S128x1 .f32) (harg5 : arg5.IsWhole) (arg6 : Memref sig .tc .vmem S128x10240 .f32) (harg6 : arg6.IsWhole) (arg7 : Memref sig .tc .vmem S128x1 .i32) (harg7 : arg7.IsWhole) (arg8 : Memref sig .tc .vmem S128x1 .f32) (harg8 : arg8.IsWhole) (arg9 : Memref sig .tc .vmem S128x1 .i32) (harg9 : arg9.IsWhole) (arg10 : Memref sig .tc .vmem S32x2048 .i32) (harg10 : arg10.IsWhole) (arg11 : Memref sig .tc .vmem S128x10240 .i32) (harg11 : arg11.IsWhole) (arg12 : Memref sig .tc .vmem S32x10240 .i32) (harg12 : arg12.IsWhole) (v20 : BitVec 32)
    (X : BufTy.Contents (Elt F) arg10.view.ty) (f : BufTy.Contents (Elt F) arg12.view.ty) (k : Fin k1_t1_loop.trips) (E : Set ℕ)
    (hf' : k.val = 0 ∨ Filled v20 (arg10.view.read (Elt F) X) k.val (arg12.view.read (Elt F) f)) :
    iprop((arg10.view.loc (c : Thread nD τ) ↦[arg10.view.set]{fullShare} X) ∗ (arg12.view.loc (c : Thread nD τ) ↦[arg12.view.set]{fullShare} f))
      ⊢ (wp frame (wpE (defs₀ (F := F)) Variants.none (c : Thread nD τ) none) E
          (k1_t1_body (F := F) i arg1 harg1 arg2 harg2 arg3 harg3 arg4 harg4 arg5 harg5 arg6 harg6 arg7 harg7 arg8 harg8 arg9 harg9 arg10 harg10 arg11 harg11 arg12 harg12 v20 k PUnit.unit)
          (fun _ => iprop((arg10.view.loc (c : Thread nD τ) ↦[arg10.view.set]{fullShare} X)
            ∗ (∃ f, (arg12.view.loc (c : Thread nD τ) ↦[arg12.view.set]{fullShare} f)
                ∗ ⌜k.val + 1 = 0 ∨ Filled v20 (arg10.view.read (Elt F) X) (k.val + 1) (arg12.view.read (Elt F) f)⌝))) : sProp 𝕄) := by
  have hk : k.val < 5 := Nat.lt_of_lt_of_le k.isLt k1_t1_abs.2.1
  have hf : Filled v20 (arg10.view.read (Elt F) X) k.val (arg12.view.read (Elt F) f) := by
    rcases hf' with h | h
    · intro y hy; omega
    · exact h
  unfold k1_t1_body
  iintro ⟨HR, HW⟩
  sl_exec
  sl_step
  isplitl [HR]; · iexact HR
  iexists _; isplitl [HW]; · iexact HW
  ipureintro
  rw [View.read_writes_cons_put _ _ _ _ _ (k1_off1_eq k), View.writes_nil]
  rw [← View.readAt_full arg10.view X inb_S32x2048_S32x2048_0_0] at hf ⊢
  exact .inr (filled_put v20 _ k _ hf)

set_option warn.classDefReducibility false in
/-- The inner loop by its invariant: before trip `k` the first `k` blocks of columns are filled. -/
@[sl_loop] def loop1 (c : Dev nD) (i : grid1.Coords) (arg1 : Memref sig .tc .vmem S128x64 .f32) (harg1 : arg1.IsWhole) (arg2 : Memref sig .tc .vmem S64x10240 .f32) (harg2 : arg2.IsWhole) (arg3 : Memref sig .tc .vmem S1x10240 .f32) (harg3 : arg3.IsWhole) (arg4 : Memref sig .tc .vmem S96x10240 .i32) (harg4 : arg4.IsWhole) (arg5 : Memref sig .tc .vmem S128x1 .f32) (harg5 : arg5.IsWhole) (arg6 : Memref sig .tc .vmem S128x10240 .f32) (harg6 : arg6.IsWhole) (arg7 : Memref sig .tc .vmem S128x1 .i32) (harg7 : arg7.IsWhole) (arg8 : Memref sig .tc .vmem S128x1 .f32) (harg8 : arg8.IsWhole) (arg9 : Memref sig .tc .vmem S128x1 .i32) (harg9 : arg9.IsWhole) (arg10 : Memref sig .tc .vmem S32x2048 .i32) (harg10 : arg10.IsWhole) (arg11 : Memref sig .tc .vmem S128x10240 .i32) (harg11 : arg11.IsWhole) (arg12 : Memref sig .tc .vmem S32x10240 .i32) (harg12 : arg12.IsWhole) (v20 : BitVec 32)
    (X : BufTy.Contents (Elt F) arg10.view.ty) :
    Idealize.ShloMosaic.LoopInv (M := 𝕄) Idealize.ShloMosaic.frame (wpE (defs₀ (F := F)) Variants.none (c : Thread nD τ) none) Set.univ
      k1_t1_loop.lb k1_t1_loop.ub k1_t1_loop.st k1_t1_ok () (k1_t1_body (F := F) i arg1 harg1 arg2 harg2 arg3 harg3 arg4 harg4 arg5 harg5 arg6 harg6 arg7 harg7 arg8 harg8 arg9 harg9 arg10 harg10 arg11 harg11 arg12 harg12 v20) where
  inv k _ := iprop((arg10.view.loc (c : Thread nD τ) ↦[arg10.view.set]{fullShare} X)
      ∗ (∃ f, (arg12.view.loc (c : Thread nD τ) ↦[arg12.view.set]{fullShare} f)
          ∗ ⌜k = 0 ∨ Filled v20 (arg10.view.read (Elt F) X) k (arg12.view.read (Elt F) f)⌝))
  step k acc := by
    iintro ⟨HR, ⟨%f, HW, %hf⟩⟩
    iapply (trip1 c i arg1 harg1 arg2 harg2 arg3 harg3 arg4 harg4 arg5 harg5 arg6 harg6 arg7 harg7 arg8 harg8 arg9 harg9 arg10 harg10 arg11 harg11 arg12 harg12 v20 X f k Set.univ hf)
    isplitl [HR]; · iexact HR
    iexact HW

/-- Scores of the rows below 32 and of the rows from 32 on, and the running best value and its index, one grid point on:
    the running pair starts anew at the first point, and the last point leaves out the columns past the end. -/
def step1 (i : grid1.Coords) (v3 : Vec F S128x64 .f32) (v4 : Vec F S64x10240 .f32) (v6 : Vec F S1x10240 .f32) (v42 : Vec F S96x10240 .i32)
    (v13 : Vec F S128x1 .f32) (p : Vec F S128x1 .f32 × Vec F S128x1 .i32) : Vec F S128x1 .f32 × Vec F S128x1 .i32 :=
  let arg0 : BitVec 32 := BitVec.ofNat 32 (i 0).val
  let v11 : BitVec 32 := Scalar.subi 100000#32 (Scalar.muli arg0 10240#32)
  let v38 := k1_pay1 (k1_pay66 v3 v4 v6 v13) (k1_pay67 (F := F) (bitsOf (F := F) (Scalar.muli arg0 10240#32) k1_pay62))
  let v56 := k1_pay2 (k1_pay64 v3 v4 v6 v13) v42
  let bv := if arg0 = 0#32 then k1_pay60 else p.1
  let bi := if arg0 = 0#32 then k1_pay61 else p.2
  let il : Vec F S128x10240 .i32 := k1_pay63
  let ila := VecWindow.window (s := S128x10240) il ![0, 0] S32x10240.size inb_S128x10240_S32x10240_0_0
  let ilb := VecWindow.window (s := S128x10240) il ![32, 0] S96x10240.size inb_S128x10240_S96x10240_32_0
  let bva := VecWindow.window (s := S128x1) bv ![0, 0] S32x1.size inb_S128x1_S32x1_0_0
  let bvb := VecWindow.window (s := S128x1) bv ![32, 0] S96x1.size inb_S128x1_S96x1_32_0
  let bia := VecWindow.window (s := S128x1) bi ![0, 0] S32x1.size inb_S128x1_S32x1_0_0
  let bib := VecWindow.window (s := S128x1) bi ![32, 0] S96x1.size inb_S128x1_S96x1_32_0
  if k1_cond3 i = 1#1 then
    (VecWindow.put (s := S128x1) (VecWindow.put (s := S128x1) bv ![0, 0] S32x1.size (k1_pay56 (F := F) v11 v38 il bva bva)) ![32, 0] S96x1.size
        (k1_pay8 (F := F) (k1_pay59 (F := F) v11 v56 il) bvb bvb),
      VecWindow.put (s := S128x1) (VecWindow.put (s := S128x1) bi ![0, 0] S32x1.size (k1_pay57 (F := F) arg0 v11 v38 il ila bva bia)) ![32, 0] S96x1.size
        (k1_pay9 (F := F) arg0 (k1_pay58 (F := F) v11 v56 il) ilb (k1_pay59 (F := F) v11 v56 il) bvb bib))
  else
    (VecWindow.put (s := S128x1) (VecWindow.put (s := S128x1) bv ![0, 0] S32x1.size (k1_pay48 (F := F) v38 bva bva)) ![32, 0] S96x1.size
        (k1_pay4 (F := F) (k1_pay50 (F := F) v56) bvb bvb),
      VecWindow.put (s := S128x1) (VecWindow.put (s := S128x1) bi ![0, 0] S32x1.size (k1_pay49 (F := F) arg0 v38 ila bva bia)) ![32, 0] S96x1.size
        (k1_pay5 (F := F) (k1_pay50 (F := F) v56) (k1_pay51 (F := F) arg0 v56 ilb) bvb bib))

/-- Whether the point is the first one, as the body computes it. -/
abbrev c1first (i : grid1.Coords) : Prop := Scalar.cmpi .ne (Scalar.extui (Scalar.cmpi .eq (BitVec.ofNat 32 (i 0).val) 0#32)) 0#32 = 1#1
/-- Whether the point is before the last one, as the body computes it. -/
abbrev c1mid (i : grid1.Coords) : Prop := Scalar.cmpi .ne (Scalar.extui (Scalar.cmpi .slt (BitVec.ofNat 32 (i 0).val) 9#32)) 0#32 = 1#1

/-- The three kinds of points of the second region. -/
theorem cases1 : ∀ t : Fin grid1.N,
    (c1first (grid1.coords t) ∧ c1mid (grid1.coords t) ∧ ¬ k1_cond3 (grid1.coords t) = 1#1 ∧ BitVec.ofNat 32 (grid1.coords t 0).val = 0#32 ∧ t.val = 0)
    ∨ (¬ c1first (grid1.coords t) ∧ c1mid (grid1.coords t) ∧ ¬ k1_cond3 (grid1.coords t) = 1#1 ∧ ¬ BitVec.ofNat 32 (grid1.coords t 0).val = 0#32 ∧ t.val ≠ 9)
    ∨ (¬ c1first (grid1.coords t) ∧ ¬ c1mid (grid1.coords t) ∧ k1_cond3 (grid1.coords t) = 1#1 ∧ ¬ BitVec.ofNat 32 (grid1.coords t 0).val = 0#32 ∧ t.val = 9) := by
  decide +kernel

/-- Two windows that cover a column leave nothing of what was there. -/
theorem put_cover {α : Type} (x x' : S128x1.Idx → α) (a : ((a : Fin S128x1.rank) → Fin (S32x1.size a)) → α) (b : ((a : Fin S128x1.rank) → Fin (S96x1.size a)) → α) :
    VecWindow.put (s := S128x1) (VecWindow.put (s := S128x1) x ![0, 0] S32x1.size a) ![32, 0] S96x1.size b
      = VecWindow.put (s := S128x1) (VecWindow.put (s := S128x1) x' ![0, 0] S32x1.size a) ![32, 0] S96x1.size b := by
  funext y
  have h0 : (y 0).val < 128 := (y 0).isLt
  have h1 : (y 1).val < 1 := (y 1).isLt
  unfold VecWindow.put
  by_cases hm : ∀ q, (![32, 0] : Fin 2 → ℕ) q ≤ (y q).val ∧ (y q).val < (![32, 0] : Fin 2 → ℕ) q + S96x1.size q
  · rw [dif_pos hm, dif_pos hm]
  · rw [dif_neg hm, dif_neg hm]
    have hlt : (y 0).val < 32 := by
      by_contra hge
      exact hm (Fin.forall_fin_two.mpr ⟨⟨by show 32 ≤ (y 0).val; omega, by show (y 0).val < 32 + 96; omega⟩, ⟨Nat.zero_le _, by show (y 1).val < 0 + 1; omega⟩⟩)
    have hn : ∀ q, (![0, 0] : Fin 2 → ℕ) q ≤ (y q).val ∧ (y q).val < (![0, 0] : Fin 2 → ℕ) q + S32x1.size q :=
      Fin.forall_fin_two.mpr ⟨⟨Nat.zero_le _, by show (y 0).val < 0 + 32; omega⟩, ⟨Nat.zero_le _, by show (y 1).val < 0 + 1; omega⟩⟩
    rw [dif_pos hn, dif_pos hn]

/-- A load of the rows below 32, after a store of everything. -/
theorem ld_lo {sp : Space} {e : EltTy} (v : View sig .tc sp S128x1 e) (f : v.ty.Contents (Elt F)) (w : S128x1.Idx → Elt F e) :
    v.readAt (Elt F) (Rect.unit (s := S128x1) ![0, 0] S32x1.size inb_S128x1_S32x1_0_0).toLoadRect
        (v.writes (Elt F) f [⟨Rect.unit (s := S128x1) ![0, 0] S128x1.size inb_S128x1_S128x1_0_0, w⟩])
      = VecWindow.window (s := S128x1) w ![0, 0] S32x1.size inb_S128x1_S32x1_0_0 := by
  rw [View.readAt_unit v _ inb_S128x1_S32x1_0_0 rfl inb_S128x1_S32x1_0_0, View.read_writes_full]

/-- A load of the rows from 32 on, after a store of everything and then one of the rows below 32. -/
theorem ld_hi {sp : Space} {e : EltTy} (v : View sig .tc sp S128x1 e) (f : v.ty.Contents (Elt F)) (w : S128x1.Idx → Elt F e)
    (a : (Rect.unit (s := S128x1) ![0, 0] S32x1.size inb_S128x1_S32x1_0_0).shape.Idx → Elt F e) :
    v.readAt (Elt F) (Rect.unit (s := S128x1) ![32, 0] S96x1.size inb_S128x1_S96x1_32_0).toLoadRect
        (v.writes (Elt F) f [⟨Rect.unit (s := S128x1) ![0, 0] S32x1.size inb_S128x1_S32x1_0_0, a⟩,
          ⟨Rect.unit (s := S128x1) ![0, 0] S128x1.size inb_S128x1_S128x1_0_0, w⟩])
      = VecWindow.window (s := S128x1) w ![32, 0] S96x1.size inb_S128x1_S96x1_32_0 := by
  rw [View.readAt_unit v _ inb_S128x1_S96x1_32_0 rfl inb_S128x1_S96x1_32_0, View.read_writes_cons_put _ _ _ _ _ rfl, View.read_writes_full]
  exact VecWindow.window_put_of_disjoint (s := S128x1) w ![0, 0] S32x1.size ![32, 0] S96x1.size inb_S128x1_S96x1_32_0 a 0
    (.inr (by show 0 + 32 ≤ 32; omega))

/-- The same of the column table's rows below 32, -/
theorem ld_il_lo {sp : Space} {e : EltTy} (v : View sig .tc sp S128x10240 e) (f : v.ty.Contents (Elt F)) (w : S128x10240.Idx → Elt F e) :
    v.readAt (Elt F) (Rect.unit (s := S128x10240) ![0, 0] S32x10240.size inb_S128x10240_S32x10240_0_0).toLoadRect
        (v.writes (Elt F) f [⟨Rect.unit (s := S128x10240) ![0, 0] S128x10240.size inb_S128x10240_S128x10240_0_0, w⟩])
      = VecWindow.window (s := S128x10240) w ![0, 0] S32x10240.size inb_S128x10240_S32x10240_0_0 := by
  rw [View.readAt_unit v _ inb_S128x10240_S32x10240_0_0 rfl inb_S128x10240_S32x10240_0_0, View.read_writes_full]

/-- and of its rows from 32 on. -/
theorem ld_il_hi {sp : Space} {e : EltTy} (v : View sig .tc sp S128x10240 e) (f : v.ty.Contents (Elt F)) (w : S128x10240.Idx → Elt F e) :
    v.readAt (Elt F) (Rect.unit (s := S128x10240) ![32, 0] S96x10240.size inb_S128x10240_S96x10240_32_0).toLoadRect
        (v.writes (Elt F) f [⟨Rect.unit (s := S128x10240) ![0, 0] S128x10240.size inb_S128x10240_S128x10240_0_0, w⟩])
      = VecWindow.window (s := S128x10240) w ![32, 0] S96x10240.size inb_S128x10240_S96x10240_32_0 := by
  rw [View.readAt_unit v _ inb_S128x10240_S96x10240_32_0 rfl inb_S128x10240_S96x10240_32_0, View.read_writes_full]

theorem filled_all (v20 : BitVec 32) (v63 : Vec F S32x2048 .i32) (X : Vec F S32x10240 .i32) (h : k1_t1_loop.trips = 0 ∨ Filled v20 v63 k1_t1_loop.trips X) :
    X = bitsOf v20 v63 :=
  funext fun y => (h.resolve_left (by rw [trips_eq]; decide)) y (by rw [trips_eq]; have : (y 1).val < 10240 := (y 1).isLt; omega)

end Cert.KernelIdeal.Hand

end
-- ==== Proof.KernelIdealEmit.lean ====
/-
  The second region (probabilities and running argmax, ten chunks of the vocabulary): the body's run at its three kinds of points.
-/
module

public import proofs.«01_k».proof.Proof.KernelIdealStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UU ℕ

set_option maxHeartbeats 4000000 in
/-- The body at a point that is neither the first nor the last. -/
theorem runMid (c : Dev nD) (i : grid1.Coords) (arg1 : Memref sig .tc .vmem S128x64 .f32) (harg1 : arg1.IsWhole) (arg2 : Memref sig .tc .vmem S64x10240 .f32) (harg2 : arg2.IsWhole) (arg3 : Memref sig .tc .vmem S1x10240 .f32) (harg3 : arg3.IsWhole) (arg4 : Memref sig .tc .vmem S96x10240 .i32) (harg4 : arg4.IsWhole) (arg5 : Memref sig .tc .vmem S128x1 .f32) (harg5 : arg5.IsWhole) (arg6 : Memref sig .tc .vmem S128x10240 .f32) (harg6 : arg6.IsWhole) (arg7 : Memref sig .tc .vmem S128x1 .i32) (harg7 : arg7.IsWhole) (arg8 : Memref sig .tc .vmem S128x1 .f32) (harg8 : arg8.IsWhole) (arg9 : Memref sig .tc .vmem S128x1 .i32) (harg9 : arg9.IsWhole) (arg10 : Memref sig .tc .vmem S32x2048 .i32) (harg10 : arg10.IsWhole) (arg11 : Memref sig .tc .vmem S128x10240 .i32) (harg11 : arg11.IsWhole) (arg12 : Memref sig .tc .vmem S32x10240 .i32) (harg12 : arg12.IsWhole)
    (v3 : Vec F S128x64 .f32) (v4 : Vec F S64x10240 .f32) (v6 : Vec F S1x10240 .f32) (v42 : Vec F S96x10240 .i32) (v13 : Vec F S128x1 .f32)
    (bv : Vec F S128x1 .f32) (bi Y7 : Vec F S128x1 .i32) (x10 : Vec F S32x2048 .i32) (x11 : Vec F S128x10240 .i32) (Y6 : Vec F S128x10240 .f32) (x12 : Vec F S32x10240 .i32)
    (h1 : ¬ c1first i) (h2 : c1mid i) (h3 : ¬ k1_cond3 i = 1#1) (h0 : ¬ BitVec.ofNat 32 (i 0).val = 0#32)
    (h10 : x10 = k1_pay62) (h11 : x11 = k1_pay63)
    (K : PUnit → sProp 𝕄) :
    iprop(owns (c : Thread nD τ) arg1 fullShare v3 ∗ owns (c : Thread nD τ) arg2 fullShare v4 ∗ owns (c : Thread nD τ) arg3 fullShare v6
        ∗ owns (c : Thread nD τ) arg4 fullShare v42 ∗ owns (c : Thread nD τ) arg5 fullShare v13
        ∗ owns (c : Thread nD τ) arg6 fullShare Y6 ∗ owns (c : Thread nD τ) arg7 fullShare Y7
        ∗ owns (c : Thread nD τ) arg8 fullShare bv ∗ owns (c : Thread nD τ) arg9 fullShare bi
        ∗ owns (c : Thread nD τ) arg10 fullShare x10 ∗ owns (c : Thread nD τ) arg11 fullShare x11 ∗ owns (c : Thread nD τ) arg12 fullShare x12
        ∗ (iprop(owns (c : Thread nD τ) arg1 fullShare v3 ∗ owns (c : Thread nD τ) arg2 fullShare v4 ∗ owns (c : Thread nD τ) arg3 fullShare v6
            ∗ owns (c : Thread nD τ) arg4 fullShare v42 ∗ owns (c : Thread nD τ) arg5 fullShare v13
            ∗ owns (c : Thread nD τ) arg6 fullShare (k1_pay64 v3 v4 v6 v13)
            ∗ owns (c : Thread nD τ) arg7 fullShare Y7
            ∗ owns (c : Thread nD τ) arg8 fullShare (step1 i v3 v4 v6 v42 v13 (bv, bi)).1
            ∗ owns (c : Thread nD τ) arg9 fullShare (step1 i v3 v4 v6 v42 v13 (bv, bi)).2
            ∗ owns (c : Thread nD τ) arg10 fullShare (k1_pay62 : Vec F S32x2048 .i32) ∗ owns (c : Thread nD τ) arg11 fullShare (k1_pay63 : Vec F S128x10240 .i32)
            ∗ ∃ x : Vec F S32x10240 .i32, owns (c : Thread nD τ) arg12 fullShare x) -∗ K ⟨⟩))
      ⊢ wp frame (wpE (defs₀ (F := F)) Variants.none (c : Thread nD τ) none) Set.univ
          (cc1__emit_body i arg1 harg1 arg2 harg2 arg3 harg3 arg4 harg4 arg5 harg5 arg6 harg6 arg7 harg7 arg8 harg8 arg9 harg9 arg10 harg10 arg11 harg11 arg12 harg12) K := by
  simp only [cc1__emit_body_eq_skeleton]; unfold cc1__emit_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, Hk⟩
  subst e1 e2 e3 e4 e5 e6 e7 e8 e9
  rw [← e10] at h10; rw [← e11] at h11
  sl_exec (disch := assumption)
  sl_step
  have hL := filled_all _ _ _ hL2
  skip
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    sl_unfold_words
    rw [View.read_writes_full]
    repeat rw [View.readAt_full]
  isplitl [H7]
  · iexists _; isplitr; swap; · iexact H7
    ipureintro; rfl
  isplitl [H8]
  · iexists _; isplitr; swap; · iexact H8
    ipureintro
    sl_unfold_words
    have ea : View.readAt (Elt F) arg11.view (Rect.unit (s := S128x10240) ![0, 0] S32x10240.size inb_S128x10240_S32x10240_0_0).toLoadRect f11
        = VecWindow.window (s := S128x10240) k1_pay63 ![0, 0] S32x10240.size inb_S128x10240_S32x10240_0_0 := by rw [← h11]; rfl
    have eb : View.readAt (Elt F) arg11.view (Rect.unit (s := S128x10240) ![32, 0] S96x10240.size inb_S128x10240_S96x10240_32_0).toLoadRect f11
        = VecWindow.window (s := S128x10240) k1_pay63 ![32, 0] S96x10240.size inb_S128x10240_S96x10240_32_0 := by rw [← h11]; rfl
    unfold step1
    simp only [if_neg h3, if_neg h0]
    repeat rw [View.read_writes_cons_put _ _ _ _ _ rfl]
    rw [View.writes_nil]
    repeat rw [View.readAt_full]
    try rw [ea]
    try rw [eb]
    rw [hL, h10]
    try rw [h11]
    rfl
  isplitl [H9]
  · iexists _; isplitr; swap; · iexact H9
    ipureintro
    sl_unfold_words
    have ea : View.readAt (Elt F) arg11.view (Rect.unit (s := S128x10240) ![0, 0] S32x10240.size inb_S128x10240_S32x10240_0_0).toLoadRect f11
        = VecWindow.window (s := S128x10240) k1_pay63 ![0, 0] S32x10240.size inb_S128x10240_S32x10240_0_0 := by rw [← h11]; rfl
    have eb : View.readAt (Elt F) arg11.view (Rect.unit (s := S128x10240) ![32, 0] S96x10240.size inb_S128x10240_S96x10240_32_0).toLoadRect f11
        = VecWindow.window (s := S128x10240) k1_pay63 ![32, 0] S96x10240.size inb_S128x10240_S96x10240_32_0 := by rw [← h11]; rfl
    unfold step1
    simp only [if_neg h3, if_neg h0]
    repeat rw [View.read_writes_cons_put _ _ _ _ _ rfl]
    rw [View.writes_nil]
    repeat rw [View.readAt_full]
    try rw [ea]
    try rw [eb]
    rw [hL, h10]
    try rw [h11]
    rfl
  isplitl [H10]
  · iexists _; isplitr; swap; · iexact H10
    ipureintro
    exact h10
  isplitl [H11]
  · iexists _; isplitr; swap; · iexact H11
    ipureintro
    exact h11
  iexists _; iexists _; isplitr; swap; · iexact H12
  ipureintro; rfl

set_option maxHeartbeats 4000000 in
/-- The body at the first point. -/
theorem runFirst (c : Dev nD) (i : grid1.Coords) (arg1 : Memref sig .tc .vmem S128x64 .f32) (harg1 : arg1.IsWhole) (arg2 : Memref sig .tc .vmem S64x10240 .f32) (harg2 : arg2.IsWhole) (arg3 : Memref sig .tc .vmem S1x10240 .f32) (harg3 : arg3.IsWhole) (arg4 : Memref sig .tc .vmem S96x10240 .i32) (harg4 : arg4.IsWhole) (arg5 : Memref sig .tc .vmem S128x1 .f32) (harg5 : arg5.IsWhole) (arg6 : Memref sig .tc .vmem S128x10240 .f32) (harg6 : arg6.IsWhole) (arg7 : Memref sig .tc .vmem S128x1 .i32) (harg7 : arg7.IsWhole) (arg8 : Memref sig .tc .vmem S128x1 .f32) (harg8 : arg8.IsWhole) (arg9 : Memref sig .tc .vmem S128x1 .i32) (harg9 : arg9.IsWhole) (arg10 : Memref sig .tc .vmem S32x2048 .i32) (harg10 : arg10.IsWhole) (arg11 : Memref sig .tc .vmem S128x10240 .i32) (harg11 : arg11.IsWhole) (arg12 : Memref sig .tc .vmem S32x10240 .i32) (harg12 : arg12.IsWhole)
    (v3 : Vec F S128x64 .f32) (v4 : Vec F S64x10240 .f32) (v6 : Vec F S1x10240 .f32) (v42 : Vec F S96x10240 .i32) (v13 : Vec F S128x1 .f32)
    (bv : Vec F S128x1 .f32) (bi Y7 : Vec F S128x1 .i32) (x10 : Vec F S32x2048 .i32) (x11 : Vec F S128x10240 .i32) (Y6 : Vec F S128x10240 .f32) (x12 : Vec F S32x10240 .i32)
    (h1 : c1first i) (h2 : c1mid i) (h3 : ¬ k1_cond3 i = 1#1) (h0 : BitVec.ofNat 32 (i 0).val = 0#32)
    (K : PUnit → sProp 𝕄) :
    iprop(owns (c : Thread nD τ) arg1 fullShare v3 ∗ owns (c : Thread nD τ) arg2 fullShare v4 ∗ owns (c : Thread nD τ) arg3 fullShare v6
        ∗ owns (c : Thread nD τ) arg4 fullShare v42 ∗ owns (c : Thread nD τ) arg5 fullShare v13
        ∗ owns (c : Thread nD τ) arg6 fullShare Y6 ∗ owns (c : Thread nD τ) arg7 fullShare Y7
        ∗ owns (c : Thread nD τ) arg8 fullShare bv ∗ owns (c : Thread nD τ) arg9 fullShare bi
        ∗ owns (c : Thread nD τ) arg10 fullShare x10 ∗ owns (c : Thread nD τ) arg11 fullShare x11 ∗ owns (c : Thread nD τ) arg12 fullShare x12
        ∗ (iprop(owns (c : Thread nD τ) arg1 fullShare v3 ∗ owns (c : Thread nD τ) arg2 fullShare v4 ∗ owns (c : Thread nD τ) arg3 fullShare v6
            ∗ owns (c : Thread nD τ) arg4 fullShare v42 ∗ owns (c : Thread nD τ) arg5 fullShare v13
            ∗ owns (c : Thread nD τ) arg6 fullShare (k1_pay64 v3 v4 v6 v13)
            ∗ owns (c : Thread nD τ) arg7 fullShare Y7
            ∗ owns (c : Thread nD τ) arg8 fullShare (step1 i v3 v4 v6 v42 v13 (bv, bi)).1
            ∗ owns (c : Thread nD τ) arg9 fullShare (step1 i v3 v4 v6 v42 v13 (bv, bi)).2
            ∗ owns (c : Thread nD τ) arg10 fullShare (k1_pay62 : Vec F S32x2048 .i32) ∗ owns (c : Thread nD τ) arg11 fullShare (k1_pay63 : Vec F S128x10240 .i32)
            ∗ ∃ x : Vec F S32x10240 .i32, owns (c : Thread nD τ) arg12 fullShare x) -∗ K ⟨⟩))
      ⊢ wp frame (wpE (defs₀ (F := F)) Variants.none (c : Thread nD τ) none) Set.univ
          (cc1__emit_body i arg1 harg1 arg2 harg2 arg3 harg3 arg4 harg4 arg5 harg5 arg6 harg6 arg7 harg7 arg8 harg8 arg9 harg9 arg10 harg10 arg11 harg11 arg12 harg12) K := by
  simp only [cc1__emit_body_eq_skeleton]; unfold cc1__emit_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, Hk⟩
  subst e1 e2 e3 e4 e5 e6 e7 e8 e9
  skip
  sl_exec (disch := assumption)
  sl_step
  have hL := filled_all _ _ _ hL2
  skip
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    sl_unfold_words
    rw [View.read_writes_full]
    repeat rw [View.readAt_full]
  isplitl [H7]
  · iexists _; isplitr; swap; · iexact H7
    ipureintro; rfl
  isplitl [H8]
  · iexists _; isplitr; swap; · iexact H8
    ipureintro
    sl_unfold_words
    unfold View.readCov
    unfold step1
    rw [if_neg h3, if_pos h0, if_pos h0]
    rw [View.read_writes_cons_put _ _ _ _ _ rfl, View.read_writes_cons_put _ _ _ _ _ rfl, View.read_writes_full]
    repeat rw [View.readAt_full]
    repeat rw [ld_il_lo]
    repeat rw [ld_il_hi]
    repeat rw [ld_lo]
    repeat rw [ld_hi]
    rw [hL]
    sl_unfold_words
    rw [View.read_writes_full]
  isplitl [H9]
  · iexists _; isplitr; swap; · iexact H9
    ipureintro
    sl_unfold_words
    unfold View.readCov
    unfold step1
    rw [if_neg h3, if_pos h0, if_pos h0]
    rw [View.read_writes_cons_put _ _ _ _ _ rfl, View.read_writes_cons_put _ _ _ _ _ rfl, View.read_writes_full]
    repeat rw [View.readAt_full]
    repeat rw [ld_il_lo]
    repeat rw [ld_il_hi]
    repeat rw [ld_lo]
    repeat rw [ld_hi]
    rw [hL]
    sl_unfold_words
    rw [View.read_writes_full]
  isplitl [H10]
  · iexists _; isplitr; swap; · iexact H10
    ipureintro
    sl_unfold_words; rw [View.read_writes_full]
  isplitl [H11]
  · iexists _; isplitr; swap; · iexact H11
    ipureintro
    sl_unfold_words; rw [View.read_writes_full]
  iexists _; iexists _; isplitr; swap; · iexact H12
  ipureintro; rfl

set_option maxHeartbeats 4000000 in
/-- The body at the last point. -/
theorem runLast (c : Dev nD) (i : grid1.Coords) (arg1 : Memref sig .tc .vmem S128x64 .f32) (harg1 : arg1.IsWhole) (arg2 : Memref sig .tc .vmem S64x10240 .f32) (harg2 : arg2.IsWhole) (arg3 : Memref sig .tc .vmem S1x10240 .f32) (harg3 : arg3.IsWhole) (arg4 : Memref sig .tc .vmem S96x10240 .i32) (harg4 : arg4.IsWhole) (arg5 : Memref sig .tc .vmem S128x1 .f32) (harg5 : arg5.IsWhole) (arg6 : Memref sig .tc .vmem S128x10240 .f32) (harg6 : arg6.IsWhole) (arg7 : Memref sig .tc .vmem S128x1 .i32) (harg7 : arg7.IsWhole) (arg8 : Memref sig .tc .vmem S128x1 .f32) (harg8 : arg8.IsWhole) (arg9 : Memref sig .tc .vmem S128x1 .i32) (harg9 : arg9.IsWhole) (arg10 : Memref sig .tc .vmem S32x2048 .i32) (harg10 : arg10.IsWhole) (arg11 : Memref sig .tc .vmem S128x10240 .i32) (harg11 : arg11.IsWhole) (arg12 : Memref sig .tc .vmem S32x10240 .i32) (harg12 : arg12.IsWhole)
    (v3 : Vec F S128x64 .f32) (v4 : Vec F S64x10240 .f32) (v6 : Vec F S1x10240 .f32) (v42 : Vec F S96x10240 .i32) (v13 : Vec F S128x1 .f32)
    (bv : Vec F S128x1 .f32) (bi Y7 : Vec F S128x1 .i32) (x10 : Vec F S32x2048 .i32) (x11 : Vec F S128x10240 .i32) (Y6 : Vec F S128x10240 .f32) (x12 : Vec F S32x10240 .i32)
    (h1 : ¬ c1first i) (h2 : ¬ c1mid i) (h3 : k1_cond3 i = 1#1) (h0 : ¬ BitVec.ofNat 32 (i 0).val = 0#32)
    (h10 : x10 = k1_pay62) (h11 : x11 = k1_pay63)
    (K : PUnit → sProp 𝕄) :
    iprop(owns (c : Thread nD τ) arg1 fullShare v3 ∗ owns (c : Thread nD τ) arg2 fullShare v4 ∗ owns (c : Thread nD τ) arg3 fullShare v6
        ∗ owns (c : Thread nD τ) arg4 fullShare v42 ∗ owns (c : Thread nD τ) arg5 fullShare v13
        ∗ owns (c : Thread nD τ) arg6 fullShare Y6 ∗ owns (c : Thread nD τ) arg7 fullShare Y7
        ∗ owns (c : Thread nD τ) arg8 fullShare bv ∗ owns (c : Thread nD τ) arg9 fullShare bi
        ∗ owns (c : Thread nD τ) arg10 fullShare x10 ∗ owns (c : Thread nD τ) arg11 fullShare x11 ∗ owns (c : Thread nD τ) arg12 fullShare x12
        ∗ (iprop(owns (c : Thread nD τ) arg1 fullShare v3 ∗ owns (c : Thread nD τ) arg2 fullShare v4 ∗ owns (c : Thread nD τ) arg3 fullShare v6
            ∗ owns (c : Thread nD τ) arg4 fullShare v42 ∗ owns (c : Thread nD τ) arg5 fullShare v13
            ∗ owns (c : Thread nD τ) arg6 fullShare (k1_pay64 v3 v4 v6 v13)
            ∗ owns (c : Thread nD τ) arg7 fullShare (step1 i v3 v4 v6 v42 v13 (bv, bi)).2
            ∗ owns (c : Thread nD τ) arg8 fullShare (step1 i v3 v4 v6 v42 v13 (bv, bi)).1
            ∗ owns (c : Thread nD τ) arg9 fullShare (step1 i v3 v4 v6 v42 v13 (bv, bi)).2
            ∗ owns (c : Thread nD τ) arg10 fullShare (k1_pay62 : Vec F S32x2048 .i32) ∗ owns (c : Thread nD τ) arg11 fullShare (k1_pay63 : Vec F S128x10240 .i32)
            ∗ ∃ x : Vec F S32x10240 .i32, owns (c : Thread nD τ) arg12 fullShare x) -∗ K ⟨⟩))
      ⊢ wp frame (wpE (defs₀ (F := F)) Variants.none (c : Thread nD τ) none) Set.univ
          (cc1__emit_body i arg1 harg1 arg2 harg2 arg3 harg3 arg4 harg4 arg5 harg5 arg6 harg6 arg7 harg7 arg8 harg8 arg9 harg9 arg10 harg10 arg11 harg11 arg12 harg12) K := by
  simp only [cc1__emit_body_eq_skeleton]; unfold cc1__emit_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, Hk⟩
  subst e1 e2 e3 e4 e5 e6 e7 e8 e9
  rw [← e10] at h10; rw [← e11] at h11
  sl_exec (disch := assumption)
  sl_step
  have hL := filled_all _ _ _ hL2
  skip
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    sl_unfold_words
    rw [View.read_writes_full]
    repeat rw [View.readAt_full]
  isplitl [H7]
  · iexists _; isplitr; swap; · iexact H7
    ipureintro
    rw [View.read_writes_full]
    sl_unfold_words
    unfold View.readCov
    rw [View.readAt_full]
    have ea : View.readAt (Elt F) arg11.view (Rect.unit (s := S128x10240) ![0, 0] S32x10240.size inb_S128x10240_S32x10240_0_0).toLoadRect f11
        = VecWindow.window (s := S128x10240) k1_pay63 ![0, 0] S32x10240.size inb_S128x10240_S32x10240_0_0 := by rw [← h11]; rfl
    have eb : View.readAt (Elt F) arg11.view (Rect.unit (s := S128x10240) ![32, 0] S96x10240.size inb_S128x10240_S96x10240_32_0).toLoadRect f11
        = VecWindow.window (s := S128x10240) k1_pay63 ![32, 0] S96x10240.size inb_S128x10240_S96x10240_32_0 := by rw [← h11]; rfl
    unfold step1
    simp only [if_pos h3, if_neg h0]
    repeat rw [View.read_writes_cons_put _ _ _ _ _ rfl]
    rw [View.writes_nil, put_cover _ (View.read (Elt F) arg9.view f9)]
    repeat rw [View.readAt_full]
    try rw [ea]
    try rw [eb]
    rw [hL, h10]
    try rw [h11]
    rfl
  isplitl [H8]
  · iexists _; isplitr; swap; · iexact H8
    ipureintro
    sl_unfold_words
    have ea : View.readAt (Elt F) arg11.view (Rect.unit (s := S128x10240) ![0, 0] S32x10240.size inb_S128x10240_S32x10240_0_0).toLoadRect f11
        = VecWindow.window (s := S128x10240) k1_pay63 ![0, 0] S32x10240.size inb_S128x10240_S32x10240_0_0 := by rw [← h11]; rfl
    have eb : View.readAt (Elt F) arg11.view (Rect.unit (s := S128x10240) ![32, 0] S96x10240.size inb_S128x10240_S96x10240_32_0).toLoadRect f11
        = VecWindow.window (s := S128x10240) k1_pay63 ![32, 0] S96x10240.size inb_S128x10240_S96x10240_32_0 := by rw [← h11]; rfl
    unfold step1
    simp only [if_pos h3, if_neg h0]
    repeat rw [View.read_writes_cons_put _ _ _ _ _ rfl]
    rw [View.writes_nil]
    repeat rw [View.readAt_full]
    try rw [ea]
    try rw [eb]
    rw [hL, h10]
    try rw [h11]
    rfl
  isplitl [H9]
  · iexists _; isplitr; swap; · iexact H9
    ipureintro
    sl_unfold_words
    have ea : View.readAt (Elt F) arg11.view (Rect.unit (s := S128x10240) ![0, 0] S32x10240.size inb_S128x10240_S32x10240_0_0).toLoadRect f11
        = VecWindow.window (s := S128x10240) k1_pay63 ![0, 0] S32x10240.size inb_S128x10240_S32x10240_0_0 := by rw [← h11]; rfl
    have eb : View.readAt (Elt F) arg11.view (Rect.unit (s := S128x10240) ![32, 0] S96x10240.size inb_S128x10240_S96x10240_32_0).toLoadRect f11
        = VecWindow.window (s := S128x10240) k1_pay63 ![32, 0] S96x10240.size inb_S128x10240_S96x10240_32_0 := by rw [← h11]; rfl
    unfold step1
    simp only [if_pos h3, if_neg h0]
    repeat rw [View.read_writes_cons_put _ _ _ _ _ rfl]
    rw [View.writes_nil]
    repeat rw [View.readAt_full]
    try rw [ea]
    try rw [eb]
    rw [hL, h10]
    try rw [h11]
    rfl
  isplitl [H10]
  · iexists _; isplitr; swap; · iexact H10
    ipureintro
    exact h10
  isplitl [H11]
  · iexists _; isplitr; swap; · iexact H11
    ipureintro
    exact h11
  iexists _; iexists _; isplitr; swap; · iexact H12
  ipureintro; rfl

end Cert.KernelIdeal.Hand

end
-- ==== Proof.KernelIdealPoints.lean ====
/-
  The second region's proof data, relational for the same reason as the first region's, and its body obligation.
-/
module

public import proofs.«01_k».proof.Proof.KernelIdealEmit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UU ℕ

/-- The second region's arrays on entry. -/
abbrev Arr1 (c : Dev nD) : Type := (w : Fin cfg1.W) → Buf (Elt F) ((cfg1.win w).arr.view.loc (c.tc : Thread nD τ))

/-- What a fetch of window `w` at point `t` leaves in a buffer that held `d`. -/
abbrev fet1 {c : Dev nD} (A : Arr1 (F := F) c) (w : Fin cfg1.W) (t : Fin cfg1.N)
    (d : (cfg1.win w).block.Idx → Elt F (cfg1.win w).elt) : (cfg1.win w).block.Idx → Elt F (cfg1.win w).elt :=
  (cfg1.win w).fill (cfg1.grid.coords t) d (((cfg1.win w).blk t).view.read (Elt F) (A w))

/-- The running best value and its index before point `n`: anything at first, then one step from what was there, whatever
    the buffers' words past the end of the arrays. -/
def Acc {c : Dev nD} (A : Arr1 (F := F) c) : ℕ → Vec F S128x1 .f32 × Vec F S128x1 .i32 → Prop
  | 0 => fun _ => True
  | n + 1 => fun q => ∃ (h : n < cfg1.N) (d0 : Vec F S128x64 .f32) (d1 : Vec F S64x10240 .f32) (d2 : Vec F S1x10240 .f32)
      (d3 : Vec F S96x10240 .i32) (d4 : Vec F S128x1 .f32) (p : Vec F S128x1 .f32 × Vec F S128x1 .i32),
      Acc A n p ∧ q = step1 (grid1.coords ⟨n, h⟩) (fet1 A 0 ⟨n, h⟩ d0) (fet1 A 1 ⟨n, h⟩ d1) (fet1 A 2 ⟨n, h⟩ d2) (fet1 A 3 ⟨n, h⟩ d3)
        (fet1 A 4 ⟨n, h⟩ d4) p

/-- The probabilities a point writes, over what its inputs' buffers may hold. -/
def ProbsAt {c : Dev nD} (A : Arr1 (F := F) c) (t : Fin cfg1.N) (X : Vec F S128x10240 .f32) : Prop :=
  ∃ (d0 : Vec F S128x64 .f32) (d1 : Vec F S64x10240 .f32) (d2 : Vec F S1x10240 .f32) (d4 : Vec F S128x1 .f32),
    X = k1_pay64 (fet1 A 0 t d0) (fet1 A 1 t d1) (fet1 A 2 t d2) (fet1 A 4 t d4)

/-- What the scratch buffers hold between points. -/
def Inv1 {c : Dev nD} (A : Arr1 (F := F) c) (n : ℕ) (p : Vec F S128x1 .f32 × Vec F S128x1 .i32) (x10 : Vec F S32x2048 .i32) (x11 : Vec F S128x10240 .i32) : Prop :=
  Acc A n p ∧ (n ≠ 0 → x10 = k1_pay62 ∧ x11 = k1_pay63)

/-- The arrays of the second region at the valuation `V`. -/
abbrev arrs1 (V : Valuation τ sig (Elt F)) (c : Dev nD) : Arr1 (F := F) c := fun w => V (Pipeline.arrRef spec1 w)

/-- A scoped buffer holding anything. -/
abbrev anyPt (c : Dev nD) (r : Ref sig .tc) : sProp 𝕄 := iprop(∃ f : Buf (Elt F) ((c : Thread nD τ).loc r), ((c : Thread nD τ).loc r) ↦{fullShare} f)

/-- The scoped buffers the second region's body does not touch. -/
abbrev idle1 (c : Dev nD) : sProp 𝕄 :=
  iprop(anyPt (F := F) c cc0_stg0_0 ∗ anyPt (F := F) c cc0_stg1_0 ∗ anyPt (F := F) c cc0_stg1_1 ∗ anyPt (F := F) c cc0_stg2_0 ∗ anyPt (F := F) c cc0_stg2_1 ∗ anyPt (F := F) c cc0_stg3_0)

/-- The scratch buffers between points. -/
abbrev scratch1 {c : Dev nD} (A : Arr1 (F := F) c) (n : ℕ) : sProp 𝕄 :=
  iprop(∃ (p : Vec F S128x1 .f32 × Vec F S128x1 .i32) (x10 : Vec F S32x2048 .i32) (x11 : Vec F S128x10240 .i32) (x12 : Vec F S32x10240 .i32),
    ⌜Inv1 A n p x10 x11⌝ ∗ owns (c : Thread nD τ) (Memref.whole cc1_scratch0) fullShare p.1 ∗ owns (c : Thread nD τ) (Memref.whole cc1_scratch1) fullShare p.2
      ∗ owns (c : Thread nD τ) (Memref.whole cc1_scratch2) fullShare x10 ∗ owns (c : Thread nD τ) (Memref.whole cc1_scratch3) fullShare x11
      ∗ owns (c : Thread nD τ) (Memref.whole cc1_scratch4) fullShare x12)

/-- The second region's proof data on core `c`, entered at the valuation `V`. -/
def rd1 (V : Valuation τ sig (Elt F)) (c : Dev nD) : RDat τ (Elt F) Unit ℕ UU ℕ cfg1 c where
  A w := V (Pipeline.arrRef spec1 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => ProbsAt (arrs1 V c) t X
    | ⟨6, _⟩ => t.val = 9 → ∃ bv, Acc (arrs1 V c) (t.val + 1) (bv, X)
  Φ t := iprop(idle1 (F := F) c ∗ scratch1 (arrs1 V c) t.val)
  q _ := fullShare
  owed _ := 0

/-- The scoped buffers at hand on entry are the invariant before the first point, -/
theorem phi1_in (V : Valuation τ sig (Elt F)) (c : Dev nD) :
    (Pipeline.scopedRest spec1 c : sProp 𝕄) ⊢ (rd1 V c).Φ 0 := by
  rw [scopedRest1_eq]
  show _ ⊢ iprop(idle1 (F := F) c ∗ scratch1 (arrs1 V c) 0)
  iintro ⟨A0, A1, A2, A3, A4, A5, ⟨%g0, B0⟩, ⟨%g1, B1⟩, ⟨%g2, B2⟩, ⟨%g3, B3⟩, ⟨%g4, B4⟩⟩
  isplitl [A0 A1 A2 A3 A4 A5]
  · isplitl [A0]; · iexact A0
    isplitl [A1]; · iexact A1
    isplitl [A2]; · iexact A2
    isplitl [A3]; · iexact A3
    isplitl [A4]; · iexact A4
    iexact A5
  iexists (g0, g1), g2, g3, g4
  rw [owns_whole, owns_whole, owns_whole, owns_whole, owns_whole]
  isplitr
  · ipureintro; exact ⟨trivial, fun h => absurd rfl h⟩
  isplitl [B0]; · iexact B0
  isplitl [B1]; · iexact B1
  isplitl [B2]; · iexact B2
  isplitl [B3]; · iexact B3
  iexact B4

/-- and the invariant after the last point gives them back. -/
theorem phi1_out (V : Valuation τ sig (Elt F)) (c : Dev nD) (t : Fin (cfg1.N + 1)) :
    (rd1 V c).Φ t ⊢ (Pipeline.scopedRest spec1 c : sProp 𝕄) := by
  rw [scopedRest1_eq]
  show iprop(idle1 (F := F) c ∗ scratch1 (arrs1 V c) t.val) ⊢ _
  unfold scratch1
  simp only [owns_whole]
  iintro ⟨⟨A0, A1, A2, A3, A4, A5⟩, ⟨%p, %g2, %g3, %g4, -, B0, B1, B2, B3, B4⟩⟩
  isplitl [A0]; · iexact A0
  isplitl [A1]; · iexact A1
  isplitl [A2]; · iexact A2
  isplitl [A3]; · iexact A3
  isplitl [A4]; · iexact A4
  isplitl [A5]; · iexact A5
  isplitl [B0]; · iexists p.1; iexact B0
  isplitl [B1]; · iexists p.2; iexact B1
  isplitl [B2]; · iexists g2; iexact B2
  isplitl [B3]; · iexists g3; iexact B3
  iexists g4; iexact B4

theorem defs₀_row1 (t : Fin cfg1.N) : defs₀ (F := F) .tc cfg1.body (cfg1.bodyArgs t (cfg1.slots t)) = bodyAt1 t := by
  unfold defs₀; rw [Defs.onTc_tc]

/-- What the body finds of an input window is a fetch of it. -/
theorem finds1_in (V : Valuation τ sig (Elt F)) (c : Dev nD) (t : Fin cfg1.N) (Y : (w : Fin cfg1.W) → (cfg1.win w).block.Idx → Elt F (cfg1.win w).elt)
    (h : ∀ w, (rd1 V c).Finds w t (Y w)) :
    (∃ d, Y 0 = fet1 (arrs1 V c) 0 t d) ∧ (∃ d, Y 1 = fet1 (arrs1 V c) 1 t d) ∧ (∃ d, Y 2 = fet1 (arrs1 V c) 2 t d)
    ∧ (∃ d, Y 3 = fet1 (arrs1 V c) 3 t d) ∧ (∃ d, Y 4 = fet1 (arrs1 V c) 4 t d) := by
  refine ⟨?_, ?_, ?_, ?_, ?_⟩
  · exact RDat.finds_in_eq_fetched (rd1 V c) 0 rfl (fun _ _ _ => rfl) (fun _ _ _ h => h) t _ (h 0)
  · exact ((rd1 V c).finds_of_fetch (fetch1_1 t) _).mp (h 1)
  · exact ((rd1 V c).finds_of_fetch (fetch1_2 t) _).mp (h 2)
  · exact ((rd1 V c).finds_of_fetch (fetch1_3 t) _).mp (h 3)
  · exact RDat.finds_in_eq_fetched (rd1 V c) 4 rfl (fun _ _ _ => rfl) (fun _ _ _ h => h) t _ (h 4)

set_option maxHeartbeats 2000000 in
/-- The second region's body obligation. -/
theorem body1 (V : Valuation τ sig (Elt F)) (c : Dev nD) :
    (rd1 V c).BodyObligation (defs₀ (F := F)) Variants.none () Set.univ := by
  intro t Y hY
  obtain ⟨⟨d0, h0⟩, ⟨d1, h1⟩, ⟨d2, h2⟩, ⟨d3, h3⟩, ⟨d4, h4⟩⟩ := finds1_in V c t Y hY
  rw [defs₀_row1, bigSep_W1, bigSep_W1]
  unfold bodyAt1
  rw [show (rd1 V c).Φ t.castSucc = iprop(idle1 (F := F) c ∗ scratch1 (arrs1 V c) t.val) from rfl,
    show (rd1 V c).Φ t.succ = iprop(idle1 (F := F) c ∗ scratch1 (arrs1 V c) (t.val + 1)) from rfl,
    show (rd1 V c).owesAt () t.succ = (rd1 V c).owesAt () t.castSucc from rfl]
  iintro ⟨⟨HI, ⟨%p, %x10, %x11, %x12, %hinv, S0, S1, S2, S3, S4⟩⟩, HO, H0, H1, H2, H3, H4, H5, H6⟩
  have hacc : Acc (arrs1 V c) (t.val + 1) (step1 (grid1.coords t) (Y 0) (Y 1) (Y 2) (Y 3) (Y 4) p) :=
    ⟨t.isLt, d0, d1, d2, d3, d4, p, hinv.1, by rw [h0, h1, h2, h3, h4]⟩
  have hprob : ProbsAt (arrs1 V c) t (k1_pay64 (Y 0) (Y 1) (Y 2) (Y 4)) := ⟨d0, d1, d2, d4, by rw [h0, h1, h2, h4]⟩
  have hz : ∀ t : Fin grid1.N, t.val = 0 → BitVec.ofNat 32 (grid1.coords t 0).val = 0#32 := by decide +kernel
  rcases cases1 t with ⟨k1, k2, k3, k0, kt⟩ | ⟨k1, k2, k3, k0, kt⟩ | ⟨k1, k2, k3, k0, kt⟩
  · iapply (runFirst c (grid1.coords t) _ _ _ _ _ _ _ _ _ _ _ _ _ _ _ _ _ _ _ _ _ _ _ _ (Y 0) (Y 1) (Y 2) (Y 3) (Y 4) p.1 p.2 (Y 6) x10 x11 (Y 5) x12 k1 k2 k3 k0 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    iintro ⟨H0, H1, H2, H3, H4, H5, H6, S0, S1, S2, S3, ⟨%x12', S4⟩⟩
    isplitl [HI S0 S1 S2 S3 S4]
    · isplitl [HI]; · iexact HI
      iexists (step1 (grid1.coords t) (Y 0) (Y 1) (Y 2) (Y 3) (Y 4) p), _, _, x12'
      isplitr
      · ipureintro; exact ⟨hacc, fun _ => ⟨rfl, rfl⟩⟩
      isplitl [S0]; · iexact S0
      isplitl [S1]; · iexact S1
      isplitl [S2]; · iexact S2
      isplitl [S3]; · iexact S3
      iexact S4
    isplitl [HO]; · iexact HO
    isplitl [H0]
    · iexists _; isplitr; swap; · iexact H0
      ipureintro; exact (rfl : Y 0 = Y 0)
    isplitl [H1]
    · iexists _; isplitr; swap; · iexact H1
      ipureintro; exact (rfl : Y 1 = Y 1)
    isplitl [H2]
    · iexists _; isplitr; swap; · iexact H2
      ipureintro; exact (rfl : Y 2 = Y 2)
    isplitl [H3]
    · iexists _; isplitr; swap; · iexact H3
      ipureintro; exact (rfl : Y 3 = Y 3)
    isplitl [H4]
    · iexists _; isplitr; swap; · iexact H4
      ipureintro; exact (rfl : Y 4 = Y 4)
    isplitl [H5]
    · iexists _; isplitr; swap; · iexact H5
      ipureintro; exact hprob
    iexists _; isplitr; swap; · iexact H6
    ipureintro; exact fun h => absurd h (by omega)
  · have hne : t.val ≠ 0 := fun h => k0 (hz t h)
    iapply (runMid c (grid1.coords t) _ _ _ _ _ _ _ _ _ _ _ _ _ _ _ _ _ _ _ _ _ _ _ _ (Y 0) (Y 1) (Y 2) (Y 3) (Y 4) p.1 p.2 (Y 6) x10 x11 (Y 5) x12 k1 k2 k3 k0 (hinv.2 hne).1 (hinv.2 hne).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    iintro ⟨H0, H1, H2, H3, H4, H5, H6, S0, S1, S2, S3, ⟨%x12', S4⟩⟩
    isplitl [HI S0 S1 S2 S3 S4]
    · isplitl [HI]; · iexact HI
      iexists (step1 (grid1.coords t) (Y 0) (Y 1) (Y 2) (Y 3) (Y 4) p), _, _, x12'
      isplitr
      · ipureintro; exact ⟨hacc, fun _ => ⟨rfl, rfl⟩⟩
      isplitl [S0]; · iexact S0
      isplitl [S1]; · iexact S1
      isplitl [S2]; · iexact S2
      isplitl [S3]; · iexact S3
      iexact S4
    isplitl [HO]; · iexact HO
    isplitl [H0]
    · iexists _; isplitr; swap; · iexact H0
      ipureintro; exact (rfl : Y 0 = Y 0)
    isplitl [H1]
    · iexists _; isplitr; swap; · iexact H1
      ipureintro; exact (rfl : Y 1 = Y 1)
    isplitl [H2]
    · iexists _; isplitr; swap; · iexact H2
      ipureintro; exact (rfl : Y 2 = Y 2)
    isplitl [H3]
    · iexists _; isplitr; swap; · iexact H3
      ipureintro; exact (rfl : Y 3 = Y 3)
    isplitl [H4]
    · iexists _; isplitr; swap; · iexact H4
      ipureintro; exact (rfl : Y 4 = Y 4)
    isplitl [H5]
    · iexists _; isplitr; swap; · iexact H5
      ipureintro; exact hprob
    iexists _; isplitr; swap; · iexact H6
    ipureintro; exact fun h => absurd h kt
  · have hne : t.val ≠ 0 := fun h => k0 (hz t h)
    iapply (runLast c (grid1.coords t) _ _ _ _ _ _ _ _ _ _ _ _ _ _ _ _ _ _ _ _ _ _ _ _ (Y 0) (Y 1) (Y 2) (Y 3) (Y 4) p.1 p.2 (Y 6) x10 x11 (Y 5) x12 k1 k2 k3 k0 (hinv.2 hne).1 (hinv.2 hne).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    iintro ⟨H0, H1, H2, H3, H4, H5, H6, S0, S1, S2, S3, ⟨%x12', S4⟩⟩
    isplitl [HI S0 S1 S2 S3 S4]
    · isplitl [HI]; · iexact HI
      iexists (step1 (grid1.coords t) (Y 0) (Y 1) (Y 2) (Y 3) (Y 4) p), _, _, x12'
      isplitr
      · ipureintro; exact ⟨hacc, fun _ => ⟨rfl, rfl⟩⟩
      isplitl [S0]; · iexact S0
      isplitl [S1]; · iexact S1
      isplitl [S2]; · iexact S2
      isplitl [S3]; · iexact S3
      iexact S4
    isplitl [HO]; · iexact HO
    isplitl [H0]
    · iexists _; isplitr; swap; · iexact H0
      ipureintro; exact (rfl : Y 0 = Y 0)
    isplitl [H1]
    · iexists _; isplitr; swap; · iexact H1
      ipureintro; exact (rfl : Y 1 = Y 1)
    isplitl [H2]
    · iexists _; isplitr; swap; · iexact H2
      ipureintro; exact (rfl : Y 2 = Y 2)
    isplitl [H3]
    · iexists _; isplitr; swap; · iexact H3
      ipureintro; exact (rfl : Y 3 = Y 3)
    isplitl [H4]
    · iexists _; isplitr; swap; · iexact H4
      ipureintro; exact (rfl : Y 4 = Y 4)
    isplitl [H5]
    · iexists _; isplitr; swap; · iexact H5
      ipureintro; exact hprob
    iexists _; isplitr; swap; · iexact H6
    ipureintro; exact fun _ => ⟨_, hacc⟩

end Cert.KernelIdeal.Hand

end
-- ==== Proof.KernelIdealSeg.lean ====
/-
  The two regions as records of the launch library, and the run of the whole program: every weakly fair execution ends, with
  the arguments as launched, every counter at zero and the two results among what the regions' relations allow.
-/
module

public import proofs.«01_k».proof.Proof.KernelIdealPoints
public import Idealize.ShloMosaic.Lib.Pipeline.RegionsForgetR
public import Idealize.ShloMosaic.Lib.Pipeline.RegionArraysF
public import Idealize.ShloMosaic.Lib.Pipeline.ArrRel
public import Idealize.ShloMosaic.Lib.HostLoop.Lifted

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

/-- No wait of this program needs a level. -/
abbrev Lx : GSem nD τ sig → Finset Unit := fun _ => ∅
abbrev lvx : GSem nD τ sig → Unit → ℕ := fun _ _ => 0

/-- Both regions' proof data, entered at the valuations `V`. -/
def rds (V : Dev nD → Valuation τ sig (Elt F)) : (p : Fin 2) → (c : Dev nD) → RDat τ (Elt F) Unit ℕ UU ℕ (pin (pcfgs (F := F)) adm p) c
  | ⟨0, _⟩, c => rd0 (V c) c
  | ⟨1, _⟩, c => rd1 (V c) c
  | ⟨_ + 2, h⟩, _ => absurd h (Nat.not_lt.2 (Nat.le_add_left _ _))

/-- Exact proof data of no content, for its shares. -/
def plain (V : Dev nD → Valuation τ sig (Elt F)) (p : Fin 2) (c : Dev nD) : Dat τ (Elt F) Unit ℕ UU ℕ (pin (pcfgs (F := F)) adm p) c where
  A w := V c (Proc.devRef .tc (arrRef (pin (pcfgs (F := F)) adm p).spec w))
  after _ _ := Classical.arbitrary _
  Φ _ := iprop(emp)
  q _ := fullShare
  owed _ := 0

/-- What a core holds between segments: every unscoped buffer at a valuation, its random-number register and nothing owed. -/
abbrev stateAt (W : Valuation τ sig (Elt F)) (c : Dev nD) : sProp 𝕄 :=
  iprop(StableHlo.held (c.tc : Thread nD τ) (ucRefs τ sig) W ∗ (∃ r, prngReg c r) ∗ ∃ Wd, owes (c : Thread nD τ) (0 : CellTallies nD τ sig Unit) Wd)

/-- The contents of a region's arrays on core `c`. -/
abbrev Conts (p : Fin 2) (c : Dev nD) : Type :=
  (w : Fin (pin (pcfgs (F := F)) adm p).W) → Buf (Elt F) (((pin (pcfgs (F := F)) adm p).win w).arr.view.loc (c.tc : Thread nD τ))

/-- The buffer of window `w`'s array. -/
abbrev arrOf (p : Fin 2) (w : Fin (pin (pcfgs (F := F)) adm p).W) : DevRef τ sig := Proc.devRef .tc (arrRef (pin (pcfgs (F := F)) adm p).spec w)

/-- There is a valuation with given contents at the arrays of a region and another's elsewhere. -/
theorem exists_upd (p : Fin 2) (kit : PLaunchFacts (nD := nD) (τ := τ) (pcfgs (F := F)) p) (V : Valuation τ sig (Elt F)) (c : Dev nD)
    (G : Conts (F := F) p c) : ∃ W : Valuation τ sig (Elt F), (∀ w, G w = W (arrOf (F := F) p w))
      ∧ ∀ d ∈ ucRefs τ sig \ arrRefs (pcfgs (F := F) p).spec, W d = V d := by
  classical
  have key : ∀ S : Finset (Fin (pin (pcfgs (F := F)) adm p).W), ∃ W : Valuation τ sig (Elt F), (∀ w ∈ S, G w = W (arrOf (F := F) p w))
      ∧ ∀ d ∉ arrRefs (τ := τ) (pcfgs (F := F) p).spec, W d = V d := by
    intro S
    induction S using Finset.induction_on with
    | empty => exact ⟨V, fun w hw => absurd hw (Finset.notMem_empty w), fun _ _ => rfl⟩
    | insert w₀ S hw₀ ih =>
      obtain ⟨W, hW, hV⟩ := ih
      refine ⟨Function.update W (arrOf (F := F) p w₀) (G w₀), fun w hw => ?_, fun d hd => ?_⟩
      · by_cases h : w = w₀
        · subst h; exact (Function.update_self (arrOf (F := F) p w) (G w) W).symm
        · have hne : arrOf (F := F) p w ≠ arrOf (F := F) p w₀ := StableHlo.devRef_ne_of_ne fun e => h (kit.win.arr_inj e)
          exact (hW w ((Finset.mem_insert.mp hw).resolve_left h)).trans (Function.update_of_ne hne (G w₀) W).symm
      · have hne : d ≠ arrOf (F := F) p w₀ := fun h => hd (by
          rw [h]; exact Finset.mem_map_of_mem _ (Finset.mem_image_of_mem _ (Finset.mem_univ w₀)))
        exact (Function.update_of_ne hne (G w₀) W).trans (hV d hd)
  obtain ⟨W, hW, hV⟩ := key Finset.univ
  exact ⟨W, fun w => hW w (Finset.mem_univ w), fun d hd => hV d (Finset.mem_sdiff.mp hd).2⟩

/-- `W'` is a valuation a region may leave, entered at `W`: its arrays among what the relations allow, the rest unchanged. -/
def Leaves (p : Fin 2) (rd : (p : Fin 2) → (c : Dev nD) → RDat τ (Elt F) Unit ℕ UU ℕ (pin (pcfgs (F := F)) adm p) c)
    (W : Valuation τ sig (Elt F)) (c : Dev nD) (W' : Valuation τ sig (Elt F)) : Prop :=
  (∀ w, (rd p c).ArrAt w (pin (pcfgs (F := F)) adm p).N (W' (arrOf (F := F) p w)))
    ∧ ∀ d ∈ ucRefs τ sig \ arrRefs (pcfgs (F := F) p).spec, W' d = W d

/-- A region's record over all the unscoped buffers: entered with them at `W c`, left with them at some valuation that
    the relations allow. -/
def regSeg (p : Fin 2) (rd : (p : Fin 2) → (c : Dev nD) → RDat τ (Elt F) Unit ℕ UU ℕ (pin (pcfgs (F := F)) adm p) c)
    (kit : PLaunchFacts (nD := nD) (τ := τ) (pcfgs (F := F)) p)
    (hbody : ∀ c, (rd p c).BodyObligation (defs₀ (F := F)) Variants.none () Set.univ)
    (howed : ∀ c t, (rd p c).owed t = 0) (hrec : ∀ c, (rd p c).recorded 0 = Set.univ)
    (W : Dev nD → Valuation τ sig (Elt F))
    (hq : ∀ c w, (rd p c).q w = fullShare)
    (hA : ∀ c w, (rd p c).A w = W c (arrOf (F := F) p w))
    (hin : ∀ c, (scopedRest (pin (pcfgs (F := F)) adm p).spec c : sProp 𝕄) ⊢ (rd p c).Φ 0)
    (hout : ∀ c, (rd p c).Φ (Fin.last (pin (pcfgs (F := F)) adm p).N) ⊢ (scopedRest (pin (pcfgs (F := F)) adm p).spec c : sProp 𝕄)) :
    RDat.RegionSeg (pcfgs (F := F)) adm rd () (defs₀ (F := F)) Variants.none Lx lvx p where
  win := kit.to₀.win
  block_pos := kit.to₀.block_pos
  stage_whole := kit.to₀.stage_whole
  K := PEmpty
  osem k := k.elim
  ho := OwnSemFacts.none _
  hbody := hbody
  hwaits c := by
    iintro -
    iapply (RDat.cellsWaits_of_owed_zero (pin (pcfgs (F := F)) adm) rd () p c (howed c))
    iempintro
  pre c := stateAt (W c) c
  post c := iprop(∃ W', ⌜Leaves p rd (W c) c W'⌝ ∗ stateAt W' c)
  X c := iprop(emp)
  Y c := iprop(emp)
  Z c := iprop(StableHlo.held (c.tc : Thread nD τ) (ucRefs τ sig \ arrRefs (pcfgs (F := F) p).spec) (W c) ∗ ∃ r, prngReg c r)
  hentry c := by
    have e : ((rd p c).arrays (rd p c).A : sProp 𝕄) = StableHlo.held (c.tc : Thread nD τ) (arrRefs (pcfgs (F := F) p).spec) (W c) := by
      rw [← arrays_held (pcfgs (F := F)) adm (plain W) p kit c (fun w => by unfold Dat.share; split <;> rfl) (rd p c).A (W c) (hA c)]
      unfold RDat.arrays Dat.arrays RDat.share Dat.share
      exact bigSep_congr fun w _ => by rw [hq c w]; rfl
    rw [e, ownSems0_none, prefHeld_of_none _ rfl]
    unfold stateAt
    rw [StableHlo.held_sub_split (c.tc : Thread nD τ) (arrRefs_sub_ucRefs _ kit.to₀.win.arr_unscoped) (W c)]
    iintro ⟨⟨⟨Ha, Hr⟩, Hp, HO⟩, -, -⟩
    imodintro
    isplitl [Ha]; · iexact Ha
    isplitr; · iempintro
    isplitl [HO]
    · unfold RDat.owesAt owesWithin RDat.bound
      rw [howed c 0, hrec c]
      icases HO with ⟨%Wd, HO⟩; iexists Wd; isplitr; · ipureintro; exact fun _ _ => Or.inl trivial
      iexact HO
    isplitr; · iempintro
    isplitl [Hr]; · iexact Hr
    iexact Hp
  hin c := (show _ ⊢ (scopedRest (pin (pcfgs (F := F)) adm p).spec c : sProp 𝕄) from by
    iintro ⟨-, -, Hr⟩
    iexact Hr).trans (hin c)
  hout c := (hout c).trans (by
    rw [ownSems0_none]
    iintro Hr
    isplitr; · iempintro
    isplitr; · iempintro
    iexact Hr)
  hexit c := by
    unfold RDat.arraysAt
    iintro ⟨Ha, HO, -, ⟨Hr, Hp⟩⟩
    ihave Ha := (BI.bigSep_exists_pi Finset.univ _) $$ Ha
    icases Ha with ⟨%G, Ha⟩
    ihave Ha := (BI.bigSep_pure_sep Finset.univ (fun w => (rd p c).ArrAt w (pin (pcfgs (F := F)) adm p).N (G w)) _) $$ Ha
    icases Ha with ⟨%hG, Ha⟩
    obtain ⟨W', hw, hd⟩ := exists_upd p kit (W c) c G
    have hL : Leaves p rd (W c) c W' := ⟨fun w => by rw [← hw w]; exact hG w (Finset.mem_univ w), hd⟩
    have e : ((rd p c).arrays G : sProp 𝕄) = StableHlo.held (c.tc : Thread nD τ) (arrRefs (pcfgs (F := F) p).spec) W' := by
      rw [← arrays_held (pcfgs (F := F)) adm (plain W) p kit c (fun w => by unfold Dat.share; split <;> rfl) G W' hw]
      unfold RDat.arrays Dat.arrays RDat.share Dat.share
      exact bigSep_congr fun w _ => by rw [hq c w]; rfl
    imodintro
    iexists W'
    isplitr; · ipureintro; exact hL
    unfold stateAt
    rw [StableHlo.held_sub_split (c.tc : Thread nD τ) (arrRefs_sub_ucRefs _ kit.to₀.win.arr_unscoped) W', ← e,
      StableHlo.held_congr (c.tc : Thread nD τ) (S := ucRefs τ sig \ arrRefs (pcfgs (F := F) p).spec) hd]
    isplitl [Ha Hr]
    · isplitl [Ha]; · unfold RDat.arrays; iexact Ha
      iexact Hr
    isplitl [Hp]; · iexact Hp
    unfold RDat.owesAt owesWithin
    rw [howed c (Fin.last _)]
    icases HO with ⟨%Wd, -, HO⟩; iexists Wd; iexact HO

/-! ## The two records -/

theorem rds_owed (V : Dev nD → Valuation τ sig (Elt F)) (p : Fin 2) (c : Dev nD) (t) : (rds V p c).owed t = 0 := by
  match p with
  | ⟨0, _⟩ => rfl
  | ⟨1, _⟩ => rfl
theorem rds_recorded (V : Dev nD → Valuation τ sig (Elt F)) (p : Fin 2) (c : Dev nD) : (rds V p c).recorded 0 = Set.univ := by
  match p with
  | ⟨0, _⟩ => rfl
  | ⟨1, _⟩ => rfl
theorem rds_q (V : Dev nD → Valuation τ sig (Elt F)) (p : Fin 2) (c : Dev nD) (w) : (rds V p c).q w = fullShare := by
  match p with
  | ⟨0, _⟩ => rfl
  | ⟨1, _⟩ => rfl
theorem rds_A (V : Dev nD → Valuation τ sig (Elt F)) (p : Fin 2) (c : Dev nD) (w) : (rds V p c).A w = V c (arrOf (F := F) p w) := by
  match p with
  | ⟨0, _⟩ => rfl
  | ⟨1, _⟩ => rfl
attribute [local irreducible] scopedRest

theorem rds_in (V : Dev nD → Valuation τ sig (Elt F)) (p : Fin 2) (c : Dev nD) :
    (scopedRest (pin (pcfgs (F := F)) adm p).spec c : sProp 𝕄) ⊢ (rds V p c).Φ 0 := by
  match p with
  | ⟨0, _⟩ => exact .rfl
  | ⟨1, _⟩ => exact phi1_in (V c) c
theorem rds_out (V : Dev nD → Valuation τ sig (Elt F)) (p : Fin 2) (c : Dev nD) :
    (rds V p c).Φ (Fin.last (pin (pcfgs (F := F)) adm p).N) ⊢ (scopedRest (pin (pcfgs (F := F)) adm p).spec c : sProp 𝕄) := by
  match p with
  | ⟨0, _⟩ => exact .rfl
  | ⟨1, _⟩ => exact phi1_out (V c) c _
theorem rds_body (V : Dev nD → Valuation τ sig (Elt F)) (p : Fin 2) (c : Dev nD) :
    (rds V p c).BodyObligation (defs₀ (F := F)) Variants.none () Set.univ := by
  match p with
  | ⟨0, _⟩ => exact body0 (V c) c
  | ⟨1, _⟩ => exact body1 (V c) c
theorem kits (p : Fin 2) : PLaunchFacts (nD := nD) (τ := τ) (pcfgs (F := F)) p := by
  match p with
  | ⟨0, _⟩ => exact launch0.toP
  | ⟨1, _⟩ => exact launch1.toP

/-- Region `p`'s record, entered at `V`. -/
def regs (p : Fin 2) (V : Dev nD → Valuation τ sig (Elt F)) : RDat.RegionSeg (pcfgs (F := F)) adm (rds V) () (defs₀ (F := F)) Variants.none Lx lvx p :=
  regSeg p (rds V) (kits p) (rds_body V p) (rds_owed V p) (rds_recorded V p) V (rds_q V p) (rds_A V p) (rds_in V p) (rds_out V p)

/-- A buffer that is no output of a region is left as it was. -/
theorem leaves_of (p : Fin 2) (V : Dev nD → Valuation τ sig (Elt F)) (c : Dev nD) (W' : Valuation τ sig (Elt F)) (h : Leaves p (rds V) (V c) c W')
    (d : DevRef τ sig) (hu : d ∈ ucRefs τ sig) (hd : ∀ w, ((pin (pcfgs (F := F)) adm p).win w).isOut = true → arrOf (F := F) p w ≠ d) : W' d = V c d := by
  by_cases hm : d ∈ arrRefs (τ := τ) (pcfgs (F := F) p).spec
  · obtain ⟨r, hr, rfl⟩ := Finset.mem_map.mp hm
    obtain ⟨w, -, rfl⟩ := Finset.mem_image.mp hr
    have ho : ((pin (pcfgs (F := F)) adm p).win w).isOut = false := by
      cases hb : ((pin (pcfgs (F := F)) adm p).win w).isOut with
      | false => rfl
      | true => exact absurd rfl (hd w hb)
    exact ((congrFun (RDat.ArrAt_in (rds V p c) w ho (pin (pcfgs (F := F)) adm p).N) (W' (arrOf (F := F) p w))).mp (h.1 w)).trans (rds_A V p c w)
  · exact h.2 d (Finset.mem_sdiff.mpr ⟨hu, hm⟩)

end Cert.KernelIdeal.Hand

end
-- ==== Proof.KernelIdealRun.lean ====
/-
  The two regions as records of the launch library, and the run of the whole program: every weakly fair execution ends, with
  the arguments as launched, every counter at zero and the two results among what the regions' relations allow.
-/
module

public import proofs.«01_k».proof.Proof.KernelIdealSeg
public import Idealize.ShloMosaic.Lib.Pipeline.RegionsForgetR
public import Idealize.ShloMosaic.Lib.Pipeline.RegionArraysF
public import Idealize.ShloMosaic.Lib.Pipeline.ArrRel
public import Idealize.ShloMosaic.Lib.HostLoop.Lifted

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

/-! ## The run -/

attribute [local irreducible] scopedRest

variable (m : (ℓ : Loc nD τ sig) → Buf (Elt F) ℓ)

/-- The host stretch's valuation. -/
def VH (c : Dev nD) : Valuation τ sig (Elt F) := StableHlo.after hostOps0 (V0 m c)

/-- No host loop. -/
abbrev noLoops : Fin 0 → Prog (TpuEff nD τ sig (Elt F) (HostLoop.Sig (Pipeline.Sig Λ₀ (Fin 2) fun p => (pcfgs (F := F) p).Adm) 0) .tc) PUnit := fun l => l.elim0

/-- A ticket per region, each in its own copy of the rounds algebra. -/
def tks (V : Dev nD → Valuation τ sig (Elt F)) (p : Fin 2) : Ticket (Ix := Unit) (Name := ℕ) (U := UU) (Lvl := ℕ) (nD := nD) (τ := τ) (pcfgs (F := F)) adm :=
  { p := p, pdats := plain V, EP := embAt p }

/-- What rides along a host stretch. -/
abbrev ride (c : Dev nD) : sProp 𝕄 := iprop((∃ r, prngReg c r) ∗ ∃ Wd, owes (c : Thread nD τ) (0 : CellTallies nD τ sig Unit) Wd)

/-- Valuations on every core. -/
abbrev Vals : Type := Dev nD → Valuation τ sig (Elt F)

/-- The program as a host stretch and the two regions, the second over whatever the first may leave. -/
def csegs : List (CSeg (pcfgs (F := F)) adm (defs₀ (F := F)) Variants.none Lx lvx noLoops (tks (VH m))) :=
  [ CSeg.ofOps _ _ _ _ _ _ _ _ (ucRefs τ sig) hostOps0
      (fun op h => Pipeline.sub_ucRefs op ((List.forall_iff_forall_mem.mp hostOps0_sub) op h))
      (fun op h => (List.forall_iff_forall_mem.mp hostOps0_fresh) op h) (V0 m) ride,
    CSeg.regionAtR _ _ () cellOf_inj _ _ _ _ _ _ (0 : Fin 2) (rds (VH m)) (regs 0 (VH m)),
    CSeg.regionFR _ _ () cellOf_inj _ _ _ _ _ _ (1 : Fin 2) (fun x : Vals (F := F) => rds x) (fun x => regs 1 x) (fun x c => Leaves 0 (rds (VH m)) (VH m c) c (x c)) ]

set_option maxRecDepth 200000 in
/-- The program with its launches at the labels of a program of no host loops. -/
theorem main_chainL (d : Dev nD) :
    HostLoop.liftProg (L := 0) (main (F := F) d) =
      Pipeline.chain [StableHlo.seq hostOps0, Prog.lift (.customCall (HostLoop.inner (Pipeline.entry 0)) ()),
        Prog.lift (.customCall (HostLoop.inner (Pipeline.entry 1)) ())] := by
  rw [main_chain, HostLoop.liftProg_chain]
  simp only [List.map_cons, List.map_nil, HostLoop.liftProg_seq]
  rfl

set_option maxRecDepth 200000 in
/-- The program is its segments in order. -/
theorem main_runL (d : Dev nD) : HostLoop.liftProg (L := 0) (main (F := F) d) = CSeg.runL (csegs m) :=
  (main_chainL d).trans (by chain_rfl)

/-- What the program leaves on core `c`: its unscoped buffers at a valuation the second region may leave from one the first may
    leave. -/
def Ends (c : Dev nD) (s : MemSt nD τ sig (Elt F)) : Prop :=
  ∃ x y : Vals (F := F), Leaves 0 (rds (VH m)) (VH m c) c (x c) ∧ Leaves 1 (rds x) (x c) c (y c)
    ∧ ∀ d ∈ ucRefs τ sig, s.mem (c, d) = y c d

/-- The segments link up: the first region starts from the host stretch's valuation, the second from what the first leaves. -/
theorem csegs_chain : CSeg.Chains (fun c => iprop(StableHlo.held (c.tc : Thread nD τ) (ucRefs τ sig) (V0 m c) ∗ ride c)) (csegs m)
    (fun c => iprop((∃ x y : Vals (F := F), ⌜Leaves 0 (rds (VH m)) (VH m c) c (x c) ∧ Leaves 1 (rds x) (x c) c (y c)⌝
      ∗ StableHlo.held (c.tc : Thread nD τ) (ucRefs τ sig) (y c)) ∗ ∃ W, owes (c.tc : Thread nD τ) (0 : CellTallies nD τ sig Unit) W)) := by
  refine ⟨fun _ => .rfl, fun _ => .rfl, fun c => ?_, fun c => ?_⟩
  · show iprop(∃ W', ⌜Leaves 0 (rds (VH m)) (VH m c) c W'⌝ ∗ stateAt W' c)
      ⊢ iprop(∃ x : Vals (F := F), ⌜Leaves 0 (rds (VH m)) (VH m c) c (x c)⌝ ∗ stateAt (x c) c)
    iintro ⟨%W', %hx, H⟩
    iexists (fun _ => W')
    isplitr; · ipureintro; exact hx
    iexact H
  · show iprop(∃ x : Vals (F := F), ⌜Leaves 0 (rds (VH m)) (VH m c) c (x c)⌝ ∗ ∃ W', ⌜Leaves 1 (rds x) (x c) c W'⌝ ∗ stateAt W' c) ⊢ _
    unfold stateAt
    iintro ⟨%x, %hx, %W', %hy, Hh, -, HO⟩
    isplitl [Hh]
    · iexists x, (fun _ => W')
      isplitr; · ipureintro; exact ⟨hx, hy⟩
      iexact Hh
    iexact HO

/-- The ghost state the run starts from. -/
def ghost₀ : UU := ((fun _ => initOf (Pipeline.cells (pin (pcfgs (F := F)) adm) cellOf_inj) (Pipeline.launchToks (pin (pcfgs (F := F)) adm) cellOf_inj) : IProdConst (Fin 2) (URounds (GSem nD τ sig) Unit)), 1)

set_option backward.isDefEq.respectTransparency.types false in
/-- Every weakly fair execution from memory `m` ends, with every counter zero. -/
theorem run_lifted (ρ : Dev nD → PrngReg) :
    θ_run (HostLoop.defs noLoops (defs (F := F))) (onTc (τ := τ) fun d => HostLoop.liftProg (L := 0) (main (F := F) d)) ⟨m, fun _ => 0, ρ⟩
      (fun r => (∀ c : Dev nD, Ends m c r.2) ∧ r.2.sem = fun _ => 0) := by
  refine Pipeline.θ_run_regions_loop_kit_sems (pcfgs (F := F)) adm cellOf_inj (defs₀ (F := F)) Variants.none Lx lvx noLoops (tks (VH m)) m ρ _
    (csegs m) (fun c Q => Entails.of_eq (by rw [main_runL m c])) (by
      unfold csegs
      refine List.pairwise_cons.mpr ⟨fun _ _ => Finset.disjoint_empty_left _, List.pairwise_cons.mpr ⟨fun s hs => ?_, List.pairwise_singleton ..⟩⟩
      cases hs with
      | head => exact Finset.disjoint_singleton.mpr (by decide)
      | tail _ hs => cases hs)
    (O₀ := 0) (hL := fun _ _ => rfl) (G := fun _ => iprop(emp)) (u₀ := ghost₀ (F := F))
    ?_ _ _ (csegs_chain m) ?_ (QY := fun c s => Ends m c s) (fun c s' => ?_)
    (hQ := fun _ h hz => ⟨h, funext fun g => hz g (.inr (regions_no_unscoped g.2))⟩)
  · unfold ghost₀
    iintro Hu
    ihave H := (ownU_pair _ _) $$ Hu
    icases H with ⟨HP, -⟩
    ihave HP := (own_iprod _) $$ HP
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach Lx lvx fun c => ?_
    rw [show unscopedBufs c (fun b => m ((c : Thread nD τ).loc b)) = StableHlo.held (c : Thread nD τ) (ucRefs τ sig) (V0 m c) from unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨%x, %y, %hxy, Hh⟩, HSI⟩
    unfold StableHlo.held
    ihave Hr := (pointsTo_read_all (Pipeline.ucRefs τ sig) (fun b => ((c : Thread nD τ).1, b)) (y c) s') $$ [Hh HSI]
    · isplitl [Hh] <;> iassumption
    icases Hr with ⟨%h, HSI⟩
    imodintro
    isplitr
    · ipureintro; exact ⟨x, y, hxy.1, hxy.2, h⟩
    · iexact HSI

/-- The same of the program itself. -/
theorem run_main (ρ : Dev nD → PrngReg) :
    θ_run defs (onTc (τ := τ) (main (F := F))) ⟨m, fun _ => 0, ρ⟩ (fun r => (∀ c : Dev nD, Ends m c r.2) ∧ r.2.sem = fun _ => 0) :=
  HostLoop.θ_run_of_lift noLoops (defs (F := F)) (main (F := F)) _ _ (run_lifted m ρ)

/-! ## The arguments -/

theorem uc_of (r : Ref sig .tc) (h : ¬(Proc.devRef (τ := τ) .tc r).isScoped = true) : Proc.devRef (τ := τ) .tc r ∈ ucRefs τ sig :=
  Finset.mem_filter.mpr ⟨StableHlo.devRef_mem_tcRefs r, h⟩

/-- The outputs of the regions are these three buffers. -/
theorem out_refs0 : ∀ w : Fin (pin (pcfgs (F := F)) adm 0).W, ((pin (pcfgs (F := F)) adm 0).win w).isOut = true → arrRef (pin (pcfgs (F := F)) adm 0).spec w = main_v179 := by
  show ∀ w : Fin cfg0.W, (cfg0.win w).isOut = true → arrRef spec0 w = main_v179
  decide
theorem out_refs1 : ∀ w : Fin (pin (pcfgs (F := F)) adm 1).W, ((pin (pcfgs (F := F)) adm 1).win w).isOut = true →
    arrRef (pin (pcfgs (F := F)) adm 1).spec w = main_v180_0 ∨ arrRef (pin (pcfgs (F := F)) adm 1).spec w = main_v180_1 := by
  show ∀ w : Fin cfg1.W, (cfg1.win w).isOut = true → arrRef spec1 w = main_v180_0 ∨ arrRef spec1 w = main_v180_1
  decide

/-- A buffer no segment writes is at the end as at launch. -/
theorem ends_of (c : Dev nD) (s : MemSt nD τ sig (Elt F)) (h : Ends m c s) (r : Ref sig .tc) (hu : ¬(Proc.devRef (τ := τ) .tc r).isScoped = true)
    (h0 : r ∉ hostOps0_W) (h1 : r ≠ main_v179) (h2 : r ≠ main_v180_0) (h3 : r ≠ main_v180_1) :
    s.mem ((c.tc : Thread nD τ).loc r) = m ((c.tc : Thread nD τ).loc r) := by
  obtain ⟨x, y, hx, hy, hs⟩ := h
  refine (hs _ (uc_of r hu)).trans <| (leaves_of 1 x c (y c) hy _ (uc_of r hu) fun w hw => ?_).trans <|
    (leaves_of 0 (VH m) c (x c) hx _ (uc_of r hu) fun w hw => ?_).trans <| (V1_of m c r h0).trans rfl
  · rcases out_refs1 (F := F) w hw with e | e
    · exact StableHlo.devRef_ne_of_ne (by rw [e]; exact fun e' => h2 e'.symm)
    · exact StableHlo.devRef_ne_of_ne (by rw [e]; exact fun e' => h3 e'.symm)
  · exact StableHlo.devRef_ne_of_ne (by rw [out_refs0 (F := F) w hw]; exact fun e' => h1 e'.symm)

/-- The arguments are at the end as at launch. -/
theorem ends_args (c : Dev nD) (s : MemSt nD τ sig (Elt F)) (h : Ends m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2) :=
  ⟨ends_of m c s h main_arg0 (by decide) (by decide) (by decide) (by decide) (by decide),
    ends_of m c s h main_arg1 (by decide) (by decide) (by decide) (by decide) (by decide),
    ends_of m c s h main_arg2 (by decide) (by decide) (by decide) (by decide) (by decide)⟩

end Cert.KernelIdeal.Hand

end
-- ==== Proof.ProbsSums.lean ====
/-
  The kernel's float payloads at one element, on extended reals: a chunk's logits, the chunk sums of their exponentials, and
  the probabilities.
-/
module

public import proofs.«01_k».proof.Proof.KernelIdealPoints
public import Idealize.ShloMosaic.Lib.Pointwise
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat RDat)

/-- The logit of row `i` and column `l` of a chunk. -/
theorem k0_pay2_at (x : Vec Ideal S128x64 .f32) (w : Vec Ideal S64x25088 .f32) (b : Vec Ideal S1x25088 .f32)
    (i : Fin 128) (l : Fin 25088) :
    k0_pay2 x w b (ix2 i l) = (∑ k : Fin 64, x (ix2 i k) * w (ix2 k l)) + b (ix2 0 l) := by
  pointwise [k0_pay2]

/-- A row sum gains the exponentials of a whole chunk's logits. -/
theorem k0_pay3_at (x : Vec Ideal S128x64 .f32) (w : Vec Ideal S64x25088 .f32) (b : Vec Ideal S1x25088 .f32)
    (Y : Vec Ideal S128x1 .f32) (i : Fin 128) :
    k0_pay3 x w b Y (ix2 i 0) = Y (ix2 i 0) + ∑ l : Fin 25088, Ideal.exp ((∑ k : Fin 64, x (ix2 i k) * w (ix2 k l)) + b (ix2 0 l)) := by
  pointwise [k0_pay3, k0_pay2]

/-- A probability of a chunk: the exponential of its logit times the reciprocal of the row sum. -/
theorem k1_pay64_at (x : Vec Ideal S128x64 .f32) (w : Vec Ideal S64x10240 .f32) (b : Vec Ideal S1x10240 .f32)
    (s : Vec Ideal S128x1 .f32) (i : Fin 128) (l : Fin 10240) :
    k1_pay64 x w b s (ix2 i l) = Ideal.exp ((∑ k : Fin 64, x (ix2 i k) * w (ix2 k l)) + b (ix2 0 l)) * Ideal.div 1 (s (ix2 i 0)) := by
  pointwise [k1_pay64]

/-- The zero the row sums start from. -/
theorem k0_pay1_at (i : Fin 128) : (k0_pay1 : FVec Ideal S128x1 .f32) (ix2 i 0) = 0 := by
  pointwise [k0_pay1]

/-- Choosing by a signed comparison of a small number with 24736. -/
theorem select_slt (l : ℕ) (h : l < 25088) (a : EReal) :
    Scalar.select (IntOp.cmpi CmpIPredicate.slt (BitVec.ofNat 32 l) 24736#32) a 0 = if l < 24736 then a else 0 := by
  have e : (BitVec.ofNat 32 l).slt 24736#32 = decide (l < 24736) := by
    rw [BitVec.slt, BitVec.toInt_eq_toNat_of_lt (by rw [BitVec.toNat_ofNat]; omega), BitVec.toNat_ofNat, Nat.mod_eq_of_lt (by omega)]
    exact decide_eq_decide.mpr (by rw [show (24736#32).toInt = 24736 from by decide]; omega)
  unfold IntOp.cmpi Scalar.select
  simp only [e]
  by_cases hl : l < 24736 <;> simp [hl]

/-- A row sum gains the exponentials of the last chunk's logits inside the array. -/
theorem k0_pay4_at (x : Vec Ideal S128x64 .f32) (w : Vec Ideal S64x25088 .f32) (b : Vec Ideal S1x25088 .f32)
    (Y : Vec Ideal S128x1 .f32) (i : Fin 128) (c : grid0.Coords) (hc : (c 0).val = 3) :
    k0_pay4 c x w b Y (ix2 i 0) = Y (ix2 i 0)
      + ∑ l : Fin 25088, if l.val < 24736 then Ideal.exp ((∑ k : Fin 64, x (ix2 i k) * w (ix2 k l)) + b (ix2 0 l)) else 0 := by
  have e : k0_pay4 c x w b Y (ix2 i 0) = Y (ix2 i 0) + ∑ l : Fin 25088, Scalar.select
          (IntOp.cmpi CmpIPredicate.slt (BitVec.ofNat 32 l.val) (Scalar.subi (100000#32) (Scalar.muli (BitVec.ofNat 32 (c 0).val) 25088#32)))
          (Ideal.exp ((∑ k : Fin 64, x (ix2 i k) * w (ix2 k l)) + b (ix2 0 l))) 0 := by
    pointwise [k0_pay4, k0_pay2]
  rw [e, hc]
  refine congrArg _ (Finset.sum_congr rfl fun l _ => ?_)
  exact select_slt l.val l.isLt _

/-! ## The blocks at one element -/

/-- The first region's grid coordinate. -/
theorem coords0_val : ∀ t : Fin cfg0.N, (grid0.coords t 0).val = t.val := by decide +kernel

/-- The second region's grid coordinate. -/
theorem coords1_val : ∀ t : Fin cfg1.N, (grid1.coords t 0).val = t.val := by decide +kernel

/-- Block `t` of window 1 of region 0 starts at the columns' block `t`, and stops at the array's end. -/
theorem index0_1 : ∀ t : Fin cfg0.N, win0_1.index t = ![0, t.val] := by decide +kernel
theorem xsize0_1 : ∀ (t : Fin cfg0.N) (a : Fin 2),
    win0_1.xsize (grid0.coords t) a = (![64, min 25088 (100000 - t.val * 25088)] : Fin 2 → ℕ) a := by decide +kernel

/-- Block `t` of window 2 of region 0 starts at the columns' block `t`, and stops at the array's end. -/
theorem index0_2 : ∀ t : Fin cfg0.N, win0_2.index t = ![0, t.val] := by decide +kernel
theorem xsize0_2 : ∀ (t : Fin cfg0.N) (a : Fin 2),
    win0_2.xsize (grid0.coords t) a = (![1, min 25088 (100000 - t.val * 25088)] : Fin 2 → ℕ) a := by decide +kernel

/-- Block `t` of window 1 of region 1 starts at the columns' block `t`, and stops at the array's end. -/
theorem index1_1 : ∀ t : Fin cfg1.N, win1_1.index t = ![0, t.val] := by decide +kernel
theorem xsize1_1 : ∀ (t : Fin cfg1.N) (a : Fin 2),
    win1_1.xsize (grid1.coords t) a = (![64, min 10240 (100000 - t.val * 10240)] : Fin 2 → ℕ) a := by decide +kernel

/-- Block `t` of window 2 of region 1 starts at the columns' block `t`, and stops at the array's end. -/
theorem index1_2 : ∀ t : Fin cfg1.N, win1_2.index t = ![0, t.val] := by decide +kernel
theorem xsize1_2 : ∀ (t : Fin cfg1.N) (a : Fin 2),
    win1_2.xsize (grid1.coords t) a = (![1, min 10240 (100000 - t.val * 10240)] : Fin 2 → ℕ) a := by decide +kernel

/-- Block `t` of window 5 of region 1 starts at the columns' block `t`, and stops at the array's end. -/
theorem index1_5 : ∀ t : Fin cfg1.N, win1_5.index t = ![0, t.val] := by decide +kernel
theorem xsize1_5 : ∀ (t : Fin cfg1.N) (a : Fin 2),
    win1_5.xsize (grid1.coords t) a = (![128, min 10240 (100000 - t.val * 10240)] : Fin 2 → ℕ) a := by decide +kernel

variable {c : Dev nD}

/-- Region 0: the weights' block at a column inside the array. -/
theorem fet0_1_at (A : Arr0 (F := Ideal) c) (t : Fin cfg0.N) (d : Vec Ideal S64x25088 .f32) (k : Fin 64) (l : Fin 25088)
    (h : t.val * 25088 + l.val < 100000) :
    fet0 A 1 t d (ix2 k l) = (A 1 : Vec Ideal S64x100000 .f32) (ix2 k ⟨t.val * 25088 + l.val, h⟩) := by
  unfold fet0 Pipeline.Window.fill
  rw [dif_pos]
  · blk_simp
    refine congrArg (A 1) ?_
    blk_ext [index0_1]
  · refine (Pipeline.Window.moved_iff _ _ _).mpr fun a => ?_
    refine lt_of_lt_of_eq ?_ (xsize0_1 t a).symm
    have hk := k.isLt
    have hl := l.isLt
    match a with
    | 0 => exact hk
    | 1 => show l.val < min 25088 (100000 - t.val * 25088); omega

/-- Region 0: the bias' block at a column inside the array. -/
theorem fet0_2_at (A : Arr0 (F := Ideal) c) (t : Fin cfg0.N) (d : Vec Ideal S1x25088 .f32) (k : Fin 1) (l : Fin 25088)
    (h : t.val * 25088 + l.val < 100000) :
    fet0 A 2 t d (ix2 k l) = (A 2 : Vec Ideal S1x100000 .f32) (ix2 k ⟨t.val * 25088 + l.val, h⟩) := by
  unfold fet0 Pipeline.Window.fill
  rw [dif_pos]
  · blk_simp
    refine congrArg (A 2) ?_
    blk_ext [index0_2]
  · refine (Pipeline.Window.moved_iff _ _ _).mpr fun a => ?_
    refine lt_of_lt_of_eq ?_ (xsize0_2 t a).symm
    have hk := k.isLt
    have hl := l.isLt
    match a with
    | 0 => exact hk
    | 1 => show l.val < min 25088 (100000 - t.val * 25088); omega

/-- Region 1: the weights' block at a column inside the array. -/
theorem fet1_1_at (A : Arr1 (F := Ideal) c) (t : Fin cfg1.N) (d : Vec Ideal S64x10240 .f32) (k : Fin 64) (l : Fin 10240)
    (h : t.val * 10240 + l.val < 100000) :
    fet1 A 1 t d (ix2 k l) = (A 1 : Vec Ideal S64x100000 .f32) (ix2 k ⟨t.val * 10240 + l.val, h⟩) := by
  unfold fet1 Pipeline.Window.fill
  rw [dif_pos]
  · blk_simp
    refine congrArg (A 1) ?_
    blk_ext [index1_1]
  · refine (Pipeline.Window.moved_iff _ _ _).mpr fun a => ?_
    refine lt_of_lt_of_eq ?_ (xsize1_1 t a).symm
    have hk := k.isLt
    have hl := l.isLt
    match a with
    | 0 => exact hk
    | 1 => show l.val < min 10240 (100000 - t.val * 10240); omega

/-- Region 1: the bias' block at a column inside the array. -/
theorem fet1_2_at (A : Arr1 (F := Ideal) c) (t : Fin cfg1.N) (d : Vec Ideal S1x10240 .f32) (k : Fin 1) (l : Fin 10240)
    (h : t.val * 10240 + l.val < 100000) :
    fet1 A 2 t d (ix2 k l) = (A 2 : Vec Ideal S1x100000 .f32) (ix2 k ⟨t.val * 10240 + l.val, h⟩) := by
  unfold fet1 Pipeline.Window.fill
  rw [dif_pos]
  · blk_simp
    refine congrArg (A 2) ?_
    blk_ext [index1_2]
  · refine (Pipeline.Window.moved_iff _ _ _).mpr fun a => ?_
    refine lt_of_lt_of_eq ?_ (xsize1_2 t a).symm
    have hk := k.isLt
    have hl := l.isLt
    match a with
    | 0 => exact hk
    | 1 => show l.val < min 10240 (100000 - t.val * 10240); omega

/-- Region 0: the state are read whole. -/
theorem fet0_0_at (A : Arr0 (F := Ideal) c) (t : Fin cfg0.N) (d : Vec Ideal S128x64 .f32) (i : Fin 128) (k : Fin 64) :
    fet0 A 0 t d (ix2 i k) = (A 0 : Vec Ideal S128x64 .f32) (ix2 i k) := by
  have e : ∀ (t : Fin cfg0.N) (a : Fin 2), win0_0.index t a = 0 := by decide +kernel
  unfold fet0 Pipeline.Window.fill
  rw [dif_pos]
  · blk_simp
    refine congrArg (A 0) ?_
    blk_ext [e]
  · rfl

/-- Region 1: the state are read whole. -/
theorem fet1_0_at (A : Arr1 (F := Ideal) c) (t : Fin cfg1.N) (d : Vec Ideal S128x64 .f32) (i : Fin 128) (k : Fin 64) :
    fet1 A 0 t d (ix2 i k) = (A 0 : Vec Ideal S128x64 .f32) (ix2 i k) := by
  have e : ∀ (t : Fin cfg1.N) (a : Fin 2), win1_0.index t a = 0 := by decide +kernel
  unfold fet1 Pipeline.Window.fill
  rw [dif_pos]
  · blk_simp
    refine congrArg (A 0) ?_
    blk_ext [e]
  · rfl

/-- Region 1: the row sums are read whole. -/
theorem fet1_4_at (A : Arr1 (F := Ideal) c) (t : Fin cfg1.N) (d : Vec Ideal S128x1 .f32) (i : Fin 128) (k : Fin 1) :
    fet1 A 4 t d (ix2 i k) = (A 4 : Vec Ideal S128x1 .f32) (ix2 i k) := by
  have e : ∀ (t : Fin cfg1.N) (a : Fin 2), win1_4.index t a = 0 := by decide +kernel
  unfold fet1 Pipeline.Window.fill
  rw [dif_pos]
  · blk_simp
    refine congrArg (A 4) ?_
    blk_ext [e]
  · rfl

end Cert.KernelIdeal.Hand
-- ==== Proof.ProbsSeq.lean ====
/-
  The first region's result: each row's sum of the exponentials of its logits over the whole vocabulary.
-/
module

public import proofs.«01_k».proof.Proof.ProbsSums

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat RDat)

/-- The logit of row `i` and vocabulary entry `j`. -/
def logit (x : Vec Ideal S128x64 .f32) (w : Vec Ideal S64x100000 .f32) (b : Vec Ideal S1x100000 .f32) (i : Fin 128) (j : Fin 100000) : EReal :=
  (∑ k : Fin 64, x (ix2 i k) * w (ix2 k j)) + b (ix2 0 j)

/-- The exponential of a row's logit at a natural number, zero past the vocabulary. -/
def expAt (x : Vec Ideal S128x64 .f32) (w : Vec Ideal S64x100000 .f32) (b : Vec Ideal S1x100000 .f32) (i : Fin 128) (n : ℕ) : EReal :=
  if h : n < 100000 then Ideal.exp (logit x w b i ⟨n, h⟩) else 0

/-- The row's terms summed over a range that covers the vocabulary are the sum over the vocabulary. -/
theorem sum_expAt (x : Vec Ideal S128x64 .f32) (w : Vec Ideal S64x100000 .f32) (b : Vec Ideal S1x100000 .f32) (i : Fin 128) :
    ∑ n ∈ Finset.range (4 * 25088), expAt x w b i n = ∑ j : Fin 100000, Ideal.exp (logit x w b i j) := by
  rw [show (4 * 25088 : ℕ) = 100000 + 352 from rfl, Finset.sum_range_add, Finset.sum_range]
  rw [Finset.sum_eq_zero (s := Finset.range 352) fun n _ => by unfold expAt; rw [dif_neg (by omega)], add_zero]
  exact Finset.sum_congr rfl fun j _ => by unfold expAt; rw [dif_pos j.isLt]

/-- Which of the first region's conditions hold at a point: the first starts the sums, all but the last add a whole chunk, the
    last adds the part of its chunk inside the array. -/
theorem conds0 : ∀ t : Fin cfg0.N, (k0_cond1 (grid0.coords t) = 1#1 ↔ t.val = 0) ∧ (k0_cond2 (grid0.coords t) = 1#1 ↔ t.val < 3)
    ∧ (k0_cond3 (grid0.coords t) = 1#1 ↔ t.val = 3) := by decide +kernel

variable {c : Dev nD}

/-- The running row sums before point `n`, from 1 on: the terms of the chunks so far. -/
theorem sumR_at (A : Arr0 (F := Ideal) c) (i : Fin 128) : ∀ (n : ℕ) (X : Vec Ideal S128x1 .f32), SumR A (n + 1) X →
    X (ix2 i 0) = ∑ j ∈ Finset.range ((n + 1) * 25088), expAt (A 0) (A 1) (A 2) i j := by
  intro n
  induction n with
  | zero =>
    rintro X ⟨h, d0, d1, d2, Y, -, rfl⟩
    obtain ⟨c1, c2, c3⟩ := conds0 ⟨0, h⟩
    unfold stat0
    simp only [c1, c2, c3, if_true, show (0:ℕ) < 3 from by omega, show ¬ (0:ℕ) = 3 from by omega, if_false]
    rw [k0_pay3_at, k0_pay1_at, zero_add, show (0 + 1) * 25088 = 25088 from rfl, Finset.sum_range]
    refine Finset.sum_congr rfl fun l _ => ?_
    have hl : (⟨0, h⟩ : Fin cfg0.N).val * 25088 + l.val < 100000 := by have := l.isLt; show 0 * 25088 + l.val < 100000; omega
    unfold expAt logit
    rw [dif_pos (show l.val < 100000 from by have := l.isLt; omega), fet0_2_at A ⟨0, h⟩ d2 0 l hl]
    simp only [fet0_0_at, fet0_1_at A ⟨0, h⟩ d1 _ l hl, Nat.zero_mul, Nat.zero_add]
  | succ n ih =>
    rintro X ⟨h, d0, d1, d2, Y, hY, rfl⟩
    have h4 : n + 1 < 4 := h
    have e := ih Y hY
    rw [show (n + 1 + 1) * 25088 = (n + 1) * 25088 + 25088 from by ring, Finset.sum_range_add, ← e]
    obtain ⟨c1, c2, c3⟩ := conds0 ⟨n + 1, h⟩
    unfold stat0
    by_cases hn : n = 2
    · subst hn
      simp only [c1, c2, c3, show ¬ (2 + 1:ℕ) < 3 from by omega, show ¬ (2 + 1:ℕ) = 0 from by omega, if_false, if_true]
      rw [k0_pay4_at _ _ _ _ _ _ (coords0_val ⟨3, h⟩), Finset.sum_range]
      refine congrArg _ (Finset.sum_congr rfl fun l _ => ?_)
      unfold expAt
      by_cases hl : l.val < 24736
      · have hl' : (⟨2 + 1, h⟩ : Fin cfg0.N).val * 25088 + l.val < 100000 := by show (2 + 1) * 25088 + l.val < 100000; omega
        rw [if_pos hl, dif_pos (by omega), fet0_2_at A ⟨2 + 1, h⟩ d2 0 l hl']
        unfold logit
        simp only [fet0_0_at, fet0_1_at A ⟨2 + 1, h⟩ d1 _ l hl']
      · rw [if_neg hl, dif_neg (by omega)]
    · simp only [c1, c2, c3, show (n + 1) < 3 from by omega, show ¬ (n + 1) = 0 from by omega, show ¬ (n + 1) = 3 from by omega, if_false, if_true]
      rw [k0_pay3_at, Finset.sum_range]
      refine congrArg _ (Finset.sum_congr rfl fun l _ => ?_)
      unfold expAt
      have hl := l.isLt
      have hl' : (⟨n + 1, h⟩ : Fin cfg0.N).val * 25088 + l.val < 100000 := by show (n + 1) * 25088 + l.val < 100000; omega
      rw [dif_pos (show (n + 1) * 25088 + l.val < 100000 from hl'), fet0_2_at A ⟨n + 1, h⟩ d2 0 l hl']
      unfold logit
      simp only [fet0_0_at, fet0_1_at A ⟨n + 1, h⟩ d1 _ l hl']

/-- After the four chunks a row's sum is over the whole vocabulary. -/
theorem sumR_four (A : Arr0 (F := Ideal) c) (i : Fin 128) (X : Vec Ideal S128x1 .f32) (h : SumR A 4 X) :
    X (ix2 i 0) = ∑ j : Fin 100000, Ideal.exp (logit (A 0) (A 1) (A 2) i j) :=
  (sumR_at A i 3 X h).trans (sum_expAt _ _ _ i)

end Cert.KernelIdeal.Hand
-- ==== Proof.ProbsArr.lean ====
/-
  The kernel's first result: each probability is the exponential of its logit times the reciprocal of its row's sum.
-/
module

public import proofs.«01_k».proof.Proof.ProbsSeq
public import proofs.«01_k».proof.Proof.KernelIdealRun
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline

variable (m : (ℓ : Loc nD τ sig) → Buf (Elt Ideal) ℓ)

/-- The host code leaves in the bias's row the bias. -/
theorem host_bias (c : Dev nD) (j : Fin 100000) :
    (VH m c main_v178 : Vec Ideal S1x100000 .f32) (ix2 0 j) = (m ((c.tc : Thread nD τ).loc main_arg2) : Vec Ideal S100000 .f32) (ix1 j) := by
  have e : VH m c main_v178 = shapeCast S1x100000 (V0 m c main_arg2 : Vec Ideal S100000 .f32) shapeCasts_S100000_S1x100000 := by
    unfold VH
    after_reads_simp [hostOps0]
    rfl
  rw [e]
  pointwise

/-- A buffer the host code and the first region leave alone is, after them, as at launch. -/
theorem leaves0_of (c : Dev nD) (x : Vals (F := Ideal)) (hx : Leaves 0 (rds (VH m)) (VH m c) c (x c)) (r : Ref sig .tc)
    (hu : ¬(Proc.devRef (τ := τ) .tc r).isScoped = true) (h1 : r ≠ main_v179) : x c r = VH m c r :=
  leaves_of 0 (VH m) c (x c) hx _ (uc_of r hu) fun w hw => StableHlo.devRef_ne_of_ne (by rw [out_refs0 (F := Ideal) w hw]; exact fun e' => h1 e'.symm)

/-- The logit of row `i` and vocabulary entry `j` of a state, weights and a bias. -/
def rowLogit (x : Vec Ideal S128x64 .f32) (w : Vec Ideal S64x100000 .f32) (b : Vec Ideal S100000 .f32) (i : Fin 128) (j : Fin 100000) : EReal :=
  (∑ k : Fin 64, x (ix2 i k) * w (ix2 k j)) + b (ix1 j)

/-- The program's logits, from the arguments at launch. -/
def argLogit (c : Dev nD) (i : Fin 128) (j : Fin 100000) : EReal :=
  rowLogit (m ((c.tc : Thread nD τ).loc main_arg0)) (m ((c.tc : Thread nD τ).loc main_arg1)) (m ((c.tc : Thread nD τ).loc main_arg2)) i j

/-- The host stretch's arrays give the program's logits. -/
theorem logit_host (c : Dev nD) (i : Fin 128) (j : Fin 100000) :
    logit (VH m c main_arg0) (VH m c main_arg1) (VH m c main_v178) i j = argLogit m c i j := by
  have e0 : VH m c main_arg0 = m ((c.tc : Thread nD τ).loc main_arg0) := V1_of m c main_arg0 (by decide)
  have e1 : VH m c main_arg1 = m ((c.tc : Thread nD τ).loc main_arg1) := V1_of m c main_arg1 (by decide)
  unfold logit argLogit rowLogit
  rw [host_bias, e0, e1]

theorem whole0_3 : (cfg0.win 3).WholeAt ⟨3, by decide⟩ := by decide +kernel

/-- The first region leaves in its result each row's sum. -/
theorem sums_at (c : Dev nD) (x : Vals (F := Ideal)) (hx : Leaves 0 (rds (VH m)) (VH m c) c (x c)) (i : Fin 128) :
    (x c main_v179 : Vec Ideal S128x1 .f32) (ix2 i 0) = ∑ j : Fin 100000, Ideal.exp (argLogit m c i j) := by
  have hG : (rd0 (VH m c) c).ArrAt 3 cfg0.N (x c main_v179) := hx.1 3
  obtain ⟨X, ⟨Y, -, hX⟩, e⟩ := RDat.ArrAt.emb_eq_of_wholeAt (rd := rd0 (VH m c) c) hG whole0_3
  have e' := e (ix2 i 0)
  refine Eq.trans ?_ (((sumR_four _ i X hX)).trans (Finset.sum_congr rfl fun j _ => congrArg _ (logit_host m c i j)))
  exact e'

/-- The first result's whole contents. -/
def probs (c : Dev nD) : Vec Ideal S128x100000 .f32 := fun y =>
  Ideal.exp (argLogit m c (y 0) (y 1)) * Ideal.div 1 (∑ j : Fin 100000, Ideal.exp (argLogit m c (y 0) j))

theorem covers1_5 : (cfg1.win 5).Covers := by decide +kernel

/-- What the second region leaves of a chunk's probabilities, at a column inside the array. -/
theorem probsAt_at {c : Dev nD} (A : Arr1 (F := Ideal) c) (t : Fin cfg1.N) (X : Vec Ideal S128x10240 .f32) (hX : ProbsAt A t X)
    (i : Fin 128) (l : Fin 10240) (h : t.val * 10240 + l.val < 100000) :
    X (ix2 i l) = Ideal.exp (logit (A 0) (A 1) (A 2) i ⟨t.val * 10240 + l.val, h⟩) * Ideal.div 1 ((A 4 : Vec Ideal S128x1 .f32) (ix2 i 0)) := by
  obtain ⟨d0, d1, d2, d4, rfl⟩ := hX
  rw [k1_pay64_at, fet1_2_at A t d2 0 l h, fet1_4_at]
  unfold logit
  simp only [fet1_0_at, fet1_1_at A t d1 _ l h]

/-- The second region leaves in its first result every probability. -/
theorem probs_at (c : Dev nD) (x y : Vals (F := Ideal)) (hx : Leaves 0 (rds (VH m)) (VH m c) c (x c))
    (hy : Leaves 1 (rds x) (x c) c (y c)) : y c main_v180_0 = probs m c := by
  have hG : (rd1 (x c) c).ArrAt 5 cfg1.N (y c main_v180_0) := hy.1 5
  obtain ⟨X, hX, hA⟩ := RDat.ArrAt.exists_exact (rd := rd1 (x c) c) hG
  refine (hA (Function.update (fun _ _ _ => Classical.arbitrary _) 5 X) fun u _ _ => by rw [Function.update_self]).trans ?_
  refine Dat.arrAt_eq_of_covers _ 5 _ covers1_5 fun t hf z => ?_
  show Function.update (fun _ _ _ => Classical.arbitrary _) 5 X 5 t ((cfg1.win 5).xinj (cfg1.grid.coords t) z) = _
  rw [Function.update_self]
  obtain ⟨Y, -, d0, d1, d2, d4, e⟩ := hX t t.isLt hf
  have b0 : (z 0 : ℕ) < 128 := lt_of_lt_of_eq (z 0).isLt (xsize1_5 t 0)
  have b1 : (z 1 : ℕ) < min 10240 (100000 - t.val * 10240) := lt_of_lt_of_eq (z 1).isLt (xsize1_5 t 1)
  have h1 : t.val * 10240 + (z 1 : ℕ) < 100000 := by omega
  have hl : (z 1 : ℕ) < 10240 := by omega
  have ez : (cfg1.win 5).xinj (cfg1.grid.coords t) z = ix2 (⟨z 0, b0⟩ : Fin 128) (⟨z 1, hl⟩ : Fin 10240) :=
    funext fun a => match a with | 0 => rfl | 1 => rfl
  have ee : ((cfg1.win 5).blk t).view.emb z = ix2 (⟨z 0, b0⟩ : Fin 128) (⟨t.val * 10240 + (z 1 : ℕ), h1⟩ : Fin 100000) := by
    blk_ext [index1_5]
  rw [ez, ee, probsAt_at (arrs1 (x c) c) t (X t) ⟨d0, d1, d2, d4, e⟩ ⟨z 0, b0⟩ ⟨z 1, hl⟩ h1,
    show (arrs1 (x c) c 2) = VH m c main_v178 from leaves0_of m c x hx main_v178 (by decide) (by decide),
    show (arrs1 (x c) c 0) = VH m c main_arg0 from leaves0_of m c x hx main_arg0 (by decide) (by decide),
    show (arrs1 (x c) c 1) = VH m c main_arg1 from leaves0_of m c x hx main_arg1 (by decide) (by decide)]
  refine congrArg₂ (fun a b : EReal => Ideal.exp a * Ideal.div 1 b) (logit_host m c ⟨z 0, b0⟩ ⟨t.val * 10240 + (z 1 : ℕ), h1⟩) ?_
  exact sums_at m c x hx ⟨z 0, b0⟩

/-- At the end the first result holds every probability. -/
theorem ends_probs (c : Dev nD) (s : MemSt nD τ sig (Elt Ideal)) (h : Ends m c s) :
    s.mem ((c.tc : Thread nD τ).loc main_v180_0) = probs m c := by
  obtain ⟨x, y, hx, hy, hs⟩ := h
  exact (hs _ (uc_of main_v180_0 (by decide))).trans (probs_at m c x y hx hy)

end Cert.KernelIdeal.Hand
-- ==== Proof.SoftmaxReal.lean ====
/-
  Softmax on real logits: subtracting a real number from every logit changes no probability, and dividing by the sum is
  multiplying by its reciprocal.
-/
module

public import Idealize.ShloMosaic.Lib.Pointwise
public import Idealize.ShloMosaic.Lib.IdealHost

@[expose] public section

noncomputable section

namespace Cert.Hand

open Idealize.ShloMosaic

/-- The exponential of a real number, on extended reals. -/
theorem exp_coe (r : ℝ) : Ideal.exp (r : EReal) = ((Real.exp r : ℝ) : EReal) := rfl

/-- The sum of real numbers, on extended reals. -/
theorem sum_coe {ι : Type} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- The quotient of real numbers by a real number other than zero, on extended reals. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- Softmax of real logits as the exponential times the reciprocal of the sum is softmax of the logits less a real number, as
    the exponential divided by the sum. -/
theorem softmax_eq {ι : Type} [Fintype ι] [Nonempty ι] (L : ι → EReal) (r : ι → ℝ) (hL : ∀ j, L j = (r j : EReal)) (M : ℝ) (i : ι) :
    Ideal.exp (L i) * Ideal.div 1 (∑ j, Ideal.exp (L j))
      = Ideal.div (Ideal.exp (L i - (M : EReal))) (∑ j, Ideal.exp (L j - (M : EReal))) := by
  simp only [hL, ← EReal.coe_sub, exp_coe, sum_coe]
  have h1 : (∑ j, Real.exp (r j)) ≠ 0 := (Finset.sum_pos (fun j _ => Real.exp_pos _) Finset.univ_nonempty).ne'
  have h2 : (∑ j, Real.exp (r j - M)) ≠ 0 := (Finset.sum_pos (fun j _ => Real.exp_pos _) Finset.univ_nonempty).ne'
  rw [show (1 : EReal) = ((1 : ℝ) : EReal) from rfl, div_coe _ _ h1, div_coe _ _ h2, ← EReal.coe_mul]
  refine congrArg _ ?_
  have h3 : (∑ j, Real.exp (r j - M)) = (∑ j, Real.exp (r j)) / Real.exp M := by
    rw [Finset.sum_div]
    exact Finset.sum_congr rfl fun j _ => Real.exp_sub _ _
  rw [h3, Real.exp_sub]
  have := Real.exp_ne_zero M
  field_simp

/-- The largest of finitely many real numbers, folded from minus infinity, is one of them. -/
theorem fold_max_mem {ι : Type} (s : Finset ι) (hs : s.Nonempty) (L : ι → EReal) : ∃ j ∈ s, s.fold max ⊥ L = L j := by
  classical
  induction s using Finset.induction_on with
  | empty => exact absurd hs (by simp)
  | insert a s ha ih =>
    rw [Finset.fold_insert ha]
    rcases s.eq_empty_or_nonempty with rfl | hne
    · exact ⟨a, by simp, by simp⟩
    · obtain ⟨j, hj, e⟩ := ih hne
      rcases max_choice (L a) (s.fold max ⊥ L) with h | h
      · exact ⟨a, by simp, h⟩
      · exact ⟨j, by simp [hj], h.trans e⟩

/-- The same over a whole finite type. -/
theorem fold_max_univ {ι : Type} [Fintype ι] [Nonempty ι] (L : ι → EReal) : ∃ j, Finset.univ.fold max ⊥ L = L j :=
  let ⟨j, _, h⟩ := fold_max_mem Finset.univ Finset.univ_nonempty L
  ⟨j, h⟩

/-- The pattern of minus infinity. -/
theorem ofBits_neg_inf : Ideal.ofBits .f32 0xFF800000#32 = ⊥ := by simp [Ideal.ofBits, Ideal.ieee]

/-- The pattern of plus infinity. -/
theorem ofBits_inf : Ideal.ofBits .f32 0x7F800000#32 = ⊤ := by simp [Ideal.ofBits, Ideal.ieee]

/-- A row's maximum as a fold along the row. -/
theorem reduceMax_at {n0 n1 : ℕ} {u : Shape} (L : FVec Ideal ⟨2, ![n0, n1]⟩ .f32) (v : FVec Ideal u .f32)
    (h : (⟨2, ![n0, n1]⟩ : Shape).ReducesTo [1] ⟨1, ![n0]⟩) (hu : 0 < u.numel) (i : Fin n0) :
    Host.reduce FloatOps.maximumf L v h hu (ix1 i) = Finset.fold max (v (Shape.Idx.first hu)) (fun j : Fin n1 => L (ix2 i j)) Finset.univ := by
  pointwise

/-- A row's maximum, folded from minus infinity and then taken with minus infinity, is one of the row's elements. -/
theorem rowMax_mem {n0 n1 : ℕ} [Nonempty (Fin n1)] {u : Shape} (L : FVec Ideal ⟨2, ![n0, n1]⟩ .f32)
    (h : (⟨2, ![n0, n1]⟩ : Shape).ReducesTo [1] ⟨1, ![n0]⟩) (hu : 0 < u.numel) (i : Fin n0) :
    ∃ j : Fin n1, max (Ideal.ofBits .f32 0xFF800000#32) (Host.reduce FloatOps.maximumf L (constant (F := Ideal) u .f32 0xFF800000#32) h hu (ix1 i))
      = L (ix2 i j) := by
  obtain ⟨j, e⟩ := fold_max_univ (fun j : Fin n1 => L (ix2 i j))
  refine ⟨j, ?_⟩
  rw [reduceMax_at, show (constant (F := Ideal) u .f32 0xFF800000#32) (Shape.Idx.first hu) = ⊥ from ofBits_neg_inf, e, ofBits_neg_inf]
  exact max_eq_right bot_le

/-- The same of the whole array of row maxima. -/
theorem rowMaxes_mem {n0 n1 : ℕ} [Nonempty (Fin n1)] {u : Shape} (L : FVec Ideal ⟨2, ![n0, n1]⟩ .f32) (d : (⟨0, ![]⟩ : Shape).BroadcastsInDim ⟨1, ![n0]⟩ (![] : Fin 0 → Fin 1))
    (h : (⟨2, ![n0, n1]⟩ : Shape).ReducesTo [1] ⟨1, ![n0]⟩) (hu : 0 < u.numel) (i : Fin n0) :
    ∃ j : Fin n1, maximumf (broadcastInDim ⟨1, ![n0]⟩ ![] d (constant (F := Ideal) ⟨0, ![]⟩ .f32 0xFF800000#32))
      (Host.reduce FloatOps.maximumf L (constant (F := Ideal) u .f32 0xFF800000#32) h hu) (ix1 i) = L (ix2 i j) := by
  obtain ⟨j, e⟩ := rowMax_mem L h hu i
  exact ⟨j, e⟩

end Cert.Hand

end
-- ==== Proof.ProbsRef.lean ====
/-
  The reference's result at one element, and that it is the kernel's on finite arguments.
-/
module

public import proofs.«01_k».proof.Proof.ProbsArr
public import proofs.«01_k».proof.Proof.SoftmaxReal
public import proofs.«01_k».proof.Proof.Gen.ReferenceIdeal

@[expose] public section

set_option maxRecDepth 16384

noncomputable section

namespace Cert.ReferenceIdeal.Hand

open Cert.ReferenceIdeal Cert.ReferenceIdeal.Gen
open Cert.ReferenceIdeal.Facts
open Idealize.ShloMosaic Idealize.ShloMosaic.TcCoe Idealize.ShloMosaic.Tactic
open Idealize.SL.Sem

/-- The reference's logits. -/
def refLogits (x : FVec Ideal S128x64 .f32) (w : FVec Ideal S64x100000 .f32) (b : FVec Ideal S100000 .f32) : FVec Ideal S128x100000 .f32 :=
  addf (Host.dotGeneral dot_S128x64_S64x100000_S128x100000_1_0_0_1_n_n none x w)
    (broadcastInDim S128x100000 ![0, 1] bcast_S1x100000_S128x100000_0_1 (broadcastInDim S1x100000 ![1] bcast_S100000_S1x100000_1 b))

/-- A logit of the reference. -/
theorem refLogits_at (x : FVec Ideal S128x64 .f32) (w : FVec Ideal S64x100000 .f32) (b : FVec Ideal S100000 .f32) (i : Fin 128) (j : Fin 100000) :
    refLogits x w b (ix2 i j) = Cert.KernelIdeal.Hand.rowLogit x w b i j := by
  unfold Cert.KernelIdeal.Hand.rowLogit
  pointwise [refLogits]

/-- The reference's largest logit of each row. -/
def refMax (L : FVec Ideal S128x100000 .f32) : FVec Ideal S128 .f32 :=
  maximumf (broadcastInDim S128 ![] bcast_S_S128 (constant S_ .f32 0xFF800000#32))
    (Host.reduce FloatOps.maximumf L (constant S_ .f32 0xFF800000#32) reducesTo_S128x100000_S128_d1 h_S_)

/-- A row's largest logit is one of the row's logits. -/
theorem refMax_at (L : FVec Ideal S128x100000 .f32) (i : Fin 128) : ∃ j : Fin 100000, refMax L (ix1 i) = L (ix2 i j) := by
  haveI : Nonempty (Fin 100000) := ⟨0⟩
  unfold refMax
  exact Cert.Hand.rowMaxes_mem (n0 := 128) (n1 := 100000) (u := S_) L bcast_S_S128 reducesTo_S128x100000_S128_d1 h_S_ i

/-- The reference's exponentials. -/
def refExp (L : FVec Ideal S128x100000 .f32) : FVec Ideal S128x100000 .f32 :=
  Host.exp (subf L (broadcastInDim S128x100000 ![0, 1] bcast_S128x1_S128x100000_0_1 (broadcastInDim S128x1 ![0] bcast_S128_S128x1_0 (refMax L))))

theorem refExp_at (L : FVec Ideal S128x100000 .f32) (i : Fin 128) (j : Fin 100000) :
    refExp L (ix2 i j) = Ideal.exp (L (ix2 i j) - refMax L (ix1 i)) := by
  pointwise [refExp]

/-- The reference's probabilities. -/
def refProbs (L : FVec Ideal S128x100000 .f32) : FVec Ideal S128x100000 .f32 :=
  Host.divf (refExp L) (broadcastInDim S128x100000 ![0, 1] bcast_S128x1_S128x100000_0_1 (broadcastInDim S128x1 ![0] bcast_S128_S128x1_0
    (Host.reduceAdd (refExp L) (constant S_ .f32 0x00000000#32) reducesTo_S128x100000_S128_d1 h_S_)))

theorem refProbs_at (L : FVec Ideal S128x100000 .f32) (i : Fin 128) (j : Fin 100000) :
    refProbs L (ix2 i j) = Ideal.div (Ideal.exp (L (ix2 i j) - refMax L (ix1 i))) (∑ j : Fin 100000, Ideal.exp (L (ix2 i j) - refMax L (ix1 i))) := by
  have e : refProbs L (ix2 i j) = Ideal.div (refExp L (ix2 i j)) (∑ j : Fin 100000, refExp L (ix2 i j)) := by
    pointwise [refProbs]
  rw [e]
  simp only [refExp_at]

/-- On logits that are real numbers the reference's probability is the exponential times the reciprocal of the sum. -/
theorem refProbs_eq (L : FVec Ideal S128x100000 .f32) (r : Fin 128 → Fin 100000 → ℝ) (hL : ∀ i j, L (ix2 i j) = (r i j : EReal)) (i : Fin 128) (j : Fin 100000) :
    refProbs L (ix2 i j) = Ideal.exp (L (ix2 i j)) * Ideal.div 1 (∑ j : Fin 100000, Ideal.exp (L (ix2 i j))) := by
  obtain ⟨k, hk⟩ := refMax_at L i
  rw [refProbs_at, hk, hL i k]
  haveI : Nonempty (Fin 100000) := ⟨0⟩
  exact (Cert.Hand.softmax_eq (fun j => L (ix2 i j)) (r i) (hL i) (r i k) j).symm

/-- The reference's probabilities, at real logits, are the kernel's. -/
theorem probs_eq (x : FVec Ideal S128x64 .f32) (w : FVec Ideal S64x100000 .f32) (b : FVec Ideal S100000 .f32) (r : Fin 128 → Fin 100000 → ℝ)
    (hr : ∀ i j, Cert.KernelIdeal.Hand.rowLogit x w b i j = (r i j : EReal)) :
    refProbs (refLogits x w b) = fun y : S128x100000.Idx => Ideal.exp (Cert.KernelIdeal.Hand.rowLogit x w b (y 0) (y 1))
      * Ideal.div 1 (∑ j : Fin 100000, Ideal.exp (Cert.KernelIdeal.Hand.rowLogit x w b (y 0) j)) := by
  have key : ∀ (i : Fin 128) (j : Fin 100000), refProbs (refLogits x w b) (ix2 i j) = Ideal.exp (Cert.KernelIdeal.Hand.rowLogit x w b i j)
      * Ideal.div 1 (∑ j : Fin 100000, Ideal.exp (Cert.KernelIdeal.Hand.rowLogit x w b i j)) := fun i j => by
    rw [refProbs_eq (refLogits x w b) r (fun i j => (refLogits_at x w b i j).trans (hr i j))]
    simp only [refLogits_at]
  funext y
  have ey : y = ix2 (n0 := 128) (n1 := 100000) (y 0) (y 1) := funext fun a => match a with | 0 => rfl | 1 => rfl
  exact (congrArg (refProbs (refLogits x w b)) ey).trans (key (y 0) (y 1))

end Cert.ReferenceIdeal.Hand

end
-- ==== Proof.ProbsPre.lean ====
/-
  The precondition read back: every element of the arguments is a real number, and so is every logit.
-/
module

public import proofs.«01_k».proof.Proof.ProbsArr
public import proofs.«01_k».proof.Proof.SoftmaxReal
public import proofs.«01_k».proof.Pre_finite_args
public import Idealize.ShloMosaic.Lib.ReduceAll
public import Idealize.ShloMosaic.Lib.Affine

@[expose] public section

set_option maxRecDepth 16384

noncomputable section

namespace Cert.Pre_finite_args.Hand

open Cert.Pre_finite_args Cert.Pre_finite_args.Facts
open Idealize.ShloMosaic

instance : Subsingleton S_.Idx := ⟨fun a b => funext fun i => i.elim0⟩

/-- An extended real whose magnitude is less than infinity is a real number. -/
theorem real_of_abs_lt (x : EReal) (h : Scalar.cmpf (F := Ideal) (φ := .f32) .olt (FloatOps.hostAbsf (F := Ideal) (φ := .f32) x) (Ideal.ofBits .f32 0x7F800000#32) = 1#1) :
    ∃ r : ℝ, x = (r : EReal) := by
  rw [Cert.Hand.ofBits_inf] at h
  have h' : Ideal.cmp .olt (max x (-x)) ⊤ = 1#1 := h
  induction x with
  | bot => exact absurd h' (by simp [Ideal.cmp])
  | top => exact absurd h' (by simp [Ideal.cmp])
  | coe r => exact ⟨r, rfl⟩

variable [Facts]

/-- Under the precondition every element of every argument is a real number. -/
theorem real_args (x : FVec Ideal S128x64 .f32) (w : FVec Ideal S64x100000 .f32) (b : FVec Ideal S100000 .f32)
    (h : fn (F := Ideal) x w b = fun _ => 1#1) :
    (∀ i, ∃ r : ℝ, x i = (r : EReal)) ∧ (∀ i, ∃ r : ℝ, w i = (r : EReal)) ∧ (∀ i, ∃ r : ℝ, b i = (r : EReal)) := by
  have h0 := congrFun h (fun i => i.elim0)
  obtain ⟨h1, h2⟩ := IntOp.andi_eq_one.mp h0
  obtain ⟨h3, h4⟩ := IntOp.andi_eq_one.mp h1
  refine ⟨fun i => real_of_abs_lt _ ?_, fun i => real_of_abs_lt _ ?_, fun i => real_of_abs_lt _ ?_⟩
  · exact Host.reduce_andi_all _ _ _ _ _ h3 i
  · exact Host.reduce_andi_all _ _ _ _ _ h4 i
  · exact Host.reduce_andi_all _ _ _ _ _ h2 i

/-- Under the precondition every logit is a real number. -/
theorem real_logits (x : FVec Ideal S128x64 .f32) (w : FVec Ideal S64x100000 .f32) (b : FVec Ideal S100000 .f32)
    (h : fn (F := Ideal) x w b = fun _ => 1#1) :
    ∃ r : Fin 128 → Fin 100000 → ℝ, ∀ i j, Cert.KernelIdeal.Hand.rowLogit x w b i j = (r i j : EReal) := by
  obtain ⟨hx, hw, hb⟩ := real_args x w b h
  choose rx ex using hx
  choose rw' ew using hw
  choose rb eb using hb
  refine ⟨fun i j => (∑ k : Fin 64, rx (ix2 i k) * rw' (ix2 k j)) + rb (ix1 j), fun i j => ?_⟩
  unfold Cert.KernelIdeal.Hand.rowLogit
  rw [eb, EReal.coe_add, ← Cert.Hand.sum_coe]
  refine congrArg (fun a : EReal => a + _) (Finset.sum_congr rfl fun k _ => ?_)
  rw [ex, ew, EReal.coe_mul]

end Cert.Pre_finite_args.Hand

end
-- ==== Proof.Hash.lean ====
/-
  The counter hash of the random words, as a function of one counter: twenty rounds on a pair of words, each a function of
  its own.
-/
module

public import Mathlib.Logic.Basic

@[expose] public section

set_option maxRecDepth 16384

noncomputable section

namespace Cert.Hand

/-- A word turned by `d` bits, spelled with the two shifts (`d + e` is 32). -/
def turn (d e x : BitVec 32) : BitVec 32 := (x <<< d) ||| (x >>> e)

/-- A round: the second word is turned and mixed with the first, which the result is added to. -/
def mixS (d e : BitVec 32) (p : BitVec 32 × BitVec 32) : BitVec 32 × BitVec 32 :=
  (p.1 + (p.1 ^^^ turn d e p.2), p.1 ^^^ turn d e p.2)

/-- Every fourth round also adds key words and its number. -/
def mixJ (d e ka kb r : BitVec 32) (p : BitVec 32 × BitVec 32) : BitVec 32 × BitVec 32 :=
  (p.1 + ka + ((p.1 ^^^ turn d e p.2) + kb + r), (p.1 ^^^ turn d e p.2) + kb + r)

/-- The last round adds them too, and the two words are left apart. -/
def mixE (d e ka kb r : BitVec 32) (p : BitVec 32 × BitVec 32) : BitVec 32 × BitVec 32 :=
  (p.1 + ka, (p.1 ^^^ turn d e p.2) + kb + r)

/-- The pair before the first round. -/
def mix0 (n : BitVec 32) : BitVec 32 × BitVec 32 := (0#32 + (n + 42#32), n + 42#32)

/-- The pair after 1 round. -/
def mix1 (n : BitVec 32) : BitVec 32 × BitVec 32 := mixS 13#32 19#32 (mix0 n)

/-- The pair after 2 rounds. -/
def mix2 (n : BitVec 32) : BitVec 32 × BitVec 32 := mixS 15#32 17#32 (mix1 n)

/-- The pair after 3 rounds. -/
def mix3 (n : BitVec 32) : BitVec 32 × BitVec 32 := mixS 26#32 6#32 (mix2 n)

/-- The pair after 4 rounds. -/
def mix4 (n : BitVec 32) : BitVec 32 × BitVec 32 := mixJ 6#32 26#32 42#32 466689008#32 1#32 (mix3 n)

/-- The pair after 5 rounds. -/
def mix5 (n : BitVec 32) : BitVec 32 × BitVec 32 := mixS 17#32 15#32 (mix4 n)

/-- The pair after 6 rounds. -/
def mix6 (n : BitVec 32) : BitVec 32 × BitVec 32 := mixS 29#32 3#32 (mix5 n)

/-- The pair after 7 rounds. -/
def mix7 (n : BitVec 32) : BitVec 32 × BitVec 32 := mixS 16#32 16#32 (mix6 n)

/-- The pair after 8 rounds. -/
def mix8 (n : BitVec 32) : BitVec 32 × BitVec 32 := mixJ 24#32 8#32 466689008#32 0#32 2#32 (mix7 n)

/-- The pair after 9 rounds. -/
def mix9 (n : BitVec 32) : BitVec 32 × BitVec 32 := mixS 13#32 19#32 (mix8 n)

/-- The pair after 10 rounds. -/
def mix10 (n : BitVec 32) : BitVec 32 × BitVec 32 := mixS 15#32 17#32 (mix9 n)

/-- The pair after 11 rounds. -/
def mix11 (n : BitVec 32) : BitVec 32 × BitVec 32 := mixS 26#32 6#32 (mix10 n)

/-- The pair after 12 rounds. -/
def mix12 (n : BitVec 32) : BitVec 32 × BitVec 32 := mixJ 6#32 26#32 0#32 42#32 3#32 (mix11 n)

/-- The pair after 13 rounds. -/
def mix13 (n : BitVec 32) : BitVec 32 × BitVec 32 := mixS 17#32 15#32 (mix12 n)

/-- The pair after 14 rounds. -/
def mix14 (n : BitVec 32) : BitVec 32 × BitVec 32 := mixS 29#32 3#32 (mix13 n)

/-- The pair after 15 rounds. -/
def mix15 (n : BitVec 32) : BitVec 32 × BitVec 32 := mixS 16#32 16#32 (mix14 n)

/-- The pair after 16 rounds. -/
def mix16 (n : BitVec 32) : BitVec 32 × BitVec 32 := mixJ 24#32 8#32 42#32 466689008#32 4#32 (mix15 n)

/-- The pair after 17 rounds. -/
def mix17 (n : BitVec 32) : BitVec 32 × BitVec 32 := mixS 13#32 19#32 (mix16 n)

/-- The pair after 18 rounds. -/
def mix18 (n : BitVec 32) : BitVec 32 × BitVec 32 := mixS 15#32 17#32 (mix17 n)

/-- The pair after 19 rounds. -/
def mix19 (n : BitVec 32) : BitVec 32 × BitVec 32 := mixS 26#32 6#32 (mix18 n)

/-- The pair after 20 rounds. -/
def mix20 (n : BitVec 32) : BitVec 32 × BitVec 32 := mixE 6#32 26#32 466689008#32 0#32 5#32 (mix19 n)

/-- The random word of a counter. -/
def wordOf (n : BitVec 32) : BitVec 32 := (mix20 n).1 ^^^ (mix20 n).2

end Cert.Hand

end
-- ==== Proof.KerHash.lean ====
/-
  The hash inside the kernel's loop: the word of one entry of a trip's block is the hash of the entry's counter.
-/
module

public import proofs.«01_k».proof.Proof.KernelIdealStep
public import proofs.«01_k».proof.Proof.Hash
public import Idealize.ShloMosaic.Lib.Pipeline.Value

@[expose] public section

set_option maxRecDepth 16384

noncomputable section

namespace Cert.KernelIdeal.Hand

open Cert.KernelIdeal Cert.KernelIdeal.Gen Cert.Hand
open Idealize.ShloMosaic Idealize.ShloMosaic.TcCoe

variable {F : FTy → Type} [FloatOps F]

section Rounds

variable (n : BitVec 32) (y : S32x2048.Idx)

theorem pay_mix0 (v20 : BitVec 32) (k : Fin k1_t1_loop.trips) (v63 : Vec F S32x2048 .i32) (h : v63 y + (v20 + 2048#32 * Scf.iv 0#32 1#32 k) = n) :
    ((k1_pay11 (F := F) v20 0#32 1#32 k v63 : IVec S32x2048 32) y, (k1_pay10 (F := F) v20 0#32 1#32 k v63 : IVec S32x2048 32) y) = mix0 n := by
  unfold mix0
  rw [← h]
  rfl

theorem pay_mix1 (v20 : BitVec 32) (k : Fin k1_t1_loop.trips) (v63 : Vec F S32x2048 .i32) (h : ((k1_pay11 (F := F) v20 0#32 1#32 k v63 : IVec S32x2048 32) y, (k1_pay10 (F := F) v20 0#32 1#32 k v63 : IVec S32x2048 32) y) = mix0 n) :
    ((k1_pay13 (F := F) v20 0#32 1#32 k v63 : IVec S32x2048 32) y, (k1_pay12 (F := F) v20 0#32 1#32 k v63 : IVec S32x2048 32) y) = mix1 n := by
  unfold mix1
  rw [← h]
  rfl

theorem pay_mix2 (v20 : BitVec 32) (k : Fin k1_t1_loop.trips) (v63 : Vec F S32x2048 .i32) (h : ((k1_pay13 (F := F) v20 0#32 1#32 k v63 : IVec S32x2048 32) y, (k1_pay12 (F := F) v20 0#32 1#32 k v63 : IVec S32x2048 32) y) = mix1 n) :
    ((k1_pay15 (F := F) v20 0#32 1#32 k v63 : IVec S32x2048 32) y, (k1_pay14 (F := F) v20 0#32 1#32 k v63 : IVec S32x2048 32) y) = mix2 n := by
  unfold mix2
  rw [← h]
  rfl

theorem pay_mix3 (v20 : BitVec 32) (k : Fin k1_t1_loop.trips) (v63 : Vec F S32x2048 .i32) (h : ((k1_pay15 (F := F) v20 0#32 1#32 k v63 : IVec S32x2048 32) y, (k1_pay14 (F := F) v20 0#32 1#32 k v63 : IVec S32x2048 32) y) = mix2 n) :
    ((k1_pay17 (F := F) v20 0#32 1#32 k v63 : IVec S32x2048 32) y, (k1_pay16 (F := F) v20 0#32 1#32 k v63 : IVec S32x2048 32) y) = mix3 n := by
  unfold mix3
  rw [← h]
  rfl

theorem pay_mix4 (v20 : BitVec 32) (k : Fin k1_t1_loop.trips) (v63 : Vec F S32x2048 .i32) (h : ((k1_pay17 (F := F) v20 0#32 1#32 k v63 : IVec S32x2048 32) y, (k1_pay16 (F := F) v20 0#32 1#32 k v63 : IVec S32x2048 32) y) = mix3 n) :
    ((k1_pay19 (F := F) v20 0#32 1#32 k v63 : IVec S32x2048 32) y, (k1_pay18 (F := F) v20 0#32 1#32 k v63 : IVec S32x2048 32) y) = mix4 n := by
  unfold mix4
  rw [← h]
  rfl

theorem pay_mix5 (v104 v105 : IVec S32x2048 32) (h : (v105 y, v104 y) = mix4 n) :
    ((k1_pay21 v104 v105 : IVec S32x2048 32) y, (k1_pay20 v104 v105 : IVec S32x2048 32) y) = mix5 n := by
  unfold mix5
  rw [← h]
  rfl

theorem pay_mix6 (v104 v105 : IVec S32x2048 32) (h : ((k1_pay21 v104 v105 : IVec S32x2048 32) y, (k1_pay20 v104 v105 : IVec S32x2048 32) y) = mix5 n) :
    ((k1_pay23 v104 v105 : IVec S32x2048 32) y, (k1_pay22 v104 v105 : IVec S32x2048 32) y) = mix6 n := by
  unfold mix6
  rw [← h]
  rfl

theorem pay_mix7 (v104 v105 : IVec S32x2048 32) (h : ((k1_pay23 v104 v105 : IVec S32x2048 32) y, (k1_pay22 v104 v105 : IVec S32x2048 32) y) = mix6 n) :
    ((k1_pay25 v104 v105 : IVec S32x2048 32) y, (k1_pay24 v104 v105 : IVec S32x2048 32) y) = mix7 n := by
  unfold mix7
  rw [← h]
  rfl

theorem pay_mix8 (v104 v105 : IVec S32x2048 32) (h : ((k1_pay25 v104 v105 : IVec S32x2048 32) y, (k1_pay24 v104 v105 : IVec S32x2048 32) y) = mix7 n) :
    ((k1_pay27 v104 v105 : IVec S32x2048 32) y, (k1_pay26 v104 v105 : IVec S32x2048 32) y) = mix8 n := by
  unfold mix8
  rw [← h]
  rfl

theorem pay_mix9 (v104 v105 : IVec S32x2048 32) (h : ((k1_pay27 v104 v105 : IVec S32x2048 32) y, (k1_pay26 v104 v105 : IVec S32x2048 32) y) = mix8 n) :
    ((k1_pay29 v104 v105 : IVec S32x2048 32) y, (k1_pay28 v104 v105 : IVec S32x2048 32) y) = mix9 n := by
  unfold mix9
  rw [← h]
  rfl

theorem pay_mix10 (v146 v148 v150 : IVec S32x2048 32) (h1 : v146 y = (mix9 n).1) (h2 : v148 y = (mix9 n).2 <<< 15#32) (h3 : v150 y = (mix9 n).2 >>> 17#32) :
    ((k1_pay33 v146 v148 v150 : IVec S32x2048 32) y, (k1_pay32 v146 v148 v150 : IVec S32x2048 32) y) = mix10 n := by
  unfold mix10 mixS turn
  rw [← h1, ← h2, ← h3]
  rfl

theorem pay_mix11 (v146 v148 v150 : IVec S32x2048 32) (h : ((k1_pay33 v146 v148 v150 : IVec S32x2048 32) y, (k1_pay32 v146 v148 v150 : IVec S32x2048 32) y) = mix10 n) :
    ((k1_pay35 v146 v148 v150 : IVec S32x2048 32) y, (k1_pay34 v146 v148 v150 : IVec S32x2048 32) y) = mix11 n := by
  unfold mix11
  rw [← h]
  rfl

theorem pay_mix12 (v146 v148 v150 : IVec S32x2048 32) (h : ((k1_pay35 v146 v148 v150 : IVec S32x2048 32) y, (k1_pay34 v146 v148 v150 : IVec S32x2048 32) y) = mix11 n) :
    ((k1_pay37 v146 v148 v150 : IVec S32x2048 32) y, (k1_pay36 v146 v148 v150 : IVec S32x2048 32) y) = mix12 n := by
  unfold mix12
  rw [← h]
  rfl

theorem pay_mix13 (v146 v148 v150 : IVec S32x2048 32) (h : ((k1_pay37 v146 v148 v150 : IVec S32x2048 32) y, (k1_pay36 v146 v148 v150 : IVec S32x2048 32) y) = mix12 n) :
    ((k1_pay39 v146 v148 v150 : IVec S32x2048 32) y, (k1_pay38 v146 v148 v150 : IVec S32x2048 32) y) = mix13 n := by
  unfold mix13
  rw [← h]
  rfl

theorem pay_mix14 (v146 v148 v150 : IVec S32x2048 32) (h : ((k1_pay39 v146 v148 v150 : IVec S32x2048 32) y, (k1_pay38 v146 v148 v150 : IVec S32x2048 32) y) = mix13 n) :
    ((k1_pay41 v146 v148 v150 : IVec S32x2048 32) y, (k1_pay40 v146 v148 v150 : IVec S32x2048 32) y) = mix14 n := by
  unfold mix14
  rw [← h]
  rfl

theorem pay_mix15 (v146 v148 v150 : IVec S32x2048 32) (h : ((k1_pay41 v146 v148 v150 : IVec S32x2048 32) y, (k1_pay40 v146 v148 v150 : IVec S32x2048 32) y) = mix14 n) :
    ((k1_pay43 v146 v148 v150 : IVec S32x2048 32) y, (k1_pay42 v146 v148 v150 : IVec S32x2048 32) y) = mix15 n := by
  unfold mix15
  rw [← h]
  rfl

theorem pay_hash (v193 v194 v196 : IVec S32x2048 32) (h1 : v194 y = (mix15 n).1) (h2 : v193 y = (mix15 n).2) (h3 : v196 y = (mix15 n).2 <<< 24#32) :
    (k1_pay45 v193 v194 v196 : IVec S32x2048 32) y = wordOf n := by
  unfold wordOf mix20 mix19 mix18 mix17 mix16
  have e : mix15 n = (v194 y, v193 y) := Prod.ext h1.symm h2.symm
  have e3 : v196 y = v193 y <<< 24#32 := by rw [h3, h2]
  rw [e]
  have e4 : ((k1_pay45 v193 v194 v196 : IVec S32x2048 32) y) = (k1_pay45 v193 v194 (fun y => v193 y <<< 24#32) : IVec S32x2048 32) y := by
    unfold k1_pay45
    simp only [xori, addi, ori, shli, shrui, e3]
  rw [e4]
  rfl

end Rounds

/-- The word of an entry of a trip's block. -/
theorem hashPay_at (v20 : BitVec 32) (k : Fin k1_t1_loop.trips) (v63 : Vec F S32x2048 .i32) (y : S32x2048.Idx) :
    hashPay (F := F) v20 k v63 y = wordOf (v63 y + (v20 + 2048#32 * Scf.iv 0#32 1#32 k)) := by
  have h4 := pay_mix4 _ y v20 k v63 (pay_mix3 _ y v20 k v63 (pay_mix2 _ y v20 k v63 (pay_mix1 _ y v20 k v63 (pay_mix0 _ y v20 k v63 rfl))))
  have h9 := pay_mix9 _ y _ _ (pay_mix8 _ y _ _ (pay_mix7 _ y _ _ (pay_mix6 _ y _ _ (pay_mix5 _ y _ _ h4))))
  have h10 := pay_mix10 _ y (k1_pay29 _ _) (k1_pay30 _ _) (k1_pay31 _ _) (congrArg Prod.fst h9) (congrArg (fun p => p.2 <<< 15#32) h9) (congrArg (fun p => p.2 >>> 17#32) h9)
  have h15 := pay_mix15 _ y _ _ _ (pay_mix14 _ y _ _ _ (pay_mix13 _ y _ _ _ (pay_mix12 _ y _ _ _ (pay_mix11 _ y _ _ _ h10))))
  have e44 : ∀ a b c : IVec S32x2048 32, (k1_pay44 a b c : IVec S32x2048 32) y = (k1_pay42 a b c : IVec S32x2048 32) y <<< 24#32 := fun _ _ _ => rfl
  unfold hashPay k1_pay65
  rw [shapeCast_self]
  exact pay_hash _ y _ _ _ (congrArg Prod.fst h15) (congrArg Prod.snd h15) ((e44 _ _ _).trans (congrArg (fun b : BitVec 32 => b <<< 24#32) (congrArg Prod.snd h15)))

end Cert.KernelIdeal.Hand

end
-- ==== Proof.KerHost.lean ====
/-
  The hash in the kernel's host code, for the rows from 32 on: round by round, what its operations leave in the two words.
-/
module

public import proofs.«01_k».proof.Proof.KernelIdealRun
public import proofs.«01_k».proof.Proof.Hash
public import Idealize.ShloMosaic.Lib.StableHlo.RunRead
public import Idealize.ShloMosaic.Lib.Pointwise

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic Idealize.SL.Sem Idealize.ShloMosaic.StableHlo

variable {F : FTy → Type} [FloatOps F]

/-- The counters, before the first round. -/
abbrev opsH0 : List (HloOp τ sig (Elt F)) :=
  [ nullary main_v0 (iotaInDim S9600000 32 0),
    nullary main_c (constantI S_ 32 3200000#32),
    unary main_c main_v1 (broadcastInDim S9600000 ![] bcast_S_S9600000 : (⟨S_, .i32⟩ : BufTy).Contents (Elt F) → (⟨S9600000, .i32⟩ : BufTy).Contents (Elt F)),
    binary main_v1 main_v0 main_v2 (addi : (⟨S9600000, .i32⟩ : BufTy).Contents (Elt F) → (⟨S9600000, .i32⟩ : BufTy).Contents (Elt F) → (⟨S9600000, .i32⟩ : BufTy).Contents (Elt F)),
    nullary main_c_0 (constantI S_ 32 0#32),
    unary main_c_0 main_v3 (broadcastInDim S9600000 ![] bcast_S_S9600000 : (⟨S_, .i32⟩ : BufTy).Contents (Elt F) → (⟨S9600000, .i32⟩ : BufTy).Contents (Elt F)),
    nullary main_c_1 (constantI S_ 32 42#32),
    unary main_c_1 main_v4 (broadcastInDim S9600000 ![] bcast_S_S9600000 : (⟨S_, .i32⟩ : BufTy).Contents (Elt F) → (⟨S9600000, .i32⟩ : BufTy).Contents (Elt F)),
    binary main_v2 main_v4 main_v5 (addi : (⟨S9600000, .i32⟩ : BufTy).Contents (Elt F) → (⟨S9600000, .i32⟩ : BufTy).Contents (Elt F) → (⟨S9600000, .i32⟩ : BufTy).Contents (Elt F)),
    binary main_v3 main_v5 main_v6 (addi : (⟨S9600000, .i32⟩ : BufTy).Contents (Elt F) → (⟨S9600000, .i32⟩ : BufTy).Contents (Elt F) → (⟨S9600000, .i32⟩ : BufTy).Contents (Elt F)) ]

/-- Round 1. -/
abbrev opsH1 : List (HloOp τ sig (Elt F)) :=
  [ nullary main_c_2 (constantI S_ 32 13#32),
    unary main_c_2 main_v7 (broadcastInDim S9600000 ![] bcast_S_S9600000 : (⟨S_, .i32⟩ : BufTy).Contents (Elt F) → (⟨S9600000, .i32⟩ : BufTy).Contents (Elt F)),
    binary main_v5 main_v7 main_v8 (Host.shli : (⟨S9600000, .i32⟩ : BufTy).Contents (Elt F) → (⟨S9600000, .i32⟩ : BufTy).Contents (Elt F) → (⟨S9600000, .i32⟩ : BufTy).Contents (Elt F)),
    nullary main_c_3 (constantI S_ 32 19#32),
    unary main_c_3 main_v9 (broadcastInDim S9600000 ![] bcast_S_S9600000 : (⟨S_, .i32⟩ : BufTy).Contents (Elt F) → (⟨S9600000, .i32⟩ : BufTy).Contents (Elt F)),
    binary main_v5 main_v9 main_v10 (Host.shrui : (⟨S9600000, .i32⟩ : BufTy).Contents (Elt F) → (⟨S9600000, .i32⟩ : BufTy).Contents (Elt F) → (⟨S9600000, .i32⟩ : BufTy).Contents (Elt F)),
    binary main_v8 main_v10 main_v11 (ori : (⟨S9600000, .i32⟩ : BufTy).Contents (Elt F) → (⟨S9600000, .i32⟩ : BufTy).Contents (Elt F) → (⟨S9600000, .i32⟩ : BufTy).Contents (Elt F)),
    binary main_v6 main_v11 main_v12 (xori : (⟨S9600000, .i32⟩ : BufTy).Contents (Elt F) → (⟨S9600000, .i32⟩ : BufTy).Contents (Elt F) → (⟨S9600000, .i32⟩ : BufTy).Contents (Elt F)),
    binary main_v6 main_v12 main_v13 (addi : (⟨S9600000, .i32⟩ : BufTy).Contents (Elt F) → (⟨S9600000, .i32⟩ : BufTy).Contents (Elt F) → (⟨S9600000, .i32⟩ : BufTy).Contents (Elt F)) ]

/-- Round 2. -/
abbrev opsH2 : List (HloOp τ sig (Elt F)) :=
  [ nullary main_c_4 (constantI S_ 32 15#32),
    unary main_c_4 main_v14 (broadcastInDim S9600000 ![] bcast_S_S9600000 : (⟨S_, .i32⟩ : BufTy).Contents (Elt F) → (⟨S9600000, .i32⟩ : BufTy).Contents (Elt F)),
    binary main_v12 main_v14 main_v15 (Host.shli : (⟨S9600000, .i32⟩ : BufTy).Contents (Elt F) → (⟨S9600000, .i32⟩ : BufTy).Contents (Elt F) → (⟨S9600000, .i32⟩ : BufTy).Contents (Elt F)),
    nullary main_c_5 (constantI S_ 32 17#32),
    unary main_c_5 main_v16 (broadcastInDim S9600000 ![] bcast_S_S9600000 : (⟨S_, .i32⟩ : BufTy).Contents (Elt F) → (⟨S9600000, .i32⟩ : BufTy).Contents (Elt F)),
    binary main_v12 main_v16 main_v17 (Host.shrui : (⟨S9600000, .i32⟩ : BufTy).Contents (Elt F) → (⟨S9600000, .i32⟩ : BufTy).Contents (Elt F) → (⟨S9600000, .i32⟩ : BufTy).Contents (Elt F)),
    binary main_v15 main_v17 main_v18 (ori : (⟨S9600000, .i32⟩ : BufTy).Contents (Elt F) → (⟨S9600000, .i32⟩ : BufTy).Contents (Elt F) → (⟨S9600000, .i32⟩ : BufTy).Contents (Elt F)),
    binary main_v13 main_v18 main_v19 (xori : (⟨S9600000, .i32⟩ : BufTy).Contents (Elt F) → (⟨S9600000, .i32⟩ : BufTy).Contents (Elt F) → (⟨S9600000, .i32⟩ : BufTy).Contents (Elt F)),
    binary main_v13 main_v19 main_v20 (addi : (⟨S9600000, .i32⟩ : BufTy).Contents (Elt F) → (⟨S9600000, .i32⟩ : BufTy).Contents (Elt F) → (⟨S9600000, .i32⟩ : BufTy).Contents (Elt F)) ]

/-- Round 3. -/
abbrev opsH3 : List (HloOp τ sig (Elt F)) :=
  [ nullary main_c_6 (constantI S_ 32 26#32),
    unary main_c_6 main_v21 (broadcastInDim S9600000 ![] bcast_S_S9600000 : (⟨S_, .i32⟩ : BufTy).Contents (Elt F) → (⟨S9600000, .i32⟩ : BufTy).Contents (Elt F)),
    binary main_v19 main_v21 main_v22 (Host.shli : (⟨S9600000, .i32⟩ : BufTy).Contents (Elt F) → (⟨S9600000, .i32⟩ : BufTy).Contents (Elt F) → (⟨S9600000, .i32⟩ : BufTy).Contents (Elt F)),
    nullary main_c_7 (constantI S_ 32 6#32),
    unary main_c_7 main_v23 (broadcastInDim S9600000 ![] bcast_S_S9600000 : (⟨S_, .i32⟩ : BufTy).Contents (Elt F) → (⟨S9600000, .i32⟩ : BufTy).Contents (Elt F)),
    binary main_v19 main_v23 main_v24 (Host.shrui : (⟨S9600000, .i32⟩ : BufTy).Contents (Elt F) → (⟨S9600000, .i32⟩ : BufTy).Contents (Elt F) → (⟨S9600000, .i32⟩ : BufTy).Contents (Elt F)),
    binary main_v22 main_v24 main_v25 (ori : (⟨S9600000, .i32⟩ : BufTy).Contents (Elt F) → (⟨S9600000, .i32⟩ : BufTy).Contents (Elt F) → (⟨S9600000, .i32⟩ : BufTy).Contents (Elt F)),
    binary main_v20 main_v25 main_v26 (xori : (⟨S9600000, .i32⟩ : BufTy).Contents (Elt F) → (⟨S9600000, .i32⟩ : BufTy).Contents (Elt F) → (⟨S9600000, .i32⟩ : BufTy).Contents (Elt F)),
    binary main_v20 main_v26 main_v27 (addi : (⟨S9600000, .i32⟩ : BufTy).Contents (Elt F) → (⟨S9600000, .i32⟩ : BufTy).Contents (Elt F) → (⟨S9600000, .i32⟩ : BufTy).Contents (Elt F)) ]

/-- Round 4. -/
abbrev opsH4 : List (HloOp τ sig (Elt F)) :=
  [ nullary main_c_8 (constantI S_ 32 6#32),
    unary main_c_8 main_v28 (broadcastInDim S9600000 ![] bcast_S_S9600000 : (⟨S_, .i32⟩ : BufTy).Contents (Elt F) → (⟨S9600000, .i32⟩ : BufTy).Contents (Elt F)),
    binary main_v26 main_v28 main_v29 (Host.shli : (⟨S9600000, .i32⟩ : BufTy).Contents (Elt F) → (⟨S9600000, .i32⟩ : BufTy).Contents (Elt F) → (⟨S9600000, .i32⟩ : BufTy).Contents (Elt F)),
    nullary main_c_9 (constantI S_ 32 26#32),
    unary main_c_9 main_v30 (broadcastInDim S9600000 ![] bcast_S_S9600000 : (⟨S_, .i32⟩ : BufTy).Contents (Elt F) → (⟨S9600000, .i32⟩ : BufTy).Contents (Elt F)),
    binary main_v26 main_v30 main_v31 (Host.shrui : (⟨S9600000, .i32⟩ : BufTy).Contents (Elt F) → (⟨S9600000, .i32⟩ : BufTy).Contents (Elt F) → (⟨S9600000, .i32⟩ : BufTy).Contents (Elt F)),
    binary main_v29 main_v31 main_v32 (ori : (⟨S9600000, .i32⟩ : BufTy).Contents (Elt F) → (⟨S9600000, .i32⟩ : BufTy).Contents (Elt F) → (⟨S9600000, .i32⟩ : BufTy).Contents (Elt F)),
    binary main_v27 main_v32 main_v33 (xori : (⟨S9600000, .i32⟩ : BufTy).Contents (Elt F) → (⟨S9600000, .i32⟩ : BufTy).Contents (Elt F) → (⟨S9600000, .i32⟩ : BufTy).Contents (Elt F)),
    nullary main_c_10 (constantI S_ 32 42#32),
    unary main_c_10 main_v34 (broadcastInDim S9600000 ![] bcast_S_S9600000 : (⟨S_, .i32⟩ : BufTy).Contents (Elt F) → (⟨S9600000, .i32⟩ : BufTy).Contents (Elt F)),
    binary main_v27 main_v34 main_v35 (addi : (⟨S9600000, .i32⟩ : BufTy).Contents (Elt F) → (⟨S9600000, .i32⟩ : BufTy).Contents (Elt F) → (⟨S9600000, .i32⟩ : BufTy).Contents (Elt F)),
    nullary main_c_11 (constantI S_ 32 466689008#32),
    unary main_c_11 main_v36 (broadcastInDim S9600000 ![] bcast_S_S9600000 : (⟨S_, .i32⟩ : BufTy).Contents (Elt F) → (⟨S9600000, .i32⟩ : BufTy).Contents (Elt F)),
    binary main_v33 main_v36 main_v37 (addi : (⟨S9600000, .i32⟩ : BufTy).Contents (Elt F) → (⟨S9600000, .i32⟩ : BufTy).Contents (Elt F) → (⟨S9600000, .i32⟩ : BufTy).Contents (Elt F)),
    nullary main_c_12 (constantI S_ 32 1#32),
    unary main_c_12 main_v38 (broadcastInDim S9600000 ![] bcast_S_S9600000 : (⟨S_, .i32⟩ : BufTy).Contents (Elt F) → (⟨S9600000, .i32⟩ : BufTy).Contents (Elt F)),
    binary main_v37 main_v38 main_v39 (addi : (⟨S9600000, .i32⟩ : BufTy).Contents (Elt F) → (⟨S9600000, .i32⟩ : BufTy).Contents (Elt F) → (⟨S9600000, .i32⟩ : BufTy).Contents (Elt F)),
    binary main_v35 main_v39 main_v40 (addi : (⟨S9600000, .i32⟩ : BufTy).Contents (Elt F) → (⟨S9600000, .i32⟩ : BufTy).Contents (Elt F) → (⟨S9600000, .i32⟩ : BufTy).Contents (Elt F)) ]

/-- Round 5. -/
abbrev opsH5 : List (HloOp τ sig (Elt F)) :=
  [ nullary main_c_13 (constantI S_ 32 17#32),
    unary main_c_13 main_v41 (broadcastInDim S9600000 ![] bcast_S_S9600000 : (⟨S_, .i32⟩ : BufTy).Contents (Elt F) → (⟨S9600000, .i32⟩ : BufTy).Contents (Elt F)),
    binary main_v39 main_v41 main_v42 (Host.shli : (⟨S9600000, .i32⟩ : BufTy).Contents (Elt F) → (⟨S9600000, .i32⟩ : BufTy).Contents (Elt F) → (⟨S9600000, .i32⟩ : BufTy).Contents (Elt F)),
    nullary main_c_14 (constantI S_ 32 15#32),
    unary main_c_14 main_v43 (broadcastInDim S9600000 ![] bcast_S_S9600000 : (⟨S_, .i32⟩ : BufTy).Contents (Elt F) → (⟨S9600000, .i32⟩ : BufTy).Contents (Elt F)),
    binary main_v39 main_v43 main_v44 (Host.shrui : (⟨S9600000, .i32⟩ : BufTy).Contents (Elt F) → (⟨S9600000, .i32⟩ : BufTy).Contents (Elt F) → (⟨S9600000, .i32⟩ : BufTy).Contents (Elt F)),
    binary main_v42 main_v44 main_v45 (ori : (⟨S9600000, .i32⟩ : BufTy).Contents (Elt F) → (⟨S9600000, .i32⟩ : BufTy).Contents (Elt F) → (⟨S9600000, .i32⟩ : BufTy).Contents (Elt F)),
    binary main_v40 main_v45 main_v46 (xori : (⟨S9600000, .i32⟩ : BufTy).Contents (Elt F) → (⟨S9600000, .i32⟩ : BufTy).Contents (Elt F) → (⟨S9600000, .i32⟩ : BufTy).Contents (Elt F)),
    binary main_v40 main_v46 main_v47 (addi : (⟨S9600000, .i32⟩ : BufTy).Contents (Elt F) → (⟨S9600000, .i32⟩ : BufTy).Contents (Elt F) → (⟨S9600000, .i32⟩ : BufTy).Contents (Elt F)) ]

/-- Round 6. -/
abbrev opsH6 : List (HloOp τ sig (Elt F)) :=
  [ nullary main_c_15 (constantI S_ 32 29#32),
    unary main_c_15 main_v48 (broadcastInDim S9600000 ![] bcast_S_S9600000 : (⟨S_, .i32⟩ : BufTy).Contents (Elt F) → (⟨S9600000, .i32⟩ : BufTy).Contents (Elt F)),
    binary main_v46 main_v48 main_v49 (Host.shli : (⟨S9600000, .i32⟩ : BufTy).Contents (Elt F) → (⟨S9600000, .i32⟩ : BufTy).Contents (Elt F) → (⟨S9600000, .i32⟩ : BufTy).Contents (Elt F)),
    nullary main_c_16 (constantI S_ 32 3#32),
    unary main_c_16 main_v50 (broadcastInDim S9600000 ![] bcast_S_S9600000 : (⟨S_, .i32⟩ : BufTy).Contents (Elt F) → (⟨S9600000, .i32⟩ : BufTy).Contents (Elt F)),
    binary main_v46 main_v50 main_v51 (Host.shrui : (⟨S9600000, .i32⟩ : BufTy).Contents (Elt F) → (⟨S9600000, .i32⟩ : BufTy).Contents (Elt F) → (⟨S9600000, .i32⟩ : BufTy).Contents (Elt F)),
    binary main_v49 main_v51 main_v52 (ori : (⟨S9600000, .i32⟩ : BufTy).Contents (Elt F) → (⟨S9600000, .i32⟩ : BufTy).Contents (Elt F) → (⟨S9600000, .i32⟩ : BufTy).Contents (Elt F)),
    binary main_v47 main_v52 main_v53 (xori : (⟨S9600000, .i32⟩ : BufTy).Contents (Elt F) → (⟨S9600000, .i32⟩ : BufTy).Contents (Elt F) → (⟨S9600000, .i32⟩ : BufTy).Contents (Elt F)),
    binary main_v47 main_v53 main_v54 (addi : (⟨S9600000, .i32⟩ : BufTy).Contents (Elt F) → (⟨S9600000, .i32⟩ : BufTy).Contents (Elt F) → (⟨S9600000, .i32⟩ : BufTy).Contents (Elt F)) ]

/-- Round 7. -/
abbrev opsH7 : List (HloOp τ sig (Elt F)) :=
  [ nullary main_c_17 (constantI S_ 32 16#32),
    unary main_c_17 main_v55 (broadcastInDim S9600000 ![] bcast_S_S9600000 : (⟨S_, .i32⟩ : BufTy).Contents (Elt F) → (⟨S9600000, .i32⟩ : BufTy).Contents (Elt F)),
    binary main_v53 main_v55 main_v56 (Host.shli : (⟨S9600000, .i32⟩ : BufTy).Contents (Elt F) → (⟨S9600000, .i32⟩ : BufTy).Contents (Elt F) → (⟨S9600000, .i32⟩ : BufTy).Contents (Elt F)),
    nullary main_c_18 (constantI S_ 32 16#32),
    unary main_c_18 main_v57 (broadcastInDim S9600000 ![] bcast_S_S9600000 : (⟨S_, .i32⟩ : BufTy).Contents (Elt F) → (⟨S9600000, .i32⟩ : BufTy).Contents (Elt F)),
    binary main_v53 main_v57 main_v58 (Host.shrui : (⟨S9600000, .i32⟩ : BufTy).Contents (Elt F) → (⟨S9600000, .i32⟩ : BufTy).Contents (Elt F) → (⟨S9600000, .i32⟩ : BufTy).Contents (Elt F)),
    binary main_v56 main_v58 main_v59 (ori : (⟨S9600000, .i32⟩ : BufTy).Contents (Elt F) → (⟨S9600000, .i32⟩ : BufTy).Contents (Elt F) → (⟨S9600000, .i32⟩ : BufTy).Contents (Elt F)),
    binary main_v54 main_v59 main_v60 (xori : (⟨S9600000, .i32⟩ : BufTy).Contents (Elt F) → (⟨S9600000, .i32⟩ : BufTy).Contents (Elt F) → (⟨S9600000, .i32⟩ : BufTy).Contents (Elt F)),
    binary main_v54 main_v60 main_v61 (addi : (⟨S9600000, .i32⟩ : BufTy).Contents (Elt F) → (⟨S9600000, .i32⟩ : BufTy).Contents (Elt F) → (⟨S9600000, .i32⟩ : BufTy).Contents (Elt F)) ]

/-- Round 8. -/
abbrev opsH8 : List (HloOp τ sig (Elt F)) :=
  [ nullary main_c_19 (constantI S_ 32 24#32),
    unary main_c_19 main_v62 (broadcastInDim S9600000 ![] bcast_S_S9600000 : (⟨S_, .i32⟩ : BufTy).Contents (Elt F) → (⟨S9600000, .i32⟩ : BufTy).Contents (Elt F)),
    binary main_v60 main_v62 main_v63 (Host.shli : (⟨S9600000, .i32⟩ : BufTy).Contents (Elt F) → (⟨S9600000, .i32⟩ : BufTy).Contents (Elt F) → (⟨S9600000, .i32⟩ : BufTy).Contents (Elt F)),
    nullary main_c_20 (constantI S_ 32 8#32),
    unary main_c_20 main_v64 (broadcastInDim S9600000 ![] bcast_S_S9600000 : (⟨S_, .i32⟩ : BufTy).Contents (Elt F) → (⟨S9600000, .i32⟩ : BufTy).Contents (Elt F)),
    binary main_v60 main_v64 main_v65 (Host.shrui : (⟨S9600000, .i32⟩ : BufTy).Contents (Elt F) → (⟨S9600000, .i32⟩ : BufTy).Contents (Elt F) → (⟨S9600000, .i32⟩ : BufTy).Contents (Elt F)),
    binary main_v63 main_v65 main_v66 (ori : (⟨S9600000, .i32⟩ : BufTy).Contents (Elt F) → (⟨S9600000, .i32⟩ : BufTy).Contents (Elt F) → (⟨S9600000, .i32⟩ : BufTy).Contents (Elt F)),
    binary main_v61 main_v66 main_v67 (xori : (⟨S9600000, .i32⟩ : BufTy).Contents (Elt F) → (⟨S9600000, .i32⟩ : BufTy).Contents (Elt F) → (⟨S9600000, .i32⟩ : BufTy).Contents (Elt F)),
    nullary main_c_21 (constantI S_ 32 466689008#32),
    unary main_c_21 main_v68 (broadcastInDim S9600000 ![] bcast_S_S9600000 : (⟨S_, .i32⟩ : BufTy).Contents (Elt F) → (⟨S9600000, .i32⟩ : BufTy).Contents (Elt F)),
    binary main_v61 main_v68 main_v69 (addi : (⟨S9600000, .i32⟩ : BufTy).Contents (Elt F) → (⟨S9600000, .i32⟩ : BufTy).Contents (Elt F) → (⟨S9600000, .i32⟩ : BufTy).Contents (Elt F)),
    nullary main_c_22 (constantI S_ 32 0#32),
    unary main_c_22 main_v70 (broadcastInDim S9600000 ![] bcast_S_S9600000 : (⟨S_, .i32⟩ : BufTy).Contents (Elt F) → (⟨S9600000, .i32⟩ : BufTy).Contents (Elt F)),
    binary main_v67 main_v70 main_v71 (addi : (⟨S9600000, .i32⟩ : BufTy).Contents (Elt F) → (⟨S9600000, .i32⟩ : BufTy).Contents (Elt F) → (⟨S9600000, .i32⟩ : BufTy).Contents (Elt F)),
    nullary main_c_23 (constantI S_ 32 2#32),
    unary main_c_23 main_v72 (broadcastInDim S9600000 ![] bcast_S_S9600000 : (⟨S_, .i32⟩ : BufTy).Contents (Elt F) → (⟨S9600000, .i32⟩ : BufTy).Contents (Elt F)),
    binary main_v71 main_v72 main_v73 (addi : (⟨S9600000, .i32⟩ : BufTy).Contents (Elt F) → (⟨S9600000, .i32⟩ : BufTy).Contents (Elt F) → (⟨S9600000, .i32⟩ : BufTy).Contents (Elt F)),
    binary main_v69 main_v73 main_v74 (addi : (⟨S9600000, .i32⟩ : BufTy).Contents (Elt F) → (⟨S9600000, .i32⟩ : BufTy).Contents (Elt F) → (⟨S9600000, .i32⟩ : BufTy).Contents (Elt F)) ]

/-- Round 9. -/
abbrev opsH9 : List (HloOp τ sig (Elt F)) :=
  [ nullary main_c_24 (constantI S_ 32 13#32),
    unary main_c_24 main_v75 (broadcastInDim S9600000 ![] bcast_S_S9600000 : (⟨S_, .i32⟩ : BufTy).Contents (Elt F) → (⟨S9600000, .i32⟩ : BufTy).Contents (Elt F)),
    binary main_v73 main_v75 main_v76 (Host.shli : (⟨S9600000, .i32⟩ : BufTy).Contents (Elt F) → (⟨S9600000, .i32⟩ : BufTy).Contents (Elt F) → (⟨S9600000, .i32⟩ : BufTy).Contents (Elt F)),
    nullary main_c_25 (constantI S_ 32 19#32),
    unary main_c_25 main_v77 (broadcastInDim S9600000 ![] bcast_S_S9600000 : (⟨S_, .i32⟩ : BufTy).Contents (Elt F) → (⟨S9600000, .i32⟩ : BufTy).Contents (Elt F)),
    binary main_v73 main_v77 main_v78 (Host.shrui : (⟨S9600000, .i32⟩ : BufTy).Contents (Elt F) → (⟨S9600000, .i32⟩ : BufTy).Contents (Elt F) → (⟨S9600000, .i32⟩ : BufTy).Contents (Elt F)),
    binary main_v76 main_v78 main_v79 (ori : (⟨S9600000, .i32⟩ : BufTy).Contents (Elt F) → (⟨S9600000, .i32⟩ : BufTy).Contents (Elt F) → (⟨S9600000, .i32⟩ : BufTy).Contents (Elt F)),
    binary main_v74 main_v79 main_v80 (xori : (⟨S9600000, .i32⟩ : BufTy).Contents (Elt F) → (⟨S9600000, .i32⟩ : BufTy).Contents (Elt F) → (⟨S9600000, .i32⟩ : BufTy).Contents (Elt F)),
    binary main_v74 main_v80 main_v81 (addi : (⟨S9600000, .i32⟩ : BufTy).Contents (Elt F) → (⟨S9600000, .i32⟩ : BufTy).Contents (Elt F) → (⟨S9600000, .i32⟩ : BufTy).Contents (Elt F)) ]

/-- Round 10. -/
abbrev opsH10 : List (HloOp τ sig (Elt F)) :=
  [ nullary main_c_26 (constantI S_ 32 15#32),
    unary main_c_26 main_v82 (broadcastInDim S9600000 ![] bcast_S_S9600000 : (⟨S_, .i32⟩ : BufTy).Contents (Elt F) → (⟨S9600000, .i32⟩ : BufTy).Contents (Elt F)),
    binary main_v80 main_v82 main_v83 (Host.shli : (⟨S9600000, .i32⟩ : BufTy).Contents (Elt F) → (⟨S9600000, .i32⟩ : BufTy).Contents (Elt F) → (⟨S9600000, .i32⟩ : BufTy).Contents (Elt F)),
    nullary main_c_27 (constantI S_ 32 17#32),
    unary main_c_27 main_v84 (broadcastInDim S9600000 ![] bcast_S_S9600000 : (⟨S_, .i32⟩ : BufTy).Contents (Elt F) → (⟨S9600000, .i32⟩ : BufTy).Contents (Elt F)),
    binary main_v80 main_v84 main_v85 (Host.shrui : (⟨S9600000, .i32⟩ : BufTy).Contents (Elt F) → (⟨S9600000, .i32⟩ : BufTy).Contents (Elt F) → (⟨S9600000, .i32⟩ : BufTy).Contents (Elt F)),
    binary main_v83 main_v85 main_v86 (ori : (⟨S9600000, .i32⟩ : BufTy).Contents (Elt F) → (⟨S9600000, .i32⟩ : BufTy).Contents (Elt F) → (⟨S9600000, .i32⟩ : BufTy).Contents (Elt F)),
    binary main_v81 main_v86 main_v87 (xori : (⟨S9600000, .i32⟩ : BufTy).Contents (Elt F) → (⟨S9600000, .i32⟩ : BufTy).Contents (Elt F) → (⟨S9600000, .i32⟩ : BufTy).Contents (Elt F)),
    binary main_v81 main_v87 main_v88 (addi : (⟨S9600000, .i32⟩ : BufTy).Contents (Elt F) → (⟨S9600000, .i32⟩ : BufTy).Contents (Elt F) → (⟨S9600000, .i32⟩ : BufTy).Contents (Elt F)) ]

/-- Round 11. -/
abbrev opsH11 : List (HloOp τ sig (Elt F)) :=
  [ nullary main_c_28 (constantI S_ 32 26#32),
    unary main_c_28 main_v89 (broadcastInDim S9600000 ![] bcast_S_S9600000 : (⟨S_, .i32⟩ : BufTy).Contents (Elt F) → (⟨S9600000, .i32⟩ : BufTy).Contents (Elt F)),
    binary main_v87 main_v89 main_v90 (Host.shli : (⟨S9600000, .i32⟩ : BufTy).Contents (Elt F) → (⟨S9600000, .i32⟩ : BufTy).Contents (Elt F) → (⟨S9600000, .i32⟩ : BufTy).Contents (Elt F)),
    nullary main_c_29 (constantI S_ 32 6#32),
    unary main_c_29 main_v91 (broadcastInDim S9600000 ![] bcast_S_S9600000 : (⟨S_, .i32⟩ : BufTy).Contents (Elt F) → (⟨S9600000, .i32⟩ : BufTy).Contents (Elt F)),
    binary main_v87 main_v91 main_v92 (Host.shrui : (⟨S9600000, .i32⟩ : BufTy).Contents (Elt F) → (⟨S9600000, .i32⟩ : BufTy).Contents (Elt F) → (⟨S9600000, .i32⟩ : BufTy).Contents (Elt F)),
    binary main_v90 main_v92 main_v93 (ori : (⟨S9600000, .i32⟩ : BufTy).Contents (Elt F) → (⟨S9600000, .i32⟩ : BufTy).Contents (Elt F) → (⟨S9600000, .i32⟩ : BufTy).Contents (Elt F)),
    binary main_v88 main_v93 main_v94 (xori : (⟨S9600000, .i32⟩ : BufTy).Contents (Elt F) → (⟨S9600000, .i32⟩ : BufTy).Contents (Elt F) → (⟨S9600000, .i32⟩ : BufTy).Contents (Elt F)),
    binary main_v88 main_v94 main_v95 (addi : (⟨S9600000, .i32⟩ : BufTy).Contents (Elt F) → (⟨S9600000, .i32⟩ : BufTy).Contents (Elt F) → (⟨S9600000, .i32⟩ : BufTy).Contents (Elt F)) ]

/-- Round 12. -/
abbrev opsH12 : List (HloOp τ sig (Elt F)) :=
  [ nullary main_c_30 (constantI S_ 32 6#32),
    unary main_c_30 main_v96 (broadcastInDim S9600000 ![] bcast_S_S9600000 : (⟨S_, .i32⟩ : BufTy).Contents (Elt F) → (⟨S9600000, .i32⟩ : BufTy).Contents (Elt F)),
    binary main_v94 main_v96 main_v97 (Host.shli : (⟨S9600000, .i32⟩ : BufTy).Contents (Elt F) → (⟨S9600000, .i32⟩ : BufTy).Contents (Elt F) → (⟨S9600000, .i32⟩ : BufTy).Contents (Elt F)),
    nullary main_c_31 (constantI S_ 32 26#32),
    unary main_c_31 main_v98 (broadcastInDim S9600000 ![] bcast_S_S9600000 : (⟨S_, .i32⟩ : BufTy).Contents (Elt F) → (⟨S9600000, .i32⟩ : BufTy).Contents (Elt F)),
    binary main_v94 main_v98 main_v99 (Host.shrui : (⟨S9600000, .i32⟩ : BufTy).Contents (Elt F) → (⟨S9600000, .i32⟩ : BufTy).Contents (Elt F) → (⟨S9600000, .i32⟩ : BufTy).Contents (Elt F)),
    binary main_v97 main_v99 main_v100 (ori : (⟨S9600000, .i32⟩ : BufTy).Contents (Elt F) → (⟨S9600000, .i32⟩ : BufTy).Contents (Elt F) → (⟨S9600000, .i32⟩ : BufTy).Contents (Elt F)),
    binary main_v95 main_v100 main_v101 (xori : (⟨S9600000, .i32⟩ : BufTy).Contents (Elt F) → (⟨S9600000, .i32⟩ : BufTy).Contents (Elt F) → (⟨S9600000, .i32⟩ : BufTy).Contents (Elt F)),
    nullary main_c_32 (constantI S_ 32 0#32),
    unary main_c_32 main_v102 (broadcastInDim S9600000 ![] bcast_S_S9600000 : (⟨S_, .i32⟩ : BufTy).Contents (Elt F) → (⟨S9600000, .i32⟩ : BufTy).Contents (Elt F)),
    binary main_v95 main_v102 main_v103 (addi : (⟨S9600000, .i32⟩ : BufTy).Contents (Elt F) → (⟨S9600000, .i32⟩ : BufTy).Contents (Elt F) → (⟨S9600000, .i32⟩ : BufTy).Contents (Elt F)),
    nullary main_c_33 (constantI S_ 32 42#32),
    unary main_c_33 main_v104 (broadcastInDim S9600000 ![] bcast_S_S9600000 : (⟨S_, .i32⟩ : BufTy).Contents (Elt F) → (⟨S9600000, .i32⟩ : BufTy).Contents (Elt F)),
    binary main_v101 main_v104 main_v105 (addi : (⟨S9600000, .i32⟩ : BufTy).Contents (Elt F) → (⟨S9600000, .i32⟩ : BufTy).Contents (Elt F) → (⟨S9600000, .i32⟩ : BufTy).Contents (Elt F)),
    nullary main_c_34 (constantI S_ 32 3#32),
    unary main_c_34 main_v106 (broadcastInDim S9600000 ![] bcast_S_S9600000 : (⟨S_, .i32⟩ : BufTy).Contents (Elt F) → (⟨S9600000, .i32⟩ : BufTy).Contents (Elt F)),
    binary main_v105 main_v106 main_v107 (addi : (⟨S9600000, .i32⟩ : BufTy).Contents (Elt F) → (⟨S9600000, .i32⟩ : BufTy).Contents (Elt F) → (⟨S9600000, .i32⟩ : BufTy).Contents (Elt F)),
    binary main_v103 main_v107 main_v108 (addi : (⟨S9600000, .i32⟩ : BufTy).Contents (Elt F) → (⟨S9600000, .i32⟩ : BufTy).Contents (Elt F) → (⟨S9600000, .i32⟩ : BufTy).Contents (Elt F)) ]

/-- Round 13. -/
abbrev opsH13 : List (HloOp τ sig (Elt F)) :=
  [ nullary main_c_35 (constantI S_ 32 17#32),
    unary main_c_35 main_v109 (broadcastInDim S9600000 ![] bcast_S_S9600000 : (⟨S_, .i32⟩ : BufTy).Contents (Elt F) → (⟨S9600000, .i32⟩ : BufTy).Contents (Elt F)),
    binary main_v107 main_v109 main_v110 (Host.shli : (⟨S9600000, .i32⟩ : BufTy).Contents (Elt F) → (⟨S9600000, .i32⟩ : BufTy).Contents (Elt F) → (⟨S9600000, .i32⟩ : BufTy).Contents (Elt F)),
    nullary main_c_36 (constantI S_ 32 15#32),
    unary main_c_36 main_v111 (broadcastInDim S9600000 ![] bcast_S_S9600000 : (⟨S_, .i32⟩ : BufTy).Contents (Elt F) → (⟨S9600000, .i32⟩ : BufTy).Contents (Elt F)),
    binary main_v107 main_v111 main_v112 (Host.shrui : (⟨S9600000, .i32⟩ : BufTy).Contents (Elt F) → (⟨S9600000, .i32⟩ : BufTy).Contents (Elt F) → (⟨S9600000, .i32⟩ : BufTy).Contents (Elt F)),
    binary main_v110 main_v112 main_v113 (ori : (⟨S9600000, .i32⟩ : BufTy).Contents (Elt F) → (⟨S9600000, .i32⟩ : BufTy).Contents (Elt F) → (⟨S9600000, .i32⟩ : BufTy).Contents (Elt F)),
    binary main_v108 main_v113 main_v114 (xori : (⟨S9600000, .i32⟩ : BufTy).Contents (Elt F) → (⟨S9600000, .i32⟩ : BufTy).Contents (Elt F) → (⟨S9600000, .i32⟩ : BufTy).Contents (Elt F)),
    binary main_v108 main_v114 main_v115 (addi : (⟨S9600000, .i32⟩ : BufTy).Contents (Elt F) → (⟨S9600000, .i32⟩ : BufTy).Contents (Elt F) → (⟨S9600000, .i32⟩ : BufTy).Contents (Elt F)) ]

/-- Round 14. -/
abbrev opsH14 : List (HloOp τ sig (Elt F)) :=
  [ nullary main_c_37 (constantI S_ 32 29#32),
    unary main_c_37 main_v116 (broadcastInDim S9600000 ![] bcast_S_S9600000 : (⟨S_, .i32⟩ : BufTy).Contents (Elt F) → (⟨S9600000, .i32⟩ : BufTy).Contents (Elt F)),
    binary main_v114 main_v116 main_v117 (Host.shli : (⟨S9600000, .i32⟩ : BufTy).Contents (Elt F) → (⟨S9600000, .i32⟩ : BufTy).Contents (Elt F) → (⟨S9600000, .i32⟩ : BufTy).Contents (Elt F)),
    nullary main_c_38 (constantI S_ 32 3#32),
    unary main_c_38 main_v118 (broadcastInDim S9600000 ![] bcast_S_S9600000 : (⟨S_, .i32⟩ : BufTy).Contents (Elt F) → (⟨S9600000, .i32⟩ : BufTy).Contents (Elt F)),
    binary main_v114 main_v118 main_v119 (Host.shrui : (⟨S9600000, .i32⟩ : BufTy).Contents (Elt F) → (⟨S9600000, .i32⟩ : BufTy).Contents (Elt F) → (⟨S9600000, .i32⟩ : BufTy).Contents (Elt F)),
    binary main_v117 main_v119 main_v120 (ori : (⟨S9600000, .i32⟩ : BufTy).Contents (Elt F) → (⟨S9600000, .i32⟩ : BufTy).Contents (Elt F) → (⟨S9600000, .i32⟩ : BufTy).Contents (Elt F)),
    binary main_v115 main_v120 main_v121 (xori : (⟨S9600000, .i32⟩ : BufTy).Contents (Elt F) → (⟨S9600000, .i32⟩ : BufTy).Contents (Elt F) → (⟨S9600000, .i32⟩ : BufTy).Contents (Elt F)),
    binary main_v115 main_v121 main_v122 (addi : (⟨S9600000, .i32⟩ : BufTy).Contents (Elt F) → (⟨S9600000, .i32⟩ : BufTy).Contents (Elt F) → (⟨S9600000, .i32⟩ : BufTy).Contents (Elt F)) ]

/-- Round 15. -/
abbrev opsH15 : List (HloOp τ sig (Elt F)) :=
  [ nullary main_c_39 (constantI S_ 32 16#32),
    unary main_c_39 main_v123 (broadcastInDim S9600000 ![] bcast_S_S9600000 : (⟨S_, .i32⟩ : BufTy).Contents (Elt F) → (⟨S9600000, .i32⟩ : BufTy).Contents (Elt F)),
    binary main_v121 main_v123 main_v124 (Host.shli : (⟨S9600000, .i32⟩ : BufTy).Contents (Elt F) → (⟨S9600000, .i32⟩ : BufTy).Contents (Elt F) → (⟨S9600000, .i32⟩ : BufTy).Contents (Elt F)),
    nullary main_c_40 (constantI S_ 32 16#32),
    unary main_c_40 main_v125 (broadcastInDim S9600000 ![] bcast_S_S9600000 : (⟨S_, .i32⟩ : BufTy).Contents (Elt F) → (⟨S9600000, .i32⟩ : BufTy).Contents (Elt F)),
    binary main_v121 main_v125 main_v126 (Host.shrui : (⟨S9600000, .i32⟩ : BufTy).Contents (Elt F) → (⟨S9600000, .i32⟩ : BufTy).Contents (Elt F) → (⟨S9600000, .i32⟩ : BufTy).Contents (Elt F)),
    binary main_v124 main_v126 main_v127 (ori : (⟨S9600000, .i32⟩ : BufTy).Contents (Elt F) → (⟨S9600000, .i32⟩ : BufTy).Contents (Elt F) → (⟨S9600000, .i32⟩ : BufTy).Contents (Elt F)),
    binary main_v122 main_v127 main_v128 (xori : (⟨S9600000, .i32⟩ : BufTy).Contents (Elt F) → (⟨S9600000, .i32⟩ : BufTy).Contents (Elt F) → (⟨S9600000, .i32⟩ : BufTy).Contents (Elt F)),
    binary main_v122 main_v128 main_v129 (addi : (⟨S9600000, .i32⟩ : BufTy).Contents (Elt F) → (⟨S9600000, .i32⟩ : BufTy).Contents (Elt F) → (⟨S9600000, .i32⟩ : BufTy).Contents (Elt F)) ]

/-- Round 16. -/
abbrev opsH16 : List (HloOp τ sig (Elt F)) :=
  [ nullary main_c_41 (constantI S_ 32 24#32),
    unary main_c_41 main_v130 (broadcastInDim S9600000 ![] bcast_S_S9600000 : (⟨S_, .i32⟩ : BufTy).Contents (Elt F) → (⟨S9600000, .i32⟩ : BufTy).Contents (Elt F)),
    binary main_v128 main_v130 main_v131 (Host.shli : (⟨S9600000, .i32⟩ : BufTy).Contents (Elt F) → (⟨S9600000, .i32⟩ : BufTy).Contents (Elt F) → (⟨S9600000, .i32⟩ : BufTy).Contents (Elt F)),
    nullary main_c_42 (constantI S_ 32 8#32),
    unary main_c_42 main_v132 (broadcastInDim S9600000 ![] bcast_S_S9600000 : (⟨S_, .i32⟩ : BufTy).Contents (Elt F) → (⟨S9600000, .i32⟩ : BufTy).Contents (Elt F)),
    binary main_v128 main_v132 main_v133 (Host.shrui : (⟨S9600000, .i32⟩ : BufTy).Contents (Elt F) → (⟨S9600000, .i32⟩ : BufTy).Contents (Elt F) → (⟨S9600000, .i32⟩ : BufTy).Contents (Elt F)),
    binary main_v131 main_v133 main_v134 (ori : (⟨S9600000, .i32⟩ : BufTy).Contents (Elt F) → (⟨S9600000, .i32⟩ : BufTy).Contents (Elt F) → (⟨S9600000, .i32⟩ : BufTy).Contents (Elt F)),
    binary main_v129 main_v134 main_v135 (xori : (⟨S9600000, .i32⟩ : BufTy).Contents (Elt F) → (⟨S9600000, .i32⟩ : BufTy).Contents (Elt F) → (⟨S9600000, .i32⟩ : BufTy).Contents (Elt F)),
    nullary main_c_43 (constantI S_ 32 42#32),
    unary main_c_43 main_v136 (broadcastInDim S9600000 ![] bcast_S_S9600000 : (⟨S_, .i32⟩ : BufTy).Contents (Elt F) → (⟨S9600000, .i32⟩ : BufTy).Contents (Elt F)),
    binary main_v129 main_v136 main_v137 (addi : (⟨S9600000, .i32⟩ : BufTy).Contents (Elt F) → (⟨S9600000, .i32⟩ : BufTy).Contents (Elt F) → (⟨S9600000, .i32⟩ : BufTy).Contents (Elt F)),
    nullary main_c_44 (constantI S_ 32 466689008#32),
    unary main_c_44 main_v138 (broadcastInDim S9600000 ![] bcast_S_S9600000 : (⟨S_, .i32⟩ : BufTy).Contents (Elt F) → (⟨S9600000, .i32⟩ : BufTy).Contents (Elt F)),
    binary main_v135 main_v138 main_v139 (addi : (⟨S9600000, .i32⟩ : BufTy).Contents (Elt F) → (⟨S9600000, .i32⟩ : BufTy).Contents (Elt F) → (⟨S9600000, .i32⟩ : BufTy).Contents (Elt F)),
    nullary main_c_45 (constantI S_ 32 4#32),
    unary main_c_45 main_v140 (broadcastInDim S9600000 ![] bcast_S_S9600000 : (⟨S_, .i32⟩ : BufTy).Contents (Elt F) → (⟨S9600000, .i32⟩ : BufTy).Contents (Elt F)),
    binary main_v139 main_v140 main_v141 (addi : (⟨S9600000, .i32⟩ : BufTy).Contents (Elt F) → (⟨S9600000, .i32⟩ : BufTy).Contents (Elt F) → (⟨S9600000, .i32⟩ : BufTy).Contents (Elt F)),
    binary main_v137 main_v141 main_v142 (addi : (⟨S9600000, .i32⟩ : BufTy).Contents (Elt F) → (⟨S9600000, .i32⟩ : BufTy).Contents (Elt F) → (⟨S9600000, .i32⟩ : BufTy).Contents (Elt F)) ]

/-- Round 17. -/
abbrev opsH17 : List (HloOp τ sig (Elt F)) :=
  [ nullary main_c_46 (constantI S_ 32 13#32),
    unary main_c_46 main_v143 (broadcastInDim S9600000 ![] bcast_S_S9600000 : (⟨S_, .i32⟩ : BufTy).Contents (Elt F) → (⟨S9600000, .i32⟩ : BufTy).Contents (Elt F)),
    binary main_v141 main_v143 main_v144 (Host.shli : (⟨S9600000, .i32⟩ : BufTy).Contents (Elt F) → (⟨S9600000, .i32⟩ : BufTy).Contents (Elt F) → (⟨S9600000, .i32⟩ : BufTy).Contents (Elt F)),
    nullary main_c_47 (constantI S_ 32 19#32),
    unary main_c_47 main_v145 (broadcastInDim S9600000 ![] bcast_S_S9600000 : (⟨S_, .i32⟩ : BufTy).Contents (Elt F) → (⟨S9600000, .i32⟩ : BufTy).Contents (Elt F)),
    binary main_v141 main_v145 main_v146 (Host.shrui : (⟨S9600000, .i32⟩ : BufTy).Contents (Elt F) → (⟨S9600000, .i32⟩ : BufTy).Contents (Elt F) → (⟨S9600000, .i32⟩ : BufTy).Contents (Elt F)),
    binary main_v144 main_v146 main_v147 (ori : (⟨S9600000, .i32⟩ : BufTy).Contents (Elt F) → (⟨S9600000, .i32⟩ : BufTy).Contents (Elt F) → (⟨S9600000, .i32⟩ : BufTy).Contents (Elt F)),
    binary main_v142 main_v147 main_v148 (xori : (⟨S9600000, .i32⟩ : BufTy).Contents (Elt F) → (⟨S9600000, .i32⟩ : BufTy).Contents (Elt F) → (⟨S9600000, .i32⟩ : BufTy).Contents (Elt F)),
    binary main_v142 main_v148 main_v149 (addi : (⟨S9600000, .i32⟩ : BufTy).Contents (Elt F) → (⟨S9600000, .i32⟩ : BufTy).Contents (Elt F) → (⟨S9600000, .i32⟩ : BufTy).Contents (Elt F)) ]

/-- Round 18. -/
abbrev opsH18 : List (HloOp τ sig (Elt F)) :=
  [ nullary main_c_48 (constantI S_ 32 15#32),
    unary main_c_48 main_v150 (broadcastInDim S9600000 ![] bcast_S_S9600000 : (⟨S_, .i32⟩ : BufTy).Contents (Elt F) → (⟨S9600000, .i32⟩ : BufTy).Contents (Elt F)),
    binary main_v148 main_v150 main_v151 (Host.shli : (⟨S9600000, .i32⟩ : BufTy).Contents (Elt F) → (⟨S9600000, .i32⟩ : BufTy).Contents (Elt F) → (⟨S9600000, .i32⟩ : BufTy).Contents (Elt F)),
    nullary main_c_49 (constantI S_ 32 17#32),
    unary main_c_49 main_v152 (broadcastInDim S9600000 ![] bcast_S_S9600000 : (⟨S_, .i32⟩ : BufTy).Contents (Elt F) → (⟨S9600000, .i32⟩ : BufTy).Contents (Elt F)),
    binary main_v148 main_v152 main_v153 (Host.shrui : (⟨S9600000, .i32⟩ : BufTy).Contents (Elt F) → (⟨S9600000, .i32⟩ : BufTy).Contents (Elt F) → (⟨S9600000, .i32⟩ : BufTy).Contents (Elt F)),
    binary main_v151 main_v153 main_v154 (ori : (⟨S9600000, .i32⟩ : BufTy).Contents (Elt F) → (⟨S9600000, .i32⟩ : BufTy).Contents (Elt F) → (⟨S9600000, .i32⟩ : BufTy).Contents (Elt F)),
    binary main_v149 main_v154 main_v155 (xori : (⟨S9600000, .i32⟩ : BufTy).Contents (Elt F) → (⟨S9600000, .i32⟩ : BufTy).Contents (Elt F) → (⟨S9600000, .i32⟩ : BufTy).Contents (Elt F)),
    binary main_v149 main_v155 main_v156 (addi : (⟨S9600000, .i32⟩ : BufTy).Contents (Elt F) → (⟨S9600000, .i32⟩ : BufTy).Contents (Elt F) → (⟨S9600000, .i32⟩ : BufTy).Contents (Elt F)) ]

/-- Round 19. -/
abbrev opsH19 : List (HloOp τ sig (Elt F)) :=
  [ nullary main_c_50 (constantI S_ 32 26#32),
    unary main_c_50 main_v157 (broadcastInDim S9600000 ![] bcast_S_S9600000 : (⟨S_, .i32⟩ : BufTy).Contents (Elt F) → (⟨S9600000, .i32⟩ : BufTy).Contents (Elt F)),
    binary main_v155 main_v157 main_v158 (Host.shli : (⟨S9600000, .i32⟩ : BufTy).Contents (Elt F) → (⟨S9600000, .i32⟩ : BufTy).Contents (Elt F) → (⟨S9600000, .i32⟩ : BufTy).Contents (Elt F)),
    nullary main_c_51 (constantI S_ 32 6#32),
    unary main_c_51 main_v159 (broadcastInDim S9600000 ![] bcast_S_S9600000 : (⟨S_, .i32⟩ : BufTy).Contents (Elt F) → (⟨S9600000, .i32⟩ : BufTy).Contents (Elt F)),
    binary main_v155 main_v159 main_v160 (Host.shrui : (⟨S9600000, .i32⟩ : BufTy).Contents (Elt F) → (⟨S9600000, .i32⟩ : BufTy).Contents (Elt F) → (⟨S9600000, .i32⟩ : BufTy).Contents (Elt F)),
    binary main_v158 main_v160 main_v161 (ori : (⟨S9600000, .i32⟩ : BufTy).Contents (Elt F) → (⟨S9600000, .i32⟩ : BufTy).Contents (Elt F) → (⟨S9600000, .i32⟩ : BufTy).Contents (Elt F)),
    binary main_v156 main_v161 main_v162 (xori : (⟨S9600000, .i32⟩ : BufTy).Contents (Elt F) → (⟨S9600000, .i32⟩ : BufTy).Contents (Elt F) → (⟨S9600000, .i32⟩ : BufTy).Contents (Elt F)),
    binary main_v156 main_v162 main_v163 (addi : (⟨S9600000, .i32⟩ : BufTy).Contents (Elt F) → (⟨S9600000, .i32⟩ : BufTy).Contents (Elt F) → (⟨S9600000, .i32⟩ : BufTy).Contents (Elt F)) ]

/-- Round 20. -/
abbrev opsH20 : List (HloOp τ sig (Elt F)) :=
  [ nullary main_c_52 (constantI S_ 32 6#32),
    unary main_c_52 main_v164 (broadcastInDim S9600000 ![] bcast_S_S9600000 : (⟨S_, .i32⟩ : BufTy).Contents (Elt F) → (⟨S9600000, .i32⟩ : BufTy).Contents (Elt F)),
    binary main_v162 main_v164 main_v165 (Host.shli : (⟨S9600000, .i32⟩ : BufTy).Contents (Elt F) → (⟨S9600000, .i32⟩ : BufTy).Contents (Elt F) → (⟨S9600000, .i32⟩ : BufTy).Contents (Elt F)),
    nullary main_c_53 (constantI S_ 32 26#32),
    unary main_c_53 main_v166 (broadcastInDim S9600000 ![] bcast_S_S9600000 : (⟨S_, .i32⟩ : BufTy).Contents (Elt F) → (⟨S9600000, .i32⟩ : BufTy).Contents (Elt F)),
    binary main_v162 main_v166 main_v167 (Host.shrui : (⟨S9600000, .i32⟩ : BufTy).Contents (Elt F) → (⟨S9600000, .i32⟩ : BufTy).Contents (Elt F) → (⟨S9600000, .i32⟩ : BufTy).Contents (Elt F)),
    binary main_v165 main_v167 main_v168 (ori : (⟨S9600000, .i32⟩ : BufTy).Contents (Elt F) → (⟨S9600000, .i32⟩ : BufTy).Contents (Elt F) → (⟨S9600000, .i32⟩ : BufTy).Contents (Elt F)),
    binary main_v163 main_v168 main_v169 (xori : (⟨S9600000, .i32⟩ : BufTy).Contents (Elt F) → (⟨S9600000, .i32⟩ : BufTy).Contents (Elt F) → (⟨S9600000, .i32⟩ : BufTy).Contents (Elt F)),
    nullary main_c_54 (constantI S_ 32 466689008#32),
    unary main_c_54 main_v170 (broadcastInDim S9600000 ![] bcast_S_S9600000 : (⟨S_, .i32⟩ : BufTy).Contents (Elt F) → (⟨S9600000, .i32⟩ : BufTy).Contents (Elt F)),
    binary main_v163 main_v170 main_v171 (addi : (⟨S9600000, .i32⟩ : BufTy).Contents (Elt F) → (⟨S9600000, .i32⟩ : BufTy).Contents (Elt F) → (⟨S9600000, .i32⟩ : BufTy).Contents (Elt F)),
    nullary main_c_55 (constantI S_ 32 0#32),
    unary main_c_55 main_v172 (broadcastInDim S9600000 ![] bcast_S_S9600000 : (⟨S_, .i32⟩ : BufTy).Contents (Elt F) → (⟨S9600000, .i32⟩ : BufTy).Contents (Elt F)),
    binary main_v169 main_v172 main_v173 (addi : (⟨S9600000, .i32⟩ : BufTy).Contents (Elt F) → (⟨S9600000, .i32⟩ : BufTy).Contents (Elt F) → (⟨S9600000, .i32⟩ : BufTy).Contents (Elt F)),
    nullary main_c_56 (constantI S_ 32 5#32),
    unary main_c_56 main_v174 (broadcastInDim S9600000 ![] bcast_S_S9600000 : (⟨S_, .i32⟩ : BufTy).Contents (Elt F) → (⟨S9600000, .i32⟩ : BufTy).Contents (Elt F)),
    binary main_v173 main_v174 main_v175 (addi : (⟨S9600000, .i32⟩ : BufTy).Contents (Elt F) → (⟨S9600000, .i32⟩ : BufTy).Contents (Elt F) → (⟨S9600000, .i32⟩ : BufTy).Contents (Elt F)) ]

/-- The words, row by row. -/
abbrev opsH21 : List (HloOp τ sig (Elt F)) :=
  [ binary main_v171 main_v175 main_v176 (xori : (⟨S9600000, .i32⟩ : BufTy).Contents (Elt F) → (⟨S9600000, .i32⟩ : BufTy).Contents (Elt F) → (⟨S9600000, .i32⟩ : BufTy).Contents (Elt F)),
    reshape main_v176 main_v177 (rfl : (.i32 : EltTy) = .i32) shapeCasts_S9600000_S96x100000,
    reshape main_arg2 main_v178 (rfl : (.f32 : EltTy) = .f32) shapeCasts_S100000_S1x100000 ]

set_option maxHeartbeats 4000000 in
theorem host_split : (hostOps0 : List (HloOp τ sig (Elt F))) =
    opsH0 ++ (opsH1 ++ (opsH2 ++ (opsH3 ++ (opsH4 ++ (opsH5 ++ (opsH6 ++ (opsH7 ++ (opsH8 ++ (opsH9 ++ (opsH10 ++ (opsH11 ++ (opsH12 ++ (opsH13 ++ (opsH14 ++ (opsH15 ++ (opsH16 ++ (opsH17 ++ (opsH18 ++ (opsH19 ++ (opsH20 ++ (opsH21))))))))))))))))))))) := rfl

theorem after_cat (a b : List (HloOp τ sig (Elt F))) (V : Valuation τ sig (Elt F)) : after (a ++ b) V = after b (after a V) := by
  induction a generalizing V with
  | nil => rfl
  | cons op l ih => exact ih _

/-- The words of the two buffers are the given pair at every index. -/
structure Words (x0 x1 : IVec S9600000 32) (p : S9600000.Idx → BitVec 32 × BitVec 32) : Prop where
  fst : ∀ y, x0 y = (p y).1
  snd : ∀ y, x1 y = (p y).2

/-- The counter of an entry of the flat table. -/
def tailCounter (y : S9600000.Idx) : BitVec 32 := 3200000#32 + BitVec.ofNat 32 (y 0).val

theorem host0 (V : Valuation τ sig (Elt F)) :
    Words (after opsH0 V (Proc.devRef .tc main_v6)) (after opsH0 V (Proc.devRef .tc main_v5)) fun y => mix0 (tailCounter y) where
  fst y := by
    after_reads_simp
    rfl
  snd y := by
    after_reads_simp
    rfl

theorem host1 (V : Valuation τ sig (Elt F)) (n : S9600000.Idx → BitVec 32)
    (h : Words (V (Proc.devRef .tc main_v6)) (V (Proc.devRef .tc main_v5)) fun y => mix0 (n y)) :
    Words (after opsH1 V (Proc.devRef .tc main_v13)) (after opsH1 V (Proc.devRef .tc main_v12)) fun y => mix1 (n y) where
  fst y := by
    unfold mix1
    rw [show mix0 (n y) = (V (Proc.devRef .tc main_v6) y, V (Proc.devRef .tc main_v5) y) from Prod.ext (h.fst y).symm (h.snd y).symm]
    after_reads_simp
    rfl
  snd y := by
    unfold mix1
    rw [show mix0 (n y) = (V (Proc.devRef .tc main_v6) y, V (Proc.devRef .tc main_v5) y) from Prod.ext (h.fst y).symm (h.snd y).symm]
    after_reads_simp
    rfl

theorem host2 (V : Valuation τ sig (Elt F)) (n : S9600000.Idx → BitVec 32)
    (h : Words (V (Proc.devRef .tc main_v13)) (V (Proc.devRef .tc main_v12)) fun y => mix1 (n y)) :
    Words (after opsH2 V (Proc.devRef .tc main_v20)) (after opsH2 V (Proc.devRef .tc main_v19)) fun y => mix2 (n y) where
  fst y := by
    unfold mix2
    rw [show mix1 (n y) = (V (Proc.devRef .tc main_v13) y, V (Proc.devRef .tc main_v12) y) from Prod.ext (h.fst y).symm (h.snd y).symm]
    after_reads_simp
    rfl
  snd y := by
    unfold mix2
    rw [show mix1 (n y) = (V (Proc.devRef .tc main_v13) y, V (Proc.devRef .tc main_v12) y) from Prod.ext (h.fst y).symm (h.snd y).symm]
    after_reads_simp
    rfl

theorem host3 (V : Valuation τ sig (Elt F)) (n : S9600000.Idx → BitVec 32)
    (h : Words (V (Proc.devRef .tc main_v20)) (V (Proc.devRef .tc main_v19)) fun y => mix2 (n y)) :
    Words (after opsH3 V (Proc.devRef .tc main_v27)) (after opsH3 V (Proc.devRef .tc main_v26)) fun y => mix3 (n y) where
  fst y := by
    unfold mix3
    rw [show mix2 (n y) = (V (Proc.devRef .tc main_v20) y, V (Proc.devRef .tc main_v19) y) from Prod.ext (h.fst y).symm (h.snd y).symm]
    after_reads_simp
    rfl
  snd y := by
    unfold mix3
    rw [show mix2 (n y) = (V (Proc.devRef .tc main_v20) y, V (Proc.devRef .tc main_v19) y) from Prod.ext (h.fst y).symm (h.snd y).symm]
    after_reads_simp
    rfl

theorem host4 (V : Valuation τ sig (Elt F)) (n : S9600000.Idx → BitVec 32)
    (h : Words (V (Proc.devRef .tc main_v27)) (V (Proc.devRef .tc main_v26)) fun y => mix3 (n y)) :
    Words (after opsH4 V (Proc.devRef .tc main_v40)) (after opsH4 V (Proc.devRef .tc main_v39)) fun y => mix4 (n y) where
  fst y := by
    unfold mix4
    rw [show mix3 (n y) = (V (Proc.devRef .tc main_v27) y, V (Proc.devRef .tc main_v26) y) from Prod.ext (h.fst y).symm (h.snd y).symm]
    after_reads_simp
    rfl
  snd y := by
    unfold mix4
    rw [show mix3 (n y) = (V (Proc.devRef .tc main_v27) y, V (Proc.devRef .tc main_v26) y) from Prod.ext (h.fst y).symm (h.snd y).symm]
    after_reads_simp
    rfl

theorem host5 (V : Valuation τ sig (Elt F)) (n : S9600000.Idx → BitVec 32)
    (h : Words (V (Proc.devRef .tc main_v40)) (V (Proc.devRef .tc main_v39)) fun y => mix4 (n y)) :
    Words (after opsH5 V (Proc.devRef .tc main_v47)) (after opsH5 V (Proc.devRef .tc main_v46)) fun y => mix5 (n y) where
  fst y := by
    unfold mix5
    rw [show mix4 (n y) = (V (Proc.devRef .tc main_v40) y, V (Proc.devRef .tc main_v39) y) from Prod.ext (h.fst y).symm (h.snd y).symm]
    after_reads_simp
    rfl
  snd y := by
    unfold mix5
    rw [show mix4 (n y) = (V (Proc.devRef .tc main_v40) y, V (Proc.devRef .tc main_v39) y) from Prod.ext (h.fst y).symm (h.snd y).symm]
    after_reads_simp
    rfl

theorem host6 (V : Valuation τ sig (Elt F)) (n : S9600000.Idx → BitVec 32)
    (h : Words (V (Proc.devRef .tc main_v47)) (V (Proc.devRef .tc main_v46)) fun y => mix5 (n y)) :
    Words (after opsH6 V (Proc.devRef .tc main_v54)) (after opsH6 V (Proc.devRef .tc main_v53)) fun y => mix6 (n y) where
  fst y := by
    unfold mix6
    rw [show mix5 (n y) = (V (Proc.devRef .tc main_v47) y, V (Proc.devRef .tc main_v46) y) from Prod.ext (h.fst y).symm (h.snd y).symm]
    after_reads_simp
    rfl
  snd y := by
    unfold mix6
    rw [show mix5 (n y) = (V (Proc.devRef .tc main_v47) y, V (Proc.devRef .tc main_v46) y) from Prod.ext (h.fst y).symm (h.snd y).symm]
    after_reads_simp
    rfl

theorem host7 (V : Valuation τ sig (Elt F)) (n : S9600000.Idx → BitVec 32)
    (h : Words (V (Proc.devRef .tc main_v54)) (V (Proc.devRef .tc main_v53)) fun y => mix6 (n y)) :
    Words (after opsH7 V (Proc.devRef .tc main_v61)) (after opsH7 V (Proc.devRef .tc main_v60)) fun y => mix7 (n y) where
  fst y := by
    unfold mix7
    rw [show mix6 (n y) = (V (Proc.devRef .tc main_v54) y, V (Proc.devRef .tc main_v53) y) from Prod.ext (h.fst y).symm (h.snd y).symm]
    after_reads_simp
    rfl
  snd y := by
    unfold mix7
    rw [show mix6 (n y) = (V (Proc.devRef .tc main_v54) y, V (Proc.devRef .tc main_v53) y) from Prod.ext (h.fst y).symm (h.snd y).symm]
    after_reads_simp
    rfl

theorem host8 (V : Valuation τ sig (Elt F)) (n : S9600000.Idx → BitVec 32)
    (h : Words (V (Proc.devRef .tc main_v61)) (V (Proc.devRef .tc main_v60)) fun y => mix7 (n y)) :
    Words (after opsH8 V (Proc.devRef .tc main_v74)) (after opsH8 V (Proc.devRef .tc main_v73)) fun y => mix8 (n y) where
  fst y := by
    unfold mix8
    rw [show mix7 (n y) = (V (Proc.devRef .tc main_v61) y, V (Proc.devRef .tc main_v60) y) from Prod.ext (h.fst y).symm (h.snd y).symm]
    after_reads_simp
    rfl
  snd y := by
    unfold mix8
    rw [show mix7 (n y) = (V (Proc.devRef .tc main_v61) y, V (Proc.devRef .tc main_v60) y) from Prod.ext (h.fst y).symm (h.snd y).symm]
    after_reads_simp
    rfl

theorem host9 (V : Valuation τ sig (Elt F)) (n : S9600000.Idx → BitVec 32)
    (h : Words (V (Proc.devRef .tc main_v74)) (V (Proc.devRef .tc main_v73)) fun y => mix8 (n y)) :
    Words (after opsH9 V (Proc.devRef .tc main_v81)) (after opsH9 V (Proc.devRef .tc main_v80)) fun y => mix9 (n y) where
  fst y := by
    unfold mix9
    rw [show mix8 (n y) = (V (Proc.devRef .tc main_v74) y, V (Proc.devRef .tc main_v73) y) from Prod.ext (h.fst y).symm (h.snd y).symm]
    after_reads_simp
    rfl
  snd y := by
    unfold mix9
    rw [show mix8 (n y) = (V (Proc.devRef .tc main_v74) y, V (Proc.devRef .tc main_v73) y) from Prod.ext (h.fst y).symm (h.snd y).symm]
    after_reads_simp
    rfl

theorem host10 (V : Valuation τ sig (Elt F)) (n : S9600000.Idx → BitVec 32)
    (h : Words (V (Proc.devRef .tc main_v81)) (V (Proc.devRef .tc main_v80)) fun y => mix9 (n y)) :
    Words (after opsH10 V (Proc.devRef .tc main_v88)) (after opsH10 V (Proc.devRef .tc main_v87)) fun y => mix10 (n y) where
  fst y := by
    unfold mix10
    rw [show mix9 (n y) = (V (Proc.devRef .tc main_v81) y, V (Proc.devRef .tc main_v80) y) from Prod.ext (h.fst y).symm (h.snd y).symm]
    after_reads_simp
    rfl
  snd y := by
    unfold mix10
    rw [show mix9 (n y) = (V (Proc.devRef .tc main_v81) y, V (Proc.devRef .tc main_v80) y) from Prod.ext (h.fst y).symm (h.snd y).symm]
    after_reads_simp
    rfl

theorem host11 (V : Valuation τ sig (Elt F)) (n : S9600000.Idx → BitVec 32)
    (h : Words (V (Proc.devRef .tc main_v88)) (V (Proc.devRef .tc main_v87)) fun y => mix10 (n y)) :
    Words (after opsH11 V (Proc.devRef .tc main_v95)) (after opsH11 V (Proc.devRef .tc main_v94)) fun y => mix11 (n y) where
  fst y := by
    unfold mix11
    rw [show mix10 (n y) = (V (Proc.devRef .tc main_v88) y, V (Proc.devRef .tc main_v87) y) from Prod.ext (h.fst y).symm (h.snd y).symm]
    after_reads_simp
    rfl
  snd y := by
    unfold mix11
    rw [show mix10 (n y) = (V (Proc.devRef .tc main_v88) y, V (Proc.devRef .tc main_v87) y) from Prod.ext (h.fst y).symm (h.snd y).symm]
    after_reads_simp
    rfl

theorem host12 (V : Valuation τ sig (Elt F)) (n : S9600000.Idx → BitVec 32)
    (h : Words (V (Proc.devRef .tc main_v95)) (V (Proc.devRef .tc main_v94)) fun y => mix11 (n y)) :
    Words (after opsH12 V (Proc.devRef .tc main_v108)) (after opsH12 V (Proc.devRef .tc main_v107)) fun y => mix12 (n y) where
  fst y := by
    unfold mix12
    rw [show mix11 (n y) = (V (Proc.devRef .tc main_v95) y, V (Proc.devRef .tc main_v94) y) from Prod.ext (h.fst y).symm (h.snd y).symm]
    after_reads_simp
    rfl
  snd y := by
    unfold mix12
    rw [show mix11 (n y) = (V (Proc.devRef .tc main_v95) y, V (Proc.devRef .tc main_v94) y) from Prod.ext (h.fst y).symm (h.snd y).symm]
    after_reads_simp
    rfl

theorem host13 (V : Valuation τ sig (Elt F)) (n : S9600000.Idx → BitVec 32)
    (h : Words (V (Proc.devRef .tc main_v108)) (V (Proc.devRef .tc main_v107)) fun y => mix12 (n y)) :
    Words (after opsH13 V (Proc.devRef .tc main_v115)) (after opsH13 V (Proc.devRef .tc main_v114)) fun y => mix13 (n y) where
  fst y := by
    unfold mix13
    rw [show mix12 (n y) = (V (Proc.devRef .tc main_v108) y, V (Proc.devRef .tc main_v107) y) from Prod.ext (h.fst y).symm (h.snd y).symm]
    after_reads_simp
    rfl
  snd y := by
    unfold mix13
    rw [show mix12 (n y) = (V (Proc.devRef .tc main_v108) y, V (Proc.devRef .tc main_v107) y) from Prod.ext (h.fst y).symm (h.snd y).symm]
    after_reads_simp
    rfl

theorem host14 (V : Valuation τ sig (Elt F)) (n : S9600000.Idx → BitVec 32)
    (h : Words (V (Proc.devRef .tc main_v115)) (V (Proc.devRef .tc main_v114)) fun y => mix13 (n y)) :
    Words (after opsH14 V (Proc.devRef .tc main_v122)) (after opsH14 V (Proc.devRef .tc main_v121)) fun y => mix14 (n y) where
  fst y := by
    unfold mix14
    rw [show mix13 (n y) = (V (Proc.devRef .tc main_v115) y, V (Proc.devRef .tc main_v114) y) from Prod.ext (h.fst y).symm (h.snd y).symm]
    after_reads_simp
    rfl
  snd y := by
    unfold mix14
    rw [show mix13 (n y) = (V (Proc.devRef .tc main_v115) y, V (Proc.devRef .tc main_v114) y) from Prod.ext (h.fst y).symm (h.snd y).symm]
    after_reads_simp
    rfl

theorem host15 (V : Valuation τ sig (Elt F)) (n : S9600000.Idx → BitVec 32)
    (h : Words (V (Proc.devRef .tc main_v122)) (V (Proc.devRef .tc main_v121)) fun y => mix14 (n y)) :
    Words (after opsH15 V (Proc.devRef .tc main_v129)) (after opsH15 V (Proc.devRef .tc main_v128)) fun y => mix15 (n y) where
  fst y := by
    unfold mix15
    rw [show mix14 (n y) = (V (Proc.devRef .tc main_v122) y, V (Proc.devRef .tc main_v121) y) from Prod.ext (h.fst y).symm (h.snd y).symm]
    after_reads_simp
    rfl
  snd y := by
    unfold mix15
    rw [show mix14 (n y) = (V (Proc.devRef .tc main_v122) y, V (Proc.devRef .tc main_v121) y) from Prod.ext (h.fst y).symm (h.snd y).symm]
    after_reads_simp
    rfl

theorem host16 (V : Valuation τ sig (Elt F)) (n : S9600000.Idx → BitVec 32)
    (h : Words (V (Proc.devRef .tc main_v129)) (V (Proc.devRef .tc main_v128)) fun y => mix15 (n y)) :
    Words (after opsH16 V (Proc.devRef .tc main_v142)) (after opsH16 V (Proc.devRef .tc main_v141)) fun y => mix16 (n y) where
  fst y := by
    unfold mix16
    rw [show mix15 (n y) = (V (Proc.devRef .tc main_v129) y, V (Proc.devRef .tc main_v128) y) from Prod.ext (h.fst y).symm (h.snd y).symm]
    after_reads_simp
    rfl
  snd y := by
    unfold mix16
    rw [show mix15 (n y) = (V (Proc.devRef .tc main_v129) y, V (Proc.devRef .tc main_v128) y) from Prod.ext (h.fst y).symm (h.snd y).symm]
    after_reads_simp
    rfl

theorem host17 (V : Valuation τ sig (Elt F)) (n : S9600000.Idx → BitVec 32)
    (h : Words (V (Proc.devRef .tc main_v142)) (V (Proc.devRef .tc main_v141)) fun y => mix16 (n y)) :
    Words (after opsH17 V (Proc.devRef .tc main_v149)) (after opsH17 V (Proc.devRef .tc main_v148)) fun y => mix17 (n y) where
  fst y := by
    unfold mix17
    rw [show mix16 (n y) = (V (Proc.devRef .tc main_v142) y, V (Proc.devRef .tc main_v141) y) from Prod.ext (h.fst y).symm (h.snd y).symm]
    after_reads_simp
    rfl
  snd y := by
    unfold mix17
    rw [show mix16 (n y) = (V (Proc.devRef .tc main_v142) y, V (Proc.devRef .tc main_v141) y) from Prod.ext (h.fst y).symm (h.snd y).symm]
    after_reads_simp
    rfl

theorem host18 (V : Valuation τ sig (Elt F)) (n : S9600000.Idx → BitVec 32)
    (h : Words (V (Proc.devRef .tc main_v149)) (V (Proc.devRef .tc main_v148)) fun y => mix17 (n y)) :
    Words (after opsH18 V (Proc.devRef .tc main_v156)) (after opsH18 V (Proc.devRef .tc main_v155)) fun y => mix18 (n y) where
  fst y := by
    unfold mix18
    rw [show mix17 (n y) = (V (Proc.devRef .tc main_v149) y, V (Proc.devRef .tc main_v148) y) from Prod.ext (h.fst y).symm (h.snd y).symm]
    after_reads_simp
    rfl
  snd y := by
    unfold mix18
    rw [show mix17 (n y) = (V (Proc.devRef .tc main_v149) y, V (Proc.devRef .tc main_v148) y) from Prod.ext (h.fst y).symm (h.snd y).symm]
    after_reads_simp
    rfl

theorem host19 (V : Valuation τ sig (Elt F)) (n : S9600000.Idx → BitVec 32)
    (h : Words (V (Proc.devRef .tc main_v156)) (V (Proc.devRef .tc main_v155)) fun y => mix18 (n y)) :
    Words (after opsH19 V (Proc.devRef .tc main_v163)) (after opsH19 V (Proc.devRef .tc main_v162)) fun y => mix19 (n y) where
  fst y := by
    unfold mix19
    rw [show mix18 (n y) = (V (Proc.devRef .tc main_v156) y, V (Proc.devRef .tc main_v155) y) from Prod.ext (h.fst y).symm (h.snd y).symm]
    after_reads_simp
    rfl
  snd y := by
    unfold mix19
    rw [show mix18 (n y) = (V (Proc.devRef .tc main_v156) y, V (Proc.devRef .tc main_v155) y) from Prod.ext (h.fst y).symm (h.snd y).symm]
    after_reads_simp
    rfl

theorem host20 (V : Valuation τ sig (Elt F)) (n : S9600000.Idx → BitVec 32)
    (h : Words (V (Proc.devRef .tc main_v163)) (V (Proc.devRef .tc main_v162)) fun y => mix19 (n y)) :
    Words (after opsH20 V (Proc.devRef .tc main_v171)) (after opsH20 V (Proc.devRef .tc main_v175)) fun y => mix20 (n y) where
  fst y := by
    unfold mix20
    rw [show mix19 (n y) = (V (Proc.devRef .tc main_v163) y, V (Proc.devRef .tc main_v162) y) from Prod.ext (h.fst y).symm (h.snd y).symm]
    after_reads_simp
    rfl
  snd y := by
    unfold mix20
    rw [show mix19 (n y) = (V (Proc.devRef .tc main_v163) y, V (Proc.devRef .tc main_v162) y) from Prod.ext (h.fst y).symm (h.snd y).symm]
    after_reads_simp
    rfl

/-- The host code's words: the hash of every entry's counter. -/
theorem host_words (V : Valuation τ sig (Elt F)) :
    (after hostOps0 V (Proc.devRef .tc main_v177) : IVec S96x100000 32)
      = shapeCast S96x100000 (fun y : S9600000.Idx => wordOf (tailCounter y)) shapeCasts_S9600000_S96x100000 := by
  rw [host_split]
  simp only [after_cat]
  have h := host20 _ tailCounter (host19 _ tailCounter (host18 _ tailCounter (host17 _ tailCounter (host16 _ tailCounter (host15 _ tailCounter (host14 _ tailCounter (host13 _ tailCounter (host12 _ tailCounter (host11 _ tailCounter (host10 _ tailCounter (host9 _ tailCounter (host8 _ tailCounter (host7 _ tailCounter (host6 _ tailCounter (host5 _ tailCounter (host4 _ tailCounter (host3 _ tailCounter (host2 _ tailCounter (host1 _ tailCounter (host0 V))))))))))))))))))))
  generalize after opsH20 _ = U at h ⊢
  have e : (xori (U (Proc.devRef .tc main_v171) : IVec S9600000 32) (U (Proc.devRef .tc main_v175) : IVec S9600000 32)) = fun y : S9600000.Idx => wordOf (tailCounter y) :=
    funext fun y => congrArg₂ (fun a b : BitVec 32 => a ^^^ b) (h.fst y) (h.snd y)
  rw [← e]
  after_reads_simp
  rfl

/-- The word of a row from 32 on and a vocabulary entry. -/
theorem host_words_at (V : Valuation τ sig (Elt F)) (i : Fin 96) (j : Fin 100000) :
    (after hostOps0 V (Proc.devRef .tc main_v177) : IVec S96x100000 32) (ix2 i j) = wordOf (3200000#32 + BitVec.ofNat 32 (i.val * 100000 + j.val)) := by
  rw [host_words V]
  pointwise [tailCounter]

end Cert.KernelIdeal.Hand

end
-- ==== Proof.FirstMax.lean ====
/-
  The first position of the largest value of a row, on extended reals: of a chunk by a maximum and a smallest index, of chunks
  one after the other by a running pair, and of a whole row by a fold of (value, index) pairs.
-/
module

public import Idealize.ShloMosaic.Lib.Pointwise
public import Idealize.ShloMosaic.Lib.SortNet.Extract
public import proofs.«01_k».proof.Proof.SoftmaxReal

@[expose] public section

noncomputable section

namespace Cert.Hand

open Idealize.ShloMosaic Idealize.ShloMosaic.Tactic

/-- Position `j` is the first one, of those below `N`, where `f` is largest. -/
def IsFirst (f : ℕ → EReal) (N j : ℕ) : Prop := j < N ∧ (∀ l < N, f l ≤ f j) ∧ ∀ l < j, f l < f j

theorem isFirst_unique {f : ℕ → EReal} {N j k : ℕ} (hj : IsFirst f N j) (hk : IsFirst f N k) : j = k := by
  rcases lt_trichotomy j k with h | h | h
  · exact absurd (hk.2.2 j h) (not_lt.mpr (hj.2.1 k hk.1))
  · exact h
  · exact absurd (hj.2.2 k h) (not_lt.mpr (hk.2.1 j hj.1))

/-- The first position depends on the order of the values only. -/
theorem isFirst_of_lt_iff {f g : ℕ → EReal} {N j : ℕ} (h : ∀ a < N, ∀ b < N, (f a < f b ↔ g a < g b)) (hj : IsFirst f N j) : IsFirst g N j :=
  ⟨hj.1, fun l hl => not_lt.mp fun hlt => absurd ((h j hj.1 l hl).mpr hlt) (not_lt.mpr (hj.2.1 l hl)),
    fun l hl => (h l (hl.trans hj.1) j hj.1).mp (hj.2.2 l hl)⟩

/-- Every nonempty stretch has a first largest position. -/
theorem isFirst_exists (f : ℕ → EReal) (N : ℕ) (hN : 0 < N) : ∃ j, IsFirst f N j := by
  classical
  obtain ⟨m, hm, hmax⟩ := Finset.exists_max_image (Finset.range N) f ⟨0, Finset.mem_range.mpr hN⟩
  have hex : ∃ j, j < N ∧ f j = f m := ⟨m, Finset.mem_range.mp hm, rfl⟩
  refine ⟨Nat.find hex, (Nat.find_spec hex).1, fun l hl => ?_, fun l hl => ?_⟩
  · rw [(Nat.find_spec hex).2]; exact hmax l (Finset.mem_range.mpr hl)
  · rw [(Nat.find_spec hex).2]
    have hlN : l < N := hl.trans (Nat.find_spec hex).1
    exact lt_of_le_of_ne (hmax l (Finset.mem_range.mpr hlN)) fun e => Nat.find_min hex hl ⟨hlN, e⟩

/-- A pair of a value and a word: the largest of the first `N` values and its first position; before any, minus infinity. -/
def RunAt (f : ℕ → EReal) (N : ℕ) (v : EReal) (k : BitVec 32) : Prop :=
  (N = 0 ∧ v = ⊥) ∨ ∃ j, IsFirst f N j ∧ v = f j ∧ k = BitVec.ofNat 32 j

/-- A fold of the signed minimum is at most every word met and is the start or one of them. -/
theorem fold_minsi_spec {ι : Type} [DecidableEq ι] (g : ι → BitVec 32) (s : Finset ι) (init : BitVec 32) :
    (∀ i ∈ s, (s.fold IntOp.minsi init g).toInt ≤ (g i).toInt) ∧ (s.fold IntOp.minsi init g = init ∨ ∃ i ∈ s, s.fold IntOp.minsi init g = g i) := by
  refine Finset.induction_on s ⟨fun i hi => absurd hi (Finset.notMem_empty i), Or.inl (by rw [Finset.fold_empty])⟩ ?_
  intro a s has ih
  obtain ⟨h2, h3⟩ := ih
  rw [Finset.fold_insert has]
  have hm := SortNet.toInt_minsi (g a) (s.fold IntOp.minsi init g)
  refine ⟨fun i hi => ?_, ?_⟩
  · rcases Finset.mem_insert.mp hi with rfl | hi
    · rw [hm]; exact min_le_left _ _
    · exact le_trans (by rw [hm]; exact min_le_right _ _) (h2 i hi)
  · rcases min_choice (g a).toInt (s.fold IntOp.minsi init g).toInt with h | h
    · exact Or.inr ⟨a, Finset.mem_insert_self a s, BitVec.eq_of_toInt_eq (hm.trans h)⟩
    · rcases h3 with h3 | ⟨i, hi, h3⟩
      · exact Or.inl ((BitVec.eq_of_toInt_eq (hm.trans h)).trans h3)
      · exact Or.inr ⟨i, Finset.mem_insert_of_mem hi, (BitVec.eq_of_toInt_eq (hm.trans h)).trans h3⟩

theorem toInt_ofNat_small (n : ℕ) (h : n < 2147483648) : (BitVec.ofNat 32 n).toInt = (n : ℤ) := by
  rw [BitVec.toInt_eq_toNat_of_lt (by rw [BitVec.toNat_ofNat]; omega), BitVec.toNat_ofNat, Nat.mod_eq_of_lt (by omega)]

/-- A fold of `max` is at least every value met. -/
theorem le_fold_max {ι : Type} (s : Finset ι) (L : ι → EReal) (b : EReal) : ∀ i ∈ s, L i ≤ s.fold max b L := by
  classical
  refine Finset.induction_on s (fun i hi => absurd hi (Finset.notMem_empty i)) ?_
  intro a s has ih i hi
  rw [Finset.fold_insert has]
  rcases Finset.mem_insert.mp hi with rfl | hi
  · exact le_max_left _ _
  · exact (ih i hi).trans (le_max_right _ _)

/-- The choice by an equality of extended reals. -/
theorem select_oeq {α : Type} (x y : EReal) (a b : α) : Scalar.select (Ideal.cmp .oeq x y) a b = if x = y then a else b := by
  unfold Scalar.select Ideal.cmp
  by_cases h : x = y <;> simp [h]

/-- The choice by which of two extended reals is larger. -/
theorem select_ogt {α : Type} (x y : EReal) (a b : α) : Scalar.select (Ideal.cmp .ogt x y) a b = if y < x then a else b := by
  unfold Scalar.select Ideal.cmp
  by_cases h : y < x <;> simp [h]

/-- A chunk: its maximum and the smallest index that attains it are the first largest position of the chunk's valid part. -/
theorem chunk_first {n w : ℕ} (hw : 0 < w) (hwn : w ≤ n) (hn : n ≤ 10240) (F : ℕ → EReal) (hF : ∀ l < w, ⊥ < F l)
    (s : Fin n → EReal) (hs : ∀ l : Fin n, l.val < w → s l = F l.val) (hs' : ∀ l : Fin n, w ≤ l.val → s l = ⊥) (M : EReal)
    (hM : M = Finset.univ.fold max ⊥ s) :
    ∃ j, IsFirst F w j ∧ M = F j
      ∧ Finset.univ.fold IntOp.minsi 2147483647#32 (fun l : Fin n => if s l = M then BitVec.ofNat 32 l.val else 10240#32) = BitVec.ofNat 32 j := by
  obtain ⟨j, hj⟩ := isFirst_exists F w hw
  have hjn : j < n := hj.1.trans_le hwn
  have hMj : M = F j := by
    haveI : Nonempty (Fin n) := ⟨⟨j, hjn⟩⟩
    apply le_antisymm
    · obtain ⟨l, hl⟩ := fold_max_univ s
      rw [hM, hl]
      by_cases hlw : l.val < w
      · rw [hs l hlw]; exact hj.2.1 _ hlw
      · rw [hs' l (not_lt.mp hlw)]; exact bot_le
    · rw [hM, ← hs ⟨j, hjn⟩ hj.1]; exact le_fold_max _ s ⊥ _ (Finset.mem_univ _)
  refine ⟨j, hj, hMj, ?_⟩
  obtain ⟨h1, h2⟩ := fold_minsi_spec (fun l : Fin n => if s l = M then BitVec.ofNat 32 l.val else 10240#32) Finset.univ 2147483647#32
  have hle := h1 ⟨j, hjn⟩ (Finset.mem_univ _)
  dsimp only at hle
  rw [if_pos (by rw [hs ⟨j, hjn⟩ hj.1, hMj]), toInt_ofNat_small j (by omega)] at hle
  rcases h2 with h2 | ⟨l, -, h2⟩
  · rw [h2, show (2147483647#32).toInt = 2147483647 from by decide] at hle
    omega
  · rw [h2] at hle ⊢
    by_cases he : s l = M
    · rw [if_pos he] at hle ⊢
      have hll := l.isLt
      rw [toInt_ofNat_small l.val (by omega)] at hle
      have hlj : l.val ≤ j := by omega
      rcases hlj.lt_or_eq with hlt | heq
      · have := hj.2.2 l.val hlt
        rw [← hs l (hlt.trans hj.1), he, hMj] at this
        exact absurd this (lt_irrefl _)
      · rw [heq]
    · rw [if_neg he, show (10240#32).toInt = 10240 from by decide] at hle
      omega

/-- One chunk on, the running pair is that of the longer stretch. -/
theorem run_step {n w base : ℕ} (hw : 0 < w) (hwn : w ≤ n) (hn : n ≤ 10240) (f : ℕ → EReal) (hf : ∀ l, ⊥ < f l)
    (s : Fin n → EReal) (hs : ∀ l : Fin n, l.val < w → s l = f (base + l.val)) (hs' : ∀ l : Fin n, w ≤ l.val → s l = ⊥) (M v : EReal) (k : BitVec 32)
    (hM : M = Finset.univ.fold max ⊥ s) (h : RunAt f base v k) :
    RunAt f (base + w) (if v < M then M else v)
      (if v < M then Finset.univ.fold IntOp.minsi 2147483647#32 (fun l : Fin n => if s l = M then BitVec.ofNat 32 l.val else 10240#32) + BitVec.ofNat 32 base else k) := by
  obtain ⟨j, hj, hMj, hK⟩ := chunk_first hw hwn hn (fun l => f (base + l)) (fun l _ => hf _) s hs hs' M hM
  rw [hK]
  have hnew : (∀ l < base, f l < M) → RunAt f (base + w) M (BitVec.ofNat 32 j + BitVec.ofNat 32 base) := fun hb =>
    Or.inr ⟨base + j, ⟨by have := hj.1; omega, fun l hl => by
        by_cases hlb : l < base
        · exact hMj ▸ (hb l hlb).le
        · have := hj.2.1 (l - base) (by omega)
          dsimp only at this
          rwa [show base + (l - base) = l from by omega] at this, fun l hl => by
        by_cases hlb : l < base
        · exact hMj ▸ hb l hlb
        · have := hj.2.2 (l - base) (by omega)
          dsimp only at this
          rwa [show base + (l - base) = l from by omega] at this⟩, hMj, by rw [add_comm base j, BitVec.ofNat_add]⟩
  rcases h with ⟨h0, hv⟩ | ⟨p, hp, hv, hk⟩
  · have hlt : v < M := by rw [hv, hMj]; exact hf _
    rw [if_pos hlt, if_pos hlt]
    exact hnew fun l hl => by omega
  · by_cases hlt : v < M
    · rw [if_pos hlt, if_pos hlt]
      exact hnew fun l hl => lt_of_le_of_lt (hv ▸ hp.2.1 l hl) hlt
    · rw [if_neg hlt, if_neg hlt]
      refine Or.inr ⟨p, ⟨by have := hp.1; omega, fun l hl => ?_, hp.2.2⟩, hv, hk⟩
      by_cases hlb : l < base
      · exact hp.2.1 l hlb
      · have h1 := hj.2.1 (l - base) (by omega)
        dsimp only at h1
        rw [show base + (l - base) = l from by omega, ← hMj] at h1
        exact h1.trans (hv ▸ not_lt.mp hlt)

/-! ## A fold of pairs -/

/-- The pair `p` is at least as good as `q`: a larger value, or the same value and an index no larger. -/
def Beats (p q : EReal × BitVec 32) : Prop := q.1 < p.1 ∨ (q.1 = p.1 ∧ p.2.toInt ≤ q.2.toInt)

theorem beats_refl (p : EReal × BitVec 32) : Beats p p := Or.inr ⟨rfl, le_rfl⟩

theorem beats_trans {p q r : EReal × BitVec 32} (h : Beats p q) (h' : Beats q r) : Beats p r := by
  rcases h with h | ⟨h, e⟩ <;> rcases h' with h' | ⟨h', e'⟩
  · exact Or.inl (h'.trans h)
  · exact Or.inl (h' ▸ h)
  · exact Or.inl (h ▸ h')
  · exact Or.inr ⟨h'.trans h, e.trans e'⟩

/-- A body that returns the better of its two pairs. -/
def Better (red : EReal × BitVec 32 → EReal × BitVec 32 → EReal × BitVec 32) : Prop :=
  ∀ a b, (red a b = a ∨ red a b = b) ∧ Beats (red a b) a ∧ Beats (red a b) b

theorem foldl_better {red : EReal × BitVec 32 → EReal × BitVec 32 → EReal × BitVec 32} (H : Better red) (L : List (EReal × BitVec 32)) :
    ∀ a, Beats (L.foldl red a) a ∧ (∀ p ∈ L, Beats (L.foldl red a) p) ∧ (L.foldl red a = a ∨ L.foldl red a ∈ L) := by
  induction L with
  | nil => exact fun a => ⟨beats_refl a, fun p hp => absurd hp List.not_mem_nil, Or.inl rfl⟩
  | cons b L ih =>
    intro a
    obtain ⟨h1, h2, h3⟩ := ih (red a b)
    obtain ⟨e, ha, hb⟩ := H a b
    rw [List.foldl_cons]
    refine ⟨beats_trans h1 ha, fun p hp => ?_, ?_⟩
    · rcases List.mem_cons.mp hp with rfl | hp
      · exact beats_trans h1 hb
      · exact h2 p hp
    · rcases h3 with h3 | h3
      · rcases e with e | e
        · exact Or.inl (h3.trans e)
        · exact Or.inr (List.mem_cons.mpr (Or.inl (h3.trans e)))
      · exact Or.inr (List.mem_cons_of_mem _ h3)

/-- A row's fold of its (value, column) pairs from minus infinity gives the first largest column. -/
theorem argReduce_first {n0 n1 : ℕ} {u : Shape} (red : EReal × BitVec 32 → EReal × BitVec 32 → EReal × BitVec 32) (H : Better red)
    (x : FVec Ideal ⟨2, ![n0, n1]⟩ .f32) (h : (⟨2, ![n0, n1]⟩ : Shape).ReducesTo [1] ⟨1, ![n0]⟩) (hu : 0 < u.numel) (i : Fin n0)
    (f : ℕ → EReal) (hf : ∀ j : Fin n1, x (ix2 i j) = f j.val) (hb : ∀ l < n1, ⊥ < f l) (h0 : 0 < n1) (hn : n1 < 2147483648) :
    ∃ j, IsFirst f n1 j ∧ (Host.argReduce (F := Ideal) (φ := .f32) red x (iotaInDim ⟨2, ![n0, n1]⟩ 32 1) (constant (F := Ideal) u .f32 0xFF800000#32) (constantI u 32 0#32) h hu (ix1 i)).2
      = BitVec.ofNat 32 j := by
  rw [Ideal.argReduce_eq_reduce2, Host.reduce2_eq_foldl_fiber]
  obtain ⟨-, h2, h3⟩ := foldl_better H (Host.argReduceFiber x (iotaInDim ⟨2, ![n0, n1]⟩ 32 1) h (ix1 i)) (constant (F := Ideal) u .f32 0xFF800000#32 (Shape.Idx.first hu), constantI u 32 0#32 (Shape.Idx.first hu))
  have hmem : ∀ j : Fin n1, (f j.val, BitVec.ofNat 32 j.val) ∈ Host.argReduceFiber x (iotaInDim ⟨2, ![n0, n1]⟩ 32 1) h (ix1 i) := fun j => by
    unfold Host.argReduceFiber
    refine List.mem_map.mpr ⟨(⟨2, ![n0, n1]⟩ : Shape).rowMajor (ix2 i j), List.mem_filter.mpr ⟨List.mem_finRange _, ?_⟩, ?_⟩
    · rw [Equiv.symm_apply_apply]
      exact decide_eq_true ((Shape.ReducesTo.fiber_r2_a1 h (ix1 i) _).mpr ⟨j, rfl⟩)
    · rw [Equiv.symm_apply_apply, hf]
      rfl
  generalize (List.foldl red (constant (F := Ideal) u .f32 0xFF800000#32 (Shape.Idx.first hu), constantI u 32 0#32 (Shape.Idx.first hu)) (Host.argReduceFiber x (iotaInDim ⟨2, ![n0, n1]⟩ 32 1) h (ix1 i))) = R at h2 h3 ⊢
  rcases h3 with h3 | h3
  · have h4 := h2 _ (hmem ⟨0, h0⟩)
    rw [h3, show constant (F := Ideal) u .f32 0xFF800000#32 (Shape.Idx.first hu) = ⊥ from ofBits_neg_inf] at h4
    have h5 := hb 0 h0
    rcases h4 with h4 | ⟨h4, -⟩
    · exact absurd h4 not_lt_bot
    · exact absurd h4 h5.ne'
  · unfold Host.argReduceFiber at h3
    obtain ⟨m, hm, e⟩ := List.mem_map.mp h3
    have hd := of_decide_eq_true (List.mem_filter.mp hm).2
    obtain ⟨j, hj⟩ := (Shape.ReducesTo.fiber_r2_a1 h (ix1 i) _).mp hd
    have hj' : (⟨2, ![n0, n1]⟩ : Shape).rowMajor.symm m = ix2 i j := hj.symm
    rw [hj', hf] at e
    have hR : R = (f j.val, BitVec.ofNat 32 j.val) := e.symm
    have hjl := j.isLt
    refine ⟨j.val, ⟨j.isLt, fun l hl => ?_, fun l hl => ?_⟩, by rw [hR]⟩
    · have := h2 _ (hmem ⟨l, hl⟩)
      rw [hR] at this
      rcases this with t | ⟨t, -⟩
      · exact t.le
      · exact t.le
    · have := h2 _ (hmem ⟨l, hl.trans j.isLt⟩)
      rw [hR] at this
      rcases this with t | ⟨-, t⟩
      · exact t
      · dsimp only at t
        rw [toInt_ofNat_small l (by omega), toInt_ofNat_small j.val (by omega)] at t
        omega

end Cert.Hand

end
-- ==== Proof.Score.lean ====
/-
  The scores the argmax is taken of, on extended reals: the kernel's is a quotient, the reference's is its logarithm, written as a
  sum.
-/
module

public import proofs.«01_k».proof.Proof.SoftmaxReal

@[expose] public section

noncomputable section

namespace Cert.Hand

open Idealize.ShloMosaic

/-- The pattern of a number of `[1, 2)` whose fraction is a word's upper 23 bits. -/
def mant (w : BitVec 32) : BitVec 32 := (w >>> 9) ||| 1065353216#32

/-- The kernel's score of a probability and a random word. -/
def kerScore (p : EReal) (w : BitVec 32) : EReal :=
  Ideal.div (p + Ideal.ofBits .f32 0x322BCC77#32) (0 - Ideal.log (max (Ideal.ofBits .f32 (mant w) - 1) (Ideal.ofBits .f32 0x00800000#32)))

/-- The reference's score of a probability and a random word. -/
def refScore (p : EReal) (w : BitVec 32) : EReal :=
  Ideal.log (p + Ideal.ofBits .f32 0x322BCC77#32)
    + -(Ideal.log (-(Ideal.log (max (max 0 ((Ideal.ofBits .f32 (mant w) - 1) * (1 - 0) + 0)) (Ideal.ofBits .f32 0x00800000#32)))))

theorem mant_exp (w : BitVec 32) : (mant w).extractLsb' 23 8 = 127#8 := by
  unfold mant
  apply BitVec.eq_of_getElem_eq
  intro i hi
  interval_cases i <;> simp

theorem mant_sign (w : BitVec 32) : (mant w).extractLsb' 31 1 = 0#1 := by
  unfold mant
  apply BitVec.eq_of_getElem_eq
  intro i hi
  interval_cases i <;> simp

/-- The pattern's number is a real number of `[1, 2)`. -/
theorem ofBits_mant (w : BitVec 32) : ∃ r : ℝ, Ideal.ofBits .f32 (mant w) = (r : EReal) ∧ 1 ≤ r ∧ r < 2 := by
  have hf : ((mant w).extractLsb' 0 23).toNat < 2 ^ 23 := ((mant w).extractLsb' 0 23).isLt
  generalize hfr : ((mant w).extractLsb' 0 23).toNat = fr at hf
  refine ⟨((2 : ℝ) ^ 23 + fr) * (2 : ℝ) ^ (-23 : ℤ), ?_, ?_, ?_⟩
  · show Ideal.ieee 8 23 (mant w) = _
    unfold Ideal.ieee
    simp only [mant_exp, show (8 + 23 : ℕ) = 31 from rfl, mant_sign, hfr]
    norm_num
  · have h2 : (2 : ℝ) ^ (-23 : ℤ) = 1 / 2 ^ 23 := by norm_num
    rw [h2]
    have : (0 : ℝ) ≤ fr := Nat.cast_nonneg _
    rw [mul_one_div, le_div_iff₀ (by positivity)]
    linarith
  · have h2 : (2 : ℝ) ^ (-23 : ℤ) = 1 / 2 ^ 23 := by norm_num
    rw [h2]
    have : (fr : ℝ) < 2 ^ 23 := by exact_mod_cast hf
    rw [mul_one_div, div_lt_iff₀ (by positivity)]
    linarith

/-- The smallest number a random word gives. -/
theorem ofBits_tiny : ∃ r : ℝ, Ideal.ofBits .f32 0x00800000#32 = (r : EReal) ∧ 0 < r ∧ r < 1 := by
  refine ⟨(2 : ℝ) ^ (-126 : ℤ), ?_, by positivity, by norm_num⟩
  simp [Ideal.ofBits, Ideal.ieee]
  norm_num
  rw [← EReal.coe_mul]
  norm_num

/-- The number added to a probability. -/
theorem ofBits_eps : ∃ r : ℝ, Ideal.ofBits .f32 0x322BCC77#32 = (r : EReal) ∧ 0 < r := by
  refine ⟨(11258999 : ℝ) * (2 : ℝ) ^ (-50 : ℤ), ?_, by positivity⟩
  simp [Ideal.ofBits, Ideal.ieee]

theorem log_coe (r : ℝ) (h : 0 < r) : Ideal.log (r : EReal) = ((Real.log r : ℝ) : EReal) := by
  show (if r ≤ 0 then ⊥ else (Real.log r : EReal)) = _
  rw [if_neg (not_le.mpr h)]

/-- Both scores, of a positive probability: a positive number and its logarithm. -/
theorem scores (p : ℝ) (hp : 0 < p) (w : BitVec 32) :
    ∃ s : ℝ, 0 < s ∧ kerScore (p : EReal) w = (s : EReal) ∧ refScore (p : EReal) w = ((Real.log s : ℝ) : EReal) := by
  obtain ⟨r, hr, h1, h2⟩ := ofBits_mant w
  obtain ⟨t, ht, ht0, ht1⟩ := ofBits_tiny
  obtain ⟨e, he, he0⟩ := ofBits_eps
  unfold kerScore refScore
  rw [hr, ht, he]
  have hu : max ((r : EReal) - 1) (t : EReal) = ((max (r - 1) t : ℝ) : EReal) := by
    rw [show (1 : EReal) = ((1 : ℝ) : EReal) from rfl, ← EReal.coe_sub]
    exact (EReal.coe_strictMono.monotone.map_max).symm
  have hz : max 0 (((r : EReal) - 1) * (1 - 0) + 0) = (r : EReal) - 1 := by
    rw [sub_zero, mul_one, add_zero]
    refine max_eq_right ?_
    rw [show (1 : EReal) = ((1 : ℝ) : EReal) from rfl, ← EReal.coe_sub]
    exact_mod_cast sub_nonneg.mpr h1
  have hu0 : 0 < max (r - 1) t := lt_max_of_lt_right ht0
  have hu1 : max (r - 1) t < 1 := max_lt (by linarith) ht1
  have hl : 0 < -Real.log (max (r - 1) t) := neg_pos.mpr (Real.log_neg hu0 hu1)
  rw [hz, hu, log_coe _ hu0, ← EReal.coe_neg, log_coe _ hl, ← EReal.coe_neg, ← EReal.coe_add, log_coe _ (by linarith), ← EReal.coe_add,
    zero_sub, ← EReal.coe_neg, div_coe _ _ hl.ne']
  refine ⟨_, div_pos (by linarith) hl, rfl, ?_⟩
  rw [Real.log_div (by linarith) hl.ne', sub_eq_add_neg (Real.log (p + e))]

end Cert.Hand

end
-- ==== Proof.KerScore.lean ====
/-
  The kernel's scores at one element, and its running pair at one row.
-/
module

public import proofs.«01_k».proof.Proof.KerHash
public import proofs.«01_k».proof.Proof.KerHost
public import proofs.«01_k».proof.Proof.ProbsArr
public import proofs.«01_k».proof.Proof.FirstMax
public import proofs.«01_k».proof.Proof.Score

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL.Sem
open Idealize.ShloMosaic.Pipeline

/-- The counter of row `i` and column `j`. -/
def count (i j : ℕ) : BitVec 32 := BitVec.ofNat 32 (i * 100000 + j)

/-- The random word of the rows from 32 on, as the host code leaves it. -/
theorem host_count (i j : ℕ) : 3200000#32 + BitVec.ofNat 32 (i * 100000 + j) = count (32 + i) j := by
  unfold count
  rw [show (3200000#32 : BitVec 32) = BitVec.ofNat 32 3200000 from rfl, ← BitVec.ofNat_add]
  refine congrArg (BitVec.ofNat 32) ?_
  omega

theorem pay62_at (r : Fin 32) (l : Fin 2048) : (k1_pay62 : IVec S32x2048 32) (ix2 r l) = BitVec.ofNat 32 (r.val * 100000 + l.val) := by
  have e : (k1_pay62 : IVec S32x2048 32) (ix2 r l) = BitVec.ofNat 32 r.val * BitVec.ofNat 32 100000 + BitVec.ofNat 32 l.val := by
    pointwise [k1_pay62]
    simp only [IntOp.addi, IntOp.muli]
  rw [e, ← BitVec.ofNat_mul, ← BitVec.ofNat_add]

/-- The random word of the rows below 32. -/
theorem bitsOf_at (t : ℕ) (r : Fin 32) (l : Fin 10240) :
    bitsOf (F := Ideal) (Scalar.muli (BitVec.ofNat 32 t) 10240#32) k1_pay62 (ix2 r l) = wordOf (count r.val (t * 10240 + l.val)) := by
  unfold bitsOf
  have hm : l.val % 2048 < 2048 := Nat.mod_lt _ (by decide)
  have ei : inTrip (ix2 r l) = ix2 r (⟨l.val % 2048, hm⟩ : Fin 2048) := funext fun a => match a with | 0 => rfl | 1 => rfl
  rw [hashPay_at, ei, pay62_at]
  refine congrArg wordOf ?_
  have h1 : Scalar.muli (BitVec.ofNat 32 t) 10240#32 = BitVec.ofNat 32 (t * 10240) := (BitVec.ofNat_mul ..).symm
  have h2 : Scf.iv 0#32 1#32 (tripOf (ix2 r l)) = BitVec.ofNat 32 (l.val / 2048) := by
    show 0#32 + BitVec.ofNat 32 (l.val / 2048) * 1#32 = _
    rw [BitVec.mul_one, BitVec.zero_add]
  rw [h1, h2, show (2048#32 : BitVec 32) = BitVec.ofNat 32 2048 from rfl, ← BitVec.ofNat_mul, ← BitVec.ofNat_add, ← BitVec.ofNat_add]
  unfold count
  refine congrArg (BitVec.ofNat 32) ?_
  show (r.val * 100000 + l.val % 2048) + (t * 10240 + 2048 * (l.val / 2048)) = _
  omega

/-- The scores of the rows below 32. -/
theorem pay1_at (x : FVec Ideal S128x10240 .f32) (v3 : Vec Ideal S128x64 .f32) (v4 : Vec Ideal S64x10240 .f32) (v6 : Vec Ideal S1x10240 .f32) (v13 : Vec Ideal S128x1 .f32)
    (b : Vec Ideal S32x10240 .i32) (r : Fin 32) (l : Fin 10240) :
    k1_pay1 (k1_pay66 v3 v4 v6 v13) (k1_pay67 (F := Ideal) b) (ix2 r l)
      = kerScore (k1_pay64 v3 v4 v6 v13 (ix2 (⟨r.val, by omega⟩ : Fin 128) l)) (b (ix2 r l)) := by
  unfold kerScore mant
  generalize hP : k1_pay64 v3 v4 v6 v13 = P
  unfold k1_pay66
  rw [hP]
  pointwise [k1_pay1, k1_pay67]
  rfl

/-- The scores of the rows from 32 on. -/
theorem pay2_at (P : FVec Ideal S128x10240 .f32) (b : Vec Ideal S96x10240 .i32) (r : Fin 96) (l : Fin 10240) :
    k1_pay2 P b (ix2 r l) = kerScore (P (ix2 (⟨32 + r.val, by omega⟩ : Fin 128) l)) (b (ix2 r l)) := by
  unfold kerScore mant
  pointwise [k1_pay2]
  rfl

theorem pay50_at (x : FVec Ideal S96x10240 .f32) (r : Fin 96) :
    k1_pay50 x (ix2 r 0) = Finset.univ.fold max ⊥ (fun l : Fin 10240 => x (ix2 r l)) := by
  rw [← ofBits_neg_inf]
  pointwise [k1_pay50]

theorem pay46_at (x : FVec Ideal S32x10240 .f32) (r : Fin 32) :
    k1_pay46 x (ix2 r 0) = Finset.univ.fold max ⊥ (fun l : Fin 10240 => x (ix2 r l)) := by
  rw [← ofBits_neg_inf]
  pointwise [k1_pay46]

theorem pay6_at (x : FVec Ideal S96x10240 .f32) (v11 : BitVec 32) (y : Vec Ideal S128x10240 .i32) (r : Fin 96) :
    k1_pay6 (k1_pay59 (F := Ideal) v11 x y) (ix2 r 0) = Finset.univ.fold max ⊥ (fun l : Fin 10240 => k1_pay58 (F := Ideal) v11 x y (ix2 r l)) := by
  rw [← ofBits_neg_inf]
  pointwise [k1_pay6, k1_pay59]

theorem pay54_at (x : FVec Ideal S32x10240 .f32) (v11 : BitVec 32) (y : Vec Ideal S128x10240 .i32) (r : Fin 32) :
    k1_pay54 (F := Ideal) v11 x y (ix2 r 0) = Finset.univ.fold max ⊥ (fun l : Fin 10240 => k1_pay53 (F := Ideal) v11 x y (ix2 r l)) := by
  rw [← ofBits_neg_inf]
  pointwise [k1_pay54]

theorem pay4_at (M v : FVec Ideal S96x1 .f32) (r : Fin 96) :
    k1_pay4 (F := Ideal) M v v (ix2 r 0) = if v (ix2 r 0) < M (ix2 r 0) then M (ix2 r 0) else v (ix2 r 0) := by
  rw [← select_ogt]
  pointwise [k1_pay4, k1_pay3]

theorem pay48_at (x : FVec Ideal S32x10240 .f32) (v : FVec Ideal S32x1 .f32) (r : Fin 32) :
    k1_pay48 (F := Ideal) x v v (ix2 r 0) = if v (ix2 r 0) < k1_pay46 x (ix2 r 0) then k1_pay46 x (ix2 r 0) else v (ix2 r 0) := by
  rw [← select_ogt]
  generalize hM : k1_pay46 x = M
  unfold k1_pay48 k1_pay47
  rw [hM]
  pointwise []

theorem pay51_at (a : BitVec 32) (x : FVec Ideal S96x10240 .f32) (il : Vec Ideal S96x10240 .i32) (hil : ∀ r l, il (ix2 r l) = BitVec.ofNat 32 l.val) (r : Fin 96) :
    k1_pay51 (F := Ideal) a x il (ix2 r 0) = Finset.univ.fold IntOp.minsi 2147483647#32
      (fun l : Fin 10240 => if x (ix2 r l) = k1_pay50 x (ix2 r 0) then BitVec.ofNat 32 l.val else 10240#32) + a * 10240#32 := by
  simp only [← select_oeq, ← hil r]
  generalize hM : k1_pay50 x = M
  unfold k1_pay51
  rw [hM]
  pointwise []
  rfl

theorem pay49_at (a : BitVec 32) (x : FVec Ideal S32x10240 .f32) (il : Vec Ideal S32x10240 .i32) (hil : ∀ r l, il (ix2 r l) = BitVec.ofNat 32 l.val)
    (v : FVec Ideal S32x1 .f32) (k : IVec S32x1 32) (r : Fin 32) :
    k1_pay49 (F := Ideal) a x il v k (ix2 r 0) = if v (ix2 r 0) < k1_pay46 x (ix2 r 0) then Finset.univ.fold IntOp.minsi 2147483647#32
      (fun l : Fin 10240 => if x (ix2 r l) = k1_pay46 x (ix2 r 0) then BitVec.ofNat 32 l.val else 10240#32) + a * 10240#32 else k (ix2 r 0) := by
  simp only [← select_oeq, ← select_ogt, ← hil r]
  generalize hM : k1_pay46 x = M
  unfold k1_pay49 k1_pay47
  rw [hM]
  pointwise []
  rfl

theorem pay8_at (N : FVec Ideal S96 .f32) (v : FVec Ideal S96x1 .f32) (r : Fin 96) :
    k1_pay8 (F := Ideal) N v v (ix2 r 0) = if v (ix2 r 0) < k1_pay6 N (ix2 r 0) then k1_pay6 N (ix2 r 0) else v (ix2 r 0) := by
  rw [← select_ogt]
  generalize hM : k1_pay6 N = M
  unfold k1_pay8 k1_pay7
  rw [hM]
  pointwise []

theorem pay9_at (a : BitVec 32) (X : FVec Ideal S96x10240 .f32) (il : Vec Ideal S96x10240 .i32) (hil : ∀ r l, il (ix2 r l) = BitVec.ofNat 32 l.val)
    (N : FVec Ideal S96 .f32) (v : FVec Ideal S96x1 .f32) (k : IVec S96x1 32) (r : Fin 96) :
    k1_pay9 (F := Ideal) a X il N v k (ix2 r 0) = if v (ix2 r 0) < k1_pay6 N (ix2 r 0) then Finset.univ.fold IntOp.minsi 2147483647#32
      (fun l : Fin 10240 => if X (ix2 r l) = k1_pay6 N (ix2 r 0) then BitVec.ofNat 32 l.val else 10240#32) + a * 10240#32 else k (ix2 r 0) := by
  simp only [← select_oeq, ← select_ogt, ← hil r]
  generalize hM : k1_pay6 N = M
  unfold k1_pay9 k1_pay7
  rw [hM]
  pointwise []
  rfl

theorem pay5_at (M : FVec Ideal S96x1 .f32) (K : IVec S96x1 32) (v : FVec Ideal S96x1 .f32) (k : IVec S96x1 32) (r : Fin 96) :
    k1_pay5 (F := Ideal) M K v k (ix2 r 0) = if v (ix2 r 0) < M (ix2 r 0) then K (ix2 r 0) else k (ix2 r 0) := by
  rw [← select_ogt]
  pointwise [k1_pay5, k1_pay3]

theorem pay56_at (v11 : BitVec 32) (x : FVec Ideal S32x10240 .f32) (y : Vec Ideal S128x10240 .i32) (v : FVec Ideal S32x1 .f32) (r : Fin 32) :
    k1_pay56 (F := Ideal) v11 x y v v (ix2 r 0) = if v (ix2 r 0) < k1_pay54 v11 x y (ix2 r 0) then k1_pay54 v11 x y (ix2 r 0) else v (ix2 r 0) := by
  rw [← select_ogt]
  generalize hM : k1_pay54 v11 x y = M
  unfold k1_pay56 k1_pay55
  rw [hM]
  pointwise []

theorem pay57_at (a v11 : BitVec 32) (x : FVec Ideal S32x10240 .f32) (y : Vec Ideal S128x10240 .i32) (il : Vec Ideal S32x10240 .i32)
    (hil : ∀ r l, il (ix2 r l) = BitVec.ofNat 32 l.val) (v : FVec Ideal S32x1 .f32) (k : IVec S32x1 32) (r : Fin 32) :
    k1_pay57 (F := Ideal) a v11 x y il v k (ix2 r 0) = if v (ix2 r 0) < k1_pay54 v11 x y (ix2 r 0) then Finset.univ.fold IntOp.minsi 2147483647#32
      (fun l : Fin 10240 => if k1_pay53 v11 x y (ix2 r l) = k1_pay54 v11 x y (ix2 r 0) then BitVec.ofNat 32 l.val else 10240#32) + a * 10240#32 else k (ix2 r 0) := by
  simp only [← select_oeq, ← select_ogt, ← hil r]
  generalize hM : k1_pay54 v11 x y = M
  generalize hX : k1_pay53 v11 x y = X
  unfold k1_pay57 k1_pay55
  rw [hM, hX]
  pointwise []
  rfl

theorem pay63_at (i : Fin 128) (l : Fin 10240) : (k1_pay63 : IVec S128x10240 32) (ix2 i l) = BitVec.ofNat 32 l.val := by
  pointwise [k1_pay63]

/-- Choosing by a signed comparison of a column with 7840. -/
theorem select_last (l : ℕ) (h : l < 10240) (a b : EReal) :
    Scalar.select (IntOp.cmpi CmpIPredicate.slt (BitVec.ofNat 32 l) 7840#32) a b = if l < 7840 then a else b := by
  have e : (BitVec.ofNat 32 l).slt 7840#32 = decide (l < 7840) := by
    rw [BitVec.slt, toInt_ofNat_small l (by omega)]
    exact decide_eq_decide.mpr (by rw [show (7840#32).toInt = 7840 from by decide]; omega)
  unfold IntOp.cmpi Scalar.select
  simp only [e]
  by_cases hl : l < 7840 <;> simp [hl]

theorem pay53_at (x : FVec Ideal S32x10240 .f32) (r : Fin 32) (l : Fin 10240) :
    k1_pay53 (F := Ideal) 7840#32 x k1_pay63 (ix2 r l) = if l.val < 7840 then x (ix2 r l) else ⊥ := by
  rw [← select_last l.val l.isLt, ← ofBits_neg_inf]
  pointwise [k1_pay53, k1_pay52, k1_pay63]

theorem pay58_at (x : FVec Ideal S96x10240 .f32) (r : Fin 96) (l : Fin 10240) :
    k1_pay58 (F := Ideal) 7840#32 x k1_pay63 (ix2 r l) = if l.val < 7840 then x (ix2 r l) else ⊥ := by
  rw [← select_last l.val l.isLt, ← ofBits_neg_inf]
  pointwise [k1_pay58, k1_pay52, k1_pay63]

theorem pay60_at (i : Fin 128) : (k1_pay60 : FVec Ideal S128x1 .f32) (ix2 i 0) = ⊥ := by
  rw [← ofBits_neg_inf]
  pointwise [k1_pay60]

end Cert.KernelIdeal.Hand

end
-- ==== Proof.KerRun.lean ====
/-
  The kernel's second result: the running pair, chunk by chunk, and the actions it leaves.
-/
module

public import proofs.«01_k».proof.Proof.KerScore

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL.Sem
open Idealize.ShloMosaic.Pipeline

section Windows

variable {α : Type}

/-- Row `r` below 32. -/
abbrev loRow (r : Fin 32) : Fin 128 := ⟨r.val, by omega⟩
/-- Row `32 + r`. -/
abbrev hiRow (r : Fin 96) : Fin 128 := ⟨32 + r.val, by omega⟩

theorem put_lo (x : S128x1.Idx → α) (a : ((a : Fin S128x1.rank) → Fin (![32, 1] a)) → α) (b : ((a : Fin S128x1.rank) → Fin (![96, 1] a)) → α) (r : Fin 32) :
    VecWindow.put (s := S128x1) (VecWindow.put (s := S128x1) x ![0, 0] ![32, 1] a) ![32, 0] ![96, 1] b (ix2 (loRow r) (0 : Fin 1)) = a (ix2 r (0 : Fin 1)) := by
  have hr := r.isLt
  unfold VecWindow.put
  rw [dif_neg (fun h => by have h' : 32 ≤ r.val := (h 0).1; omega),
    dif_pos (Fin.forall_fin_two.mpr ⟨⟨Nat.zero_le _, show r.val < 0 + 32 by omega⟩, ⟨Nat.zero_le _, show 0 < 0 + 1 by omega⟩⟩)]
  exact congrArg a (funext fun q => match q with | 0 => Fin.ext (show r.val - 0 = r.val by omega) | 1 => Fin.ext (show 0 - 0 = 0 by omega))

theorem put_hi (x : S128x1.Idx → α) (b : ((a : Fin S128x1.rank) → Fin (![96, 1] a)) → α) (r : Fin 96) :
    VecWindow.put (s := S128x1) x ![32, 0] ![96, 1] b (ix2 (hiRow r) (0 : Fin 1)) = b (ix2 r (0 : Fin 1)) := by
  have hr := r.isLt
  unfold VecWindow.put
  rw [dif_pos (Fin.forall_fin_two.mpr ⟨⟨show 32 ≤ 32 + r.val by omega, show 32 + r.val < 32 + 96 by omega⟩, ⟨Nat.zero_le _, show 0 < 0 + 1 by omega⟩⟩)]
  exact congrArg b (funext fun q => match q with | 0 => Fin.ext (show 32 + r.val - 32 = r.val by omega) | 1 => Fin.ext (show 0 - 0 = 0 by omega))

theorem win_lo (x : S128x1.Idx → α) (r : Fin 32) :
    VecWindow.window (s := S128x1) x ![0, 0] ![32, 1] inb_S128x1_S32x1_0_0 (ix2 r (0 : Fin 1)) = x (ix2 (loRow r) (0 : Fin 1)) :=
  congrArg x (funext fun q => match q with | 0 => Fin.ext (show 0 + 1 * r.val = r.val by omega) | 1 => Fin.ext (show 0 + 1 * 0 = 0 by omega))

theorem win_hi (x : S128x1.Idx → α) (r : Fin 96) :
    VecWindow.window (s := S128x1) x ![32, 0] ![96, 1] inb_S128x1_S96x1_32_0 (ix2 r (0 : Fin 1)) = x (ix2 (hiRow r) (0 : Fin 1)) :=
  congrArg x (funext fun q => match q with | 0 => Fin.ext (show 32 + 1 * r.val = 32 + r.val by omega) | 1 => Fin.ext (show 0 + 1 * 0 = 0 by omega))

theorem col_lo (x : S128x10240.Idx → α) (r : Fin 32) (l : Fin 10240) :
    VecWindow.window (s := S128x10240) x ![0, 0] ![32, 10240] inb_S128x10240_S32x10240_0_0 (ix2 r l) = x (ix2 (loRow r) l) :=
  congrArg x (funext fun q => match q with | 0 => Fin.ext (show 0 + 1 * r.val = r.val by omega) | 1 => Fin.ext (show 0 + 1 * l.val = l.val by omega))

theorem col_hi (x : S128x10240.Idx → α) (r : Fin 96) (l : Fin 10240) :
    VecWindow.window (s := S128x10240) x ![32, 0] ![96, 10240] inb_S128x10240_S96x10240_32_0 (ix2 r l) = x (ix2 (hiRow r) l) :=
  congrArg x (funext fun q => match q with | 0 => Fin.ext (show 32 + 1 * r.val = 32 + r.val by omega) | 1 => Fin.ext (show 0 + 1 * l.val = l.val by omega))

theorem row_cases (p : Fin 128 → Prop) (h1 : ∀ r : Fin 32, p (loRow r)) (h2 : ∀ r : Fin 96, p (hiRow r)) (i : Fin 128) : p i := by
  by_cases h : i.val < 32
  · exact h1 ⟨i.val, h⟩
  · have e : hiRow ⟨i.val - 32, by omega⟩ = i := Fin.ext (show 32 + (i.val - 32) = i.val by omega)
    exact e ▸ h2 ⟨i.val - 32, by omega⟩

end Windows

theorem base_word (t : ℕ) : BitVec.ofNat 32 t * 10240#32 = BitVec.ofNat 32 (t * 10240) := (BitVec.ofNat_mul ..).symm

/-- One grid point on, the running pair of every row is that of the longer stretch. -/
theorem step_run (t : Fin cfg1.N) (v3 : Vec Ideal S128x64 .f32) (v4 : Vec Ideal S64x10240 .f32) (v6 : Vec Ideal S1x10240 .f32) (v42 : Vec Ideal S96x10240 .i32)
    (v13 : Vec Ideal S128x1 .f32) (p : Vec Ideal S128x1 .f32 × Vec Ideal S128x1 .i32) (f : Fin 128 → ℕ → EReal) (hf : ∀ i l, ⊥ < f i l)
    (hlo : ∀ (r : Fin 32) (l : Fin 10240), t.val * 10240 + l.val < 100000 →
      kerScore (k1_pay64 v3 v4 v6 v13 (ix2 (loRow r) l)) (wordOf (count r.val (t.val * 10240 + l.val))) = f (loRow r) (t.val * 10240 + l.val))
    (hhi : ∀ (r : Fin 96) (l : Fin 10240), t.val * 10240 + l.val < 100000 →
      kerScore (k1_pay64 v3 v4 v6 v13 (ix2 (hiRow r) l)) (v42 (ix2 r l)) = f (hiRow r) (t.val * 10240 + l.val))
    (hp : t.val ≠ 0 → ∀ i, RunAt (f i) (t.val * 10240) (p.1 (ix2 i 0)) (p.2 (ix2 i 0))) (i : Fin 128) :
    RunAt (f i) (min 100000 ((t.val + 1) * 10240)) ((step1 (grid1.coords t) v3 v4 v6 v42 v13 p).1 (ix2 i 0)) ((step1 (grid1.coords t) v3 v4 v6 v42 v13 p).2 (ix2 i 0)) := by
  have ht : t.val < 10 := t.isLt
  have ec := coords1_val t
  have hv38 : ∀ (r : Fin 32) (l : Fin 10240), t.val * 10240 + l.val < 100000 →
      k1_pay1 (k1_pay66 v3 v4 v6 v13) (k1_pay67 (F := Ideal) (bitsOf (F := Ideal) (Scalar.muli (BitVec.ofNat 32 t.val) 10240#32) k1_pay62)) (ix2 r l) = f (loRow r) (t.val * 10240 + l.val) :=
    fun r l h => (pay1_at (k1_pay64 v3 v4 v6 v13) v3 v4 v6 v13 _ r l).trans (by rw [bitsOf_at]; exact hlo r l h)
  have hv56 : ∀ (r : Fin 96) (l : Fin 10240), t.val * 10240 + l.val < 100000 →
      k1_pay2 (k1_pay64 v3 v4 v6 v13) v42 (ix2 r l) = f (hiRow r) (t.val * 10240 + l.val) :=
    fun r l h => by rw [pay2_at]; exact hhi r l h
  have hb : ∀ i, RunAt (f i) (t.val * 10240) ((if BitVec.ofNat 32 t.val = 0#32 then (k1_pay60 : FVec Ideal S128x1 .f32) else p.1 : Vec Ideal S128x1 .f32) (ix2 i 0))
      ((if BitVec.ofNat 32 t.val = 0#32 then (k1_pay61 : IVec S128x1 32) else p.2 : Vec Ideal S128x1 .i32) (ix2 i 0)) := fun i => by
    by_cases h0 : t.val = 0
    · rw [if_pos (by rw [h0]), if_pos (by rw [h0])]
      exact Or.inl ⟨by rw [h0], pay60_at i⟩
    · have hn : ¬ BitVec.ofNat 32 t.val = 0#32 := fun e => h0 (by
        have e' := congrArg BitVec.toNat e
        rw [BitVec.toNat_ofNat, Nat.mod_eq_of_lt (by omega)] at e'
        exact e')
      rw [if_neg hn, if_neg hn]
      exact hp h0 i
  have hila : ∀ (r : Fin 32) (l : Fin 10240), (VecWindow.window (s := S128x10240) (k1_pay63 : Vec Ideal S128x10240 .i32) ![0, 0] S32x10240.size inb_S128x10240_S32x10240_0_0 : Vec Ideal S32x10240 .i32) (ix2 r l) = BitVec.ofNat 32 l.val :=
    fun r l => (col_lo _ r l).trans (pay63_at _ l)
  have hilb : ∀ (r : Fin 96) (l : Fin 10240), (VecWindow.window (s := S128x10240) (k1_pay63 : Vec Ideal S128x10240 .i32) ![32, 0] S96x10240.size inb_S128x10240_S96x10240_32_0 : Vec Ideal S96x10240 .i32) (ix2 r l) = BitVec.ofNat 32 l.val :=
    fun r l => (col_hi _ r l).trans (pay63_at _ l)
  unfold step1
  simp only [ec]
  generalize (if BitVec.ofNat 32 t.val = 0#32 then (k1_pay60 : FVec Ideal S128x1 .f32) else p.1 : Vec Ideal S128x1 .f32) = bv at hb ⊢
  generalize (if BitVec.ofNat 32 t.val = 0#32 then (k1_pay61 : IVec S128x1 32) else p.2 : Vec Ideal S128x1 .i32) = bi at hb ⊢
  generalize k1_pay1 (k1_pay66 v3 v4 v6 v13) (k1_pay67 (F := Ideal) (bitsOf (F := Ideal) (Scalar.muli (BitVec.ofNat 32 t.val) 10240#32) k1_pay62)) = v38 at hv38 ⊢
  generalize k1_pay2 (k1_pay64 v3 v4 v6 v13) v42 = v56 at hv56 ⊢
  by_cases h9 : k1_cond3 (grid1.coords t) = 1#1
  · have t9 : t.val = 9 := by
      rcases cases1 t with h | h | h
      · exact absurd h9 h.2.2.1
      · exact absurd h9 h.2.2.1
      · exact h.2.2.2.2
    rw [if_pos h9, show min 100000 ((t.val + 1) * 10240) = t.val * 10240 + 7840 from by omega]
    have e11 : Scalar.subi 100000#32 (Scalar.muli (BitVec.ofNat 32 t.val) 10240#32) = 7840#32 := by rw [t9]; decide
    rw [e11]
    induction i using row_cases
    · rename_i r
      dsimp only
      rw [put_lo, put_lo, pay56_at, pay57_at _ _ _ _ _ hila, base_word, win_lo, win_lo]
      refine run_step (n := 10240) (by omega) (by omega) le_rfl (f (loRow r)) (hf _) (fun l => k1_pay53 (F := Ideal) 7840#32 v38 k1_pay63 (ix2 r l)) (fun l hl => ?_) (fun l hl => ?_)
        _ _ _ (pay54_at v38 7840#32 k1_pay63 r) (hb (loRow r))
      · rw [pay53_at, if_pos hl]; exact hv38 r l (by omega)
      · rw [pay53_at, if_neg (by omega)]
    · rename_i r
      dsimp only
      rw [put_hi, put_hi, pay8_at, pay9_at _ _ _ hilb, base_word, win_hi, win_hi]
      refine run_step (n := 10240) (by omega) (by omega) le_rfl (f (hiRow r)) (hf _) (fun l => k1_pay58 (F := Ideal) 7840#32 v56 k1_pay63 (ix2 r l)) (fun l hl => ?_) (fun l hl => ?_)
        _ _ _ (pay6_at v56 7840#32 k1_pay63 r) (hb (hiRow r))
      · rw [pay58_at, if_pos hl]; exact hv56 r l (by omega)
      · rw [pay58_at, if_neg (by omega)]
  · have t9 : t.val ≠ 9 := fun e => by
      rcases cases1 t with h | h | h
      · omega
      · exact h.2.2.2.2 e
      · exact h9 h.2.2.1
    rw [if_neg h9, show min 100000 ((t.val + 1) * 10240) = t.val * 10240 + 10240 from by omega]
    induction i using row_cases
    · rename_i r
      dsimp only
      rw [put_lo, put_lo, pay48_at, pay49_at _ _ _ hila, base_word, win_lo, win_lo]
      exact run_step (n := 10240) (by omega) le_rfl le_rfl (f (loRow r)) (hf _) (fun l => v38 (ix2 r l)) (fun l hl => hv38 r l (by omega)) (fun l hl => absurd l.isLt (by omega))
        _ _ _ (pay46_at v38 r) (hb (loRow r))
    · rename_i r
      dsimp only
      rw [put_hi, put_hi, pay4_at, pay5_at, pay51_at _ _ _ hilb, base_word, win_hi, win_hi]
      exact run_step (n := 10240) (by omega) le_rfl le_rfl (f (hiRow r)) (hf _) (fun l => v56 (ix2 r l)) (fun l hl => hv56 r l (by omega)) (fun l hl => absurd l.isLt (by omega))
        _ _ _ (pay50_at v56 r) (hb (hiRow r))

/-! ## The blocks of random words, and the points one after the other -/

theorem index1_3 : ∀ t : Fin cfg1.N, win1_3.index t = ![0, t.val] := by decide +kernel
theorem xsize1_3 : ∀ (t : Fin cfg1.N) (a : Fin 2),
    win1_3.xsize (grid1.coords t) a = (![96, min 10240 (100000 - t.val * 10240)] : Fin 2 → ℕ) a := by decide +kernel

/-- Region 1: the random words' block at a column inside the array. -/
theorem fet1_3_at {c : Dev nD} (A : Arr1 (F := Ideal) c) (t : Fin cfg1.N) (d : Vec Ideal S96x10240 .i32) (k : Fin 96) (l : Fin 10240)
    (h : t.val * 10240 + l.val < 100000) :
    fet1 A 3 t d (ix2 k l) = (A 3 : Vec Ideal S96x100000 .i32) (ix2 k ⟨t.val * 10240 + l.val, h⟩) := by
  unfold fet1 Pipeline.Window.fill
  rw [dif_pos]
  · blk_simp
    refine congrArg (A 3) ?_
    blk_ext [index1_3]
  · refine (Pipeline.Window.moved_iff _ _ _).mpr fun a => ?_
    refine lt_of_lt_of_eq ?_ (xsize1_3 t a).symm
    have hk := k.isLt
    have hl := l.isLt
    match a with
    | 0 => exact hk
    | 1 => show l.val < min 10240 (100000 - t.val * 10240); omega

variable (m : (ℓ : Loc nD τ sig) → Buf (Elt Ideal) ℓ)

/-- The kernel's score of row `i` at a natural number; past the vocabulary, zero. -/
def scoreRow (c : Dev nD) (i : Fin 128) (n : ℕ) : EReal :=
  if h : n < 100000 then kerScore (probs m c (ix2 i (⟨n, h⟩ : Fin 100000))) (wordOf (count i.val n)) else 0

/-- A chunk's probability at a column inside the array. -/
theorem chunk_prob (c : Dev nD) (x : Vals (F := Ideal)) (hx : Leaves 0 (rds (VH m)) (VH m c) c (x c)) (t : Fin cfg1.N)
    (d0 : Vec Ideal S128x64 .f32) (d1 : Vec Ideal S64x10240 .f32) (d2 : Vec Ideal S1x10240 .f32) (d4 : Vec Ideal S128x1 .f32) (i : Fin 128) (l : Fin 10240)
    (h : t.val * 10240 + l.val < 100000) :
    k1_pay64 (fet1 (arrs1 (x c) c) 0 t d0) (fet1 (arrs1 (x c) c) 1 t d1) (fet1 (arrs1 (x c) c) 2 t d2) (fet1 (arrs1 (x c) c) 4 t d4) (ix2 i l)
      = probs m c (ix2 i (⟨t.val * 10240 + l.val, h⟩ : Fin 100000)) := by
  rw [probsAt_at (arrs1 (x c) c) t _ ⟨d0, d1, d2, d4, rfl⟩ i l h,
    show (arrs1 (x c) c 2) = VH m c main_v178 from leaves0_of m c x hx main_v178 (by decide) (by decide),
    show (arrs1 (x c) c 0) = VH m c main_arg0 from leaves0_of m c x hx main_arg0 (by decide) (by decide),
    show (arrs1 (x c) c 1) = VH m c main_arg1 from leaves0_of m c x hx main_arg1 (by decide) (by decide)]
  refine congrArg₂ (fun a b : EReal => Ideal.exp a * Ideal.div 1 b) (logit_host m c i ⟨t.val * 10240 + l.val, h⟩) ?_
  exact sums_at m c x hx i

/-- A chunk's random word at a column inside the array. -/
theorem chunk_word (c : Dev nD) (x : Vals (F := Ideal)) (hx : Leaves 0 (rds (VH m)) (VH m c) c (x c)) (t : Fin cfg1.N)
    (d3 : Vec Ideal S96x10240 .i32) (r : Fin 96) (l : Fin 10240) (h : t.val * 10240 + l.val < 100000) :
    fet1 (arrs1 (x c) c) 3 t d3 (ix2 r l) = wordOf (count (32 + r.val) (t.val * 10240 + l.val)) := by
  rw [fet1_3_at (arrs1 (x c) c) t d3 r l h,
    show (arrs1 (x c) c 3) = VH m c main_v177 from leaves0_of m c x hx main_v177 (by decide) (by decide)]
  unfold VH
  refine (host_words_at _ r ⟨t.val * 10240 + l.val, h⟩).trans ?_
  rw [host_count]

/-- The running pair after each point. -/
theorem acc_run (c : Dev nD) (x : Vals (F := Ideal)) (hx : Leaves 0 (rds (VH m)) (VH m c) c (x c)) (hs : ∀ i n, ⊥ < scoreRow m c i n) :
    ∀ (n : ℕ) (q : Vec Ideal S128x1 .f32 × Vec Ideal S128x1 .i32), Acc (arrs1 (x c) c) (n + 1) q →
      ∀ i, RunAt (scoreRow m c i) (min 100000 ((n + 1) * 10240)) (q.1 (ix2 i 0)) (q.2 (ix2 i 0)) := by
  intro n
  induction n with
  | zero =>
    rintro q ⟨h, d0, d1, d2, d3, d4, p, -, rfl⟩
    refine step_run ⟨0, h⟩ _ _ _ _ _ p (scoreRow m c) hs (fun r l hl => ?_) (fun r l hl => ?_) (fun h0 => absurd rfl h0)
    · rw [chunk_prob m c x hx ⟨0, h⟩ d0 d1 d2 d4 (loRow r) l hl]
      unfold scoreRow; rw [dif_pos hl]
    · rw [chunk_prob m c x hx ⟨0, h⟩ d0 d1 d2 d4 (hiRow r) l hl, chunk_word m c x hx ⟨0, h⟩ d3 r l hl]
      unfold scoreRow; rw [dif_pos hl]
  | succ n ih =>
    rintro q ⟨h, d0, d1, d2, d3, d4, p, hp, rfl⟩
    have h10 : n + 1 < 10 := h
    have hp' := ih p hp
    rw [show min 100000 ((n + 1) * 10240) = (n + 1) * 10240 from by omega] at hp'
    refine step_run ⟨n + 1, h⟩ _ _ _ _ _ p (scoreRow m c) hs (fun r l hl => ?_) (fun r l hl => ?_) (fun _ => hp')
    · rw [chunk_prob m c x hx ⟨n + 1, h⟩ d0 d1 d2 d4 (loRow r) l hl]
      unfold scoreRow; rw [dif_pos hl]
    · rw [chunk_prob m c x hx ⟨n + 1, h⟩ d0 d1 d2 d4 (hiRow r) l hl, chunk_word m c x hx ⟨n + 1, h⟩ d3 r l hl]
      unfold scoreRow; rw [dif_pos hl]

theorem whole1_6 : (cfg1.win 6).WholeAt ⟨9, by decide⟩ := by decide +kernel

/-- At the end each action is the first position of the largest score of its row. -/
theorem ends_actions (c : Dev nD) (s : MemSt nD τ sig (Elt Ideal)) (h : Ends m c s) (hs : ∀ i n, ⊥ < scoreRow m c i n) (i : Fin 128) :
    ∃ j, IsFirst (scoreRow m c i) 100000 j ∧ (s.mem ((c.tc : Thread nD τ).loc main_v180_1) : Vec Ideal S128x1 .i32) (ix2 i 0) = BitVec.ofNat 32 j := by
  obtain ⟨x, y, hx, hy, hv⟩ := h
  have hG : (rd1 (x c) c).ArrAt 6 cfg1.N (y c main_v180_1) := hy.1 6
  obtain ⟨X, ⟨Y, -, hX⟩, e⟩ := RDat.ArrAt.emb_eq_of_wholeAt (rd := rd1 (x c) c) hG whole1_6
  obtain ⟨bv, hacc⟩ := hX rfl
  have e' : (y c main_v180_1 : Vec Ideal S128x1 .i32) (ix2 i 0) = X (ix2 i 0) := e (ix2 i 0)
  have hm : (s.mem ((c.tc : Thread nD τ).loc main_v180_1) : Vec Ideal S128x1 .i32) = y c main_v180_1 := hv _ (uc_of main_v180_1 (by decide))
  rcases acc_run m c x hx hs 9 (bv, X) hacc i with ⟨h0, -⟩ | ⟨j, hj, -, hk⟩
  · exact absurd h0 (by decide)
  · exact ⟨j, hj, by rw [hm, e']; exact hk⟩

end Cert.KernelIdeal.Hand

end
-- ==== Proof.RefOps.lean ====
/-
  The reference's operations as lists, in order, and its run.
-/
module

public import proofs.«01_k».proof.Proof.Gen.ReferenceIdeal
public import Idealize.ShloMosaic.Lib.StableHlo.Run
public import Idealize.ShloMosaic.Lib.StableHlo.RunRead
public import Idealize.ShloMosaic.PureOps.Ideal.Laws

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- @main up to the random numbers. -/
abbrev opsM1 : List (HloOp τ sig (Elt F)) :=
  [ binary main_arg0 main_arg1 main_v0 ((fun l r => Host.dotGeneral dot_S128x64_S64x100000_S128x100000_1_0_0_1_n_n none l r) : (⟨S128x64, .f32⟩ : BufTy).Contents (Elt F) → (⟨S64x100000, .f32⟩ : BufTy).Contents (Elt F) → (⟨S128x100000, .f32⟩ : BufTy).Contents (Elt F)),
    unary main_arg2 main_v1 (broadcastInDim S1x100000 ![1] bcast_S100000_S1x100000_1 : (⟨S100000, .f32⟩ : BufTy).Contents (Elt F) → (⟨S1x100000, .f32⟩ : BufTy).Contents (Elt F)),
    unary main_v1 main_v2 (broadcastInDim S128x100000 ![0, 1] bcast_S1x100000_S128x100000_0_1 : (⟨S1x100000, .f32⟩ : BufTy).Contents (Elt F) → (⟨S128x100000, .f32⟩ : BufTy).Contents (Elt F)),
    binary main_v0 main_v2 main_v3 (addf : (⟨S128x100000, .f32⟩ : BufTy).Contents (Elt F) → (⟨S128x100000, .f32⟩ : BufTy).Contents (Elt F) → (⟨S128x100000, .f32⟩ : BufTy).Contents (Elt F)),
    nullary main_cst (constant S_ .f32 0xFF800000#32),
    binary main_v3 main_cst main_v4 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    nullary main_cst_0 (constant S_ .f32 0xFF800000#32),
    unary main_cst_0 main_v5 (broadcastInDim S128 ![] bcast_S_S128 : (⟨S_, .f32⟩ : BufTy).Contents (Elt F) → (⟨S128, .f32⟩ : BufTy).Contents (Elt F)),
    binary main_v5 main_v4 main_v6 (maximumf : (⟨S128, .f32⟩ : BufTy).Contents (Elt F) → (⟨S128, .f32⟩ : BufTy).Contents (Elt F) → (⟨S128, .f32⟩ : BufTy).Contents (Elt F)),
    unary main_v6 main_v7 (broadcastInDim S128x1 ![0] bcast_S128_S128x1_0 : (⟨S128, .f32⟩ : BufTy).Contents (Elt F) → (⟨S128x1, .f32⟩ : BufTy).Contents (Elt F)),
    unary main_v7 main_v8 (broadcastInDim S128x100000 ![0, 1] bcast_S128x1_S128x100000_0_1 : (⟨S128x1, .f32⟩ : BufTy).Contents (Elt F) → (⟨S128x100000, .f32⟩ : BufTy).Contents (Elt F)),
    binary main_v3 main_v8 main_v9 (subf : (⟨S128x100000, .f32⟩ : BufTy).Contents (Elt F) → (⟨S128x100000, .f32⟩ : BufTy).Contents (Elt F) → (⟨S128x100000, .f32⟩ : BufTy).Contents (Elt F)),
    unary main_v9 main_v10 (Host.exp : (⟨S128x100000, .f32⟩ : BufTy).Contents (Elt F) → (⟨S128x100000, .f32⟩ : BufTy).Contents (Elt F)),
    nullary main_cst_1 (constant S_ .f32 0x00000000#32),
    binary main_v10 main_cst_1 main_v11 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v11 main_v12 (broadcastInDim S128x1 ![0] bcast_S128_S128x1_0 : (⟨S128, .f32⟩ : BufTy).Contents (Elt F) → (⟨S128x1, .f32⟩ : BufTy).Contents (Elt F)),
    unary main_v12 main_v13 (broadcastInDim S128x100000 ![0, 1] bcast_S128x1_S128x100000_0_1 : (⟨S128x1, .f32⟩ : BufTy).Contents (Elt F) → (⟨S128x100000, .f32⟩ : BufTy).Contents (Elt F)),
    binary main_v10 main_v13 main_v14 (Host.divf : (⟨S128x100000, .f32⟩ : BufTy).Contents (Elt F) → (⟨S128x100000, .f32⟩ : BufTy).Contents (Elt F) → (⟨S128x100000, .f32⟩ : BufTy).Contents (Elt F)),
    nullary main_c (constantI S_ 32 42#32),
    nullary main_c_2 (constantI S_ 32 32#32),
    binary main_c main_c_2 main_v15 (Host.shrui : (⟨S_, .i32⟩ : BufTy).Contents (Elt F) → (⟨S_, .i32⟩ : BufTy).Contents (Elt F) → (⟨S_, .i32⟩ : BufTy).Contents (Elt F)),
    unary main_v15 main_v16 (id : (⟨S_, .i32⟩ : BufTy).Contents (Elt F) → (⟨S_, .i32⟩ : BufTy).Contents (Elt F)),
    unary main_v16 main_v17 (broadcastInDim S1 ![] bcast_S_S1 : (⟨S_, .i32⟩ : BufTy).Contents (Elt F) → (⟨S1, .i32⟩ : BufTy).Contents (Elt F)),
    nullary main_c_3 (constantI S_ 32 4294967295#32),
    binary main_c main_c_3 main_v18 (andi : (⟨S_, .i32⟩ : BufTy).Contents (Elt F) → (⟨S_, .i32⟩ : BufTy).Contents (Elt F) → (⟨S_, .i32⟩ : BufTy).Contents (Elt F)),
    unary main_v18 main_v19 (id : (⟨S_, .i32⟩ : BufTy).Contents (Elt F) → (⟨S_, .i32⟩ : BufTy).Contents (Elt F)),
    unary main_v19 main_v20 (broadcastInDim S1 ![] bcast_S_S1 : (⟨S_, .i32⟩ : BufTy).Contents (Elt F) → (⟨S1, .i32⟩ : BufTy).Contents (Elt F)),
    binary main_v17 main_v20 main_v21 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst_4 (constant S_ .f32 0x00000000#32),
    nullary main_cst_5 (constant S_ .f32 0x3F800000#32) ]
theorem opsM1_sub : (opsM1 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub ..⟩
theorem opsM1_fresh : ∀ op ∈ (opsM1 : List (HloOp τ sig (Elt F))), op.fresh = ∅ := by
  intro _ h; (repeat (cases h with | head => rfl | tail _ h => ?_)); exact nomatch h

/-- The counters. -/
abbrev opsU1 : List (HloOp τ sig (Elt F)) :=
  [ unary main_cst_4 main_call0_v0 (id : (⟨S_, .f32⟩ : BufTy).Contents (Elt F) → (⟨S_, .f32⟩ : BufTy).Contents (Elt F)),
    unary main_cst_5 main_call0_v1 (id : (⟨S_, .f32⟩ : BufTy).Contents (Elt F) → (⟨S_, .f32⟩ : BufTy).Contents (Elt F)),
    unary main_call0_v0 main_call0_v2 ((broadcastInDim S1x1 ![] bcast_S_S1x1) : (⟨S_, .f32⟩ : BufTy).Contents (Elt F) → (⟨S1x1, .f32⟩ : BufTy).Contents (Elt F)),
    unary main_call0_v1 main_call0_v3 ((broadcastInDim S1x1 ![] bcast_S_S1x1) : (⟨S_, .f32⟩ : BufTy).Contents (Elt F) → (⟨S1x1, .f32⟩ : BufTy).Contents (Elt F)),
    unary main_v21 main_call0_v4 ((extractStridedSlice S1 ![0] · slices_S2_S1_0) : (⟨S2, .i32⟩ : BufTy).Contents (Elt F) → (⟨S1, .i32⟩ : BufTy).Contents (Elt F)),
    reshape main_call0_v4 main_call0_v5 (rfl : (.i32 : EltTy) = .i32) shapeCasts_S1_S_,
    unary main_v21 main_call0_v6 ((extractStridedSlice S1 ![1] · slices_S2_S1_1) : (⟨S2, .i32⟩ : BufTy).Contents (Elt F) → (⟨S1, .i32⟩ : BufTy).Contents (Elt F)),
    reshape main_call0_v6 main_call0_v7 (rfl : (.i32 : EltTy) = .i32) shapeCasts_S1_S_,
    nullary main_call0_v8 (iotaInDim S128x100000 64 0),
    nullary main_call0_v9 (iotaInDim S128x100000 64 1),
    nullary main_call0_c (constantI S_ 64 100000#64),
    unary main_call0_c main_call0_v10 ((broadcastInDim S128x100000 ![] bcast_S_S128x100000) : (⟨S_, .i64⟩ : BufTy).Contents (Elt F) → (⟨S128x100000, .i64⟩ : BufTy).Contents (Elt F)),
    binary main_call0_v10 main_call0_v8 main_call0_v11 (muli : (⟨S128x100000, .i64⟩ : BufTy).Contents (Elt F) → (⟨S128x100000, .i64⟩ : BufTy).Contents (Elt F) → (⟨S128x100000, .i64⟩ : BufTy).Contents (Elt F)),
    nullary main_call0_c_0 (constantI S_ 64 1#64),
    unary main_call0_c_0 main_call0_v12 ((broadcastInDim S128x100000 ![] bcast_S_S128x100000) : (⟨S_, .i64⟩ : BufTy).Contents (Elt F) → (⟨S128x100000, .i64⟩ : BufTy).Contents (Elt F)),
    binary main_call0_v12 main_call0_v9 main_call0_v13 (muli : (⟨S128x100000, .i64⟩ : BufTy).Contents (Elt F) → (⟨S128x100000, .i64⟩ : BufTy).Contents (Elt F) → (⟨S128x100000, .i64⟩ : BufTy).Contents (Elt F)),
    binary main_call0_v11 main_call0_v13 main_call0_v14 (addi : (⟨S128x100000, .i64⟩ : BufTy).Contents (Elt F) → (⟨S128x100000, .i64⟩ : BufTy).Contents (Elt F) → (⟨S128x100000, .i64⟩ : BufTy).Contents (Elt F)),
    nullary main_call0_c_1 (constantI S_ 64 32#64),
    unary main_call0_c_1 main_call0_v15 ((broadcastInDim S128x100000 ![] bcast_S_S128x100000) : (⟨S_, .i64⟩ : BufTy).Contents (Elt F) → (⟨S128x100000, .i64⟩ : BufTy).Contents (Elt F)),
    binary main_call0_v14 main_call0_v15 main_call0_v16 (Host.shrui : (⟨S128x100000, .i64⟩ : BufTy).Contents (Elt F) → (⟨S128x100000, .i64⟩ : BufTy).Contents (Elt F) → (⟨S128x100000, .i64⟩ : BufTy).Contents (Elt F)),
    unary main_call0_v14 main_call0_v17 ((trunci 32 · natLt_32_64) : (⟨S128x100000, .i64⟩ : BufTy).Contents (Elt F) → (⟨S128x100000, .i32⟩ : BufTy).Contents (Elt F)),
    unary main_call0_v16 main_call0_v18 ((trunci 32 · natLt_32_64) : (⟨S128x100000, .i64⟩ : BufTy).Contents (Elt F) → (⟨S128x100000, .i32⟩ : BufTy).Contents (Elt F)) ]
theorem opsU1_sub : (opsU1 : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub ..⟩
theorem opsU1_fresh : ∀ op ∈ (opsU1 : List (HloOp τ sig (Elt F))), op.fresh = ∅ := by
  intro _ h; (repeat (cases h with | head => rfl | tail _ h => ?_)); exact nomatch h

/-- The keys, before the first round. -/
abbrev opsT0 : List (HloOp τ sig (Elt F)) :=
  [ binary main_call0_v5 main_call0_v7 main_call0_call0_v0 (xori : (⟨S_, .i32⟩ : BufTy).Contents (Elt F) → (⟨S_, .i32⟩ : BufTy).Contents (Elt F) → (⟨S_, .i32⟩ : BufTy).Contents (Elt F)),
    nullary main_call0_call0_c (constantI S_ 32 466688986#32),
    binary main_call0_call0_v0 main_call0_call0_c main_call0_call0_v1 (xori : (⟨S_, .i32⟩ : BufTy).Contents (Elt F) → (⟨S_, .i32⟩ : BufTy).Contents (Elt F) → (⟨S_, .i32⟩ : BufTy).Contents (Elt F)),
    unary main_call0_v5 main_call0_call0_v2 ((broadcastInDim S128x100000 ![] bcast_S_S128x100000) : (⟨S_, .i32⟩ : BufTy).Contents (Elt F) → (⟨S128x100000, .i32⟩ : BufTy).Contents (Elt F)),
    binary main_call0_v18 main_call0_call0_v2 main_call0_call0_v3 (addi : (⟨S128x100000, .i32⟩ : BufTy).Contents (Elt F) → (⟨S128x100000, .i32⟩ : BufTy).Contents (Elt F) → (⟨S128x100000, .i32⟩ : BufTy).Contents (Elt F)),
    unary main_call0_v7 main_call0_call0_v4 ((broadcastInDim S128x100000 ![] bcast_S_S128x100000) : (⟨S_, .i32⟩ : BufTy).Contents (Elt F) → (⟨S128x100000, .i32⟩ : BufTy).Contents (Elt F)),
    binary main_call0_v17 main_call0_call0_v4 main_call0_call0_v5 (addi : (⟨S128x100000, .i32⟩ : BufTy).Contents (Elt F) → (⟨S128x100000, .i32⟩ : BufTy).Contents (Elt F) → (⟨S128x100000, .i32⟩ : BufTy).Contents (Elt F)),
    binary main_call0_call0_v3 main_call0_call0_v5 main_call0_call0_v6 (addi : (⟨S128x100000, .i32⟩ : BufTy).Contents (Elt F) → (⟨S128x100000, .i32⟩ : BufTy).Contents (Elt F) → (⟨S128x100000, .i32⟩ : BufTy).Contents (Elt F)) ]
theorem opsT0_sub : (opsT0 : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub .., binary_bufs_sub ..⟩
theorem opsT0_fresh : ∀ op ∈ (opsT0 : List (HloOp τ sig (Elt F))), op.fresh = ∅ := by
  intro _ h; (repeat (cases h with | head => rfl | tail _ h => ?_)); exact nomatch h

/-- Round 1 of the hash. -/
abbrev opsT1 : List (HloOp τ sig (Elt F)) :=
  [ nullary main_call0_call0_c_0 (constantI S_ 32 13#32),
    unary main_call0_call0_c_0 main_call0_call0_v7 ((broadcastInDim S128x100000 ![] bcast_S_S128x100000) : (⟨S_, .i32⟩ : BufTy).Contents (Elt F) → (⟨S128x100000, .i32⟩ : BufTy).Contents (Elt F)),
    binary main_call0_call0_v5 main_call0_call0_v7 main_call0_call0_v8 (Host.shli : (⟨S128x100000, .i32⟩ : BufTy).Contents (Elt F) → (⟨S128x100000, .i32⟩ : BufTy).Contents (Elt F) → (⟨S128x100000, .i32⟩ : BufTy).Contents (Elt F)),
    nullary main_call0_call0_c_1 (constantI S_ 32 19#32),
    unary main_call0_call0_c_1 main_call0_call0_v9 ((broadcastInDim S128x100000 ![] bcast_S_S128x100000) : (⟨S_, .i32⟩ : BufTy).Contents (Elt F) → (⟨S128x100000, .i32⟩ : BufTy).Contents (Elt F)),
    binary main_call0_call0_v5 main_call0_call0_v9 main_call0_call0_v10 (Host.shrui : (⟨S128x100000, .i32⟩ : BufTy).Contents (Elt F) → (⟨S128x100000, .i32⟩ : BufTy).Contents (Elt F) → (⟨S128x100000, .i32⟩ : BufTy).Contents (Elt F)),
    binary main_call0_call0_v8 main_call0_call0_v10 main_call0_call0_v11 (ori : (⟨S128x100000, .i32⟩ : BufTy).Contents (Elt F) → (⟨S128x100000, .i32⟩ : BufTy).Contents (Elt F) → (⟨S128x100000, .i32⟩ : BufTy).Contents (Elt F)),
    binary main_call0_call0_v6 main_call0_call0_v11 main_call0_call0_v12 (xori : (⟨S128x100000, .i32⟩ : BufTy).Contents (Elt F) → (⟨S128x100000, .i32⟩ : BufTy).Contents (Elt F) → (⟨S128x100000, .i32⟩ : BufTy).Contents (Elt F)),
    binary main_call0_call0_v6 main_call0_call0_v12 main_call0_call0_v13 (addi : (⟨S128x100000, .i32⟩ : BufTy).Contents (Elt F) → (⟨S128x100000, .i32⟩ : BufTy).Contents (Elt F) → (⟨S128x100000, .i32⟩ : BufTy).Contents (Elt F)) ]
theorem opsT1_sub : (opsT1 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT1_fresh : ∀ op ∈ (opsT1 : List (HloOp τ sig (Elt F))), op.fresh = ∅ := by
  intro _ h; (repeat (cases h with | head => rfl | tail _ h => ?_)); exact nomatch h

/-- Round 2 of the hash. -/
abbrev opsT2 : List (HloOp τ sig (Elt F)) :=
  [ nullary main_call0_call0_c_2 (constantI S_ 32 15#32),
    unary main_call0_call0_c_2 main_call0_call0_v14 ((broadcastInDim S128x100000 ![] bcast_S_S128x100000) : (⟨S_, .i32⟩ : BufTy).Contents (Elt F) → (⟨S128x100000, .i32⟩ : BufTy).Contents (Elt F)),
    binary main_call0_call0_v12 main_call0_call0_v14 main_call0_call0_v15 (Host.shli : (⟨S128x100000, .i32⟩ : BufTy).Contents (Elt F) → (⟨S128x100000, .i32⟩ : BufTy).Contents (Elt F) → (⟨S128x100000, .i32⟩ : BufTy).Contents (Elt F)),
    nullary main_call0_call0_c_3 (constantI S_ 32 17#32),
    unary main_call0_call0_c_3 main_call0_call0_v16 ((broadcastInDim S128x100000 ![] bcast_S_S128x100000) : (⟨S_, .i32⟩ : BufTy).Contents (Elt F) → (⟨S128x100000, .i32⟩ : BufTy).Contents (Elt F)),
    binary main_call0_call0_v12 main_call0_call0_v16 main_call0_call0_v17 (Host.shrui : (⟨S128x100000, .i32⟩ : BufTy).Contents (Elt F) → (⟨S128x100000, .i32⟩ : BufTy).Contents (Elt F) → (⟨S128x100000, .i32⟩ : BufTy).Contents (Elt F)),
    binary main_call0_call0_v15 main_call0_call0_v17 main_call0_call0_v18 (ori : (⟨S128x100000, .i32⟩ : BufTy).Contents (Elt F) → (⟨S128x100000, .i32⟩ : BufTy).Contents (Elt F) → (⟨S128x100000, .i32⟩ : BufTy).Contents (Elt F)),
    binary main_call0_call0_v13 main_call0_call0_v18 main_call0_call0_v19 (xori : (⟨S128x100000, .i32⟩ : BufTy).Contents (Elt F) → (⟨S128x100000, .i32⟩ : BufTy).Contents (Elt F) → (⟨S128x100000, .i32⟩ : BufTy).Contents (Elt F)),
    binary main_call0_call0_v13 main_call0_call0_v19 main_call0_call0_v20 (addi : (⟨S128x100000, .i32⟩ : BufTy).Contents (Elt F) → (⟨S128x100000, .i32⟩ : BufTy).Contents (Elt F) → (⟨S128x100000, .i32⟩ : BufTy).Contents (Elt F)) ]
theorem opsT2_sub : (opsT2 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT2_fresh : ∀ op ∈ (opsT2 : List (HloOp τ sig (Elt F))), op.fresh = ∅ := by
  intro _ h; (repeat (cases h with | head => rfl | tail _ h => ?_)); exact nomatch h

/-- Round 3 of the hash. -/
abbrev opsT3 : List (HloOp τ sig (Elt F)) :=
  [ nullary main_call0_call0_c_4 (constantI S_ 32 26#32),
    unary main_call0_call0_c_4 main_call0_call0_v21 ((broadcastInDim S128x100000 ![] bcast_S_S128x100000) : (⟨S_, .i32⟩ : BufTy).Contents (Elt F) → (⟨S128x100000, .i32⟩ : BufTy).Contents (Elt F)),
    binary main_call0_call0_v19 main_call0_call0_v21 main_call0_call0_v22 (Host.shli : (⟨S128x100000, .i32⟩ : BufTy).Contents (Elt F) → (⟨S128x100000, .i32⟩ : BufTy).Contents (Elt F) → (⟨S128x100000, .i32⟩ : BufTy).Contents (Elt F)),
    nullary main_call0_call0_c_5 (constantI S_ 32 6#32),
    unary main_call0_call0_c_5 main_call0_call0_v23 ((broadcastInDim S128x100000 ![] bcast_S_S128x100000) : (⟨S_, .i32⟩ : BufTy).Contents (Elt F) → (⟨S128x100000, .i32⟩ : BufTy).Contents (Elt F)),
    binary main_call0_call0_v19 main_call0_call0_v23 main_call0_call0_v24 (Host.shrui : (⟨S128x100000, .i32⟩ : BufTy).Contents (Elt F) → (⟨S128x100000, .i32⟩ : BufTy).Contents (Elt F) → (⟨S128x100000, .i32⟩ : BufTy).Contents (Elt F)),
    binary main_call0_call0_v22 main_call0_call0_v24 main_call0_call0_v25 (ori : (⟨S128x100000, .i32⟩ : BufTy).Contents (Elt F) → (⟨S128x100000, .i32⟩ : BufTy).Contents (Elt F) → (⟨S128x100000, .i32⟩ : BufTy).Contents (Elt F)),
    binary main_call0_call0_v20 main_call0_call0_v25 main_call0_call0_v26 (xori : (⟨S128x100000, .i32⟩ : BufTy).Contents (Elt F) → (⟨S128x100000, .i32⟩ : BufTy).Contents (Elt F) → (⟨S128x100000, .i32⟩ : BufTy).Contents (Elt F)),
    binary main_call0_call0_v20 main_call0_call0_v26 main_call0_call0_v27 (addi : (⟨S128x100000, .i32⟩ : BufTy).Contents (Elt F) → (⟨S128x100000, .i32⟩ : BufTy).Contents (Elt F) → (⟨S128x100000, .i32⟩ : BufTy).Contents (Elt F)) ]
theorem opsT3_sub : (opsT3 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT3_fresh : ∀ op ∈ (opsT3 : List (HloOp τ sig (Elt F))), op.fresh = ∅ := by
  intro _ h; (repeat (cases h with | head => rfl | tail _ h => ?_)); exact nomatch h

/-- Round 4 of the hash. -/
abbrev opsT4 : List (HloOp τ sig (Elt F)) :=
  [ nullary main_call0_call0_c_6 (constantI S_ 32 6#32),
    unary main_call0_call0_c_6 main_call0_call0_v28 ((broadcastInDim S128x100000 ![] bcast_S_S128x100000) : (⟨S_, .i32⟩ : BufTy).Contents (Elt F) → (⟨S128x100000, .i32⟩ : BufTy).Contents (Elt F)),
    binary main_call0_call0_v26 main_call0_call0_v28 main_call0_call0_v29 (Host.shli : (⟨S128x100000, .i32⟩ : BufTy).Contents (Elt F) → (⟨S128x100000, .i32⟩ : BufTy).Contents (Elt F) → (⟨S128x100000, .i32⟩ : BufTy).Contents (Elt F)),
    nullary main_call0_call0_c_7 (constantI S_ 32 26#32),
    unary main_call0_call0_c_7 main_call0_call0_v30 ((broadcastInDim S128x100000 ![] bcast_S_S128x100000) : (⟨S_, .i32⟩ : BufTy).Contents (Elt F) → (⟨S128x100000, .i32⟩ : BufTy).Contents (Elt F)),
    binary main_call0_call0_v26 main_call0_call0_v30 main_call0_call0_v31 (Host.shrui : (⟨S128x100000, .i32⟩ : BufTy).Contents (Elt F) → (⟨S128x100000, .i32⟩ : BufTy).Contents (Elt F) → (⟨S128x100000, .i32⟩ : BufTy).Contents (Elt F)),
    binary main_call0_call0_v29 main_call0_call0_v31 main_call0_call0_v32 (ori : (⟨S128x100000, .i32⟩ : BufTy).Contents (Elt F) → (⟨S128x100000, .i32⟩ : BufTy).Contents (Elt F) → (⟨S128x100000, .i32⟩ : BufTy).Contents (Elt F)),
    binary main_call0_call0_v27 main_call0_call0_v32 main_call0_call0_v33 (xori : (⟨S128x100000, .i32⟩ : BufTy).Contents (Elt F) → (⟨S128x100000, .i32⟩ : BufTy).Contents (Elt F) → (⟨S128x100000, .i32⟩ : BufTy).Contents (Elt F)),
    unary main_call0_v7 main_call0_call0_v34 ((broadcastInDim S128x100000 ![] bcast_S_S128x100000) : (⟨S_, .i32⟩ : BufTy).Contents (Elt F) → (⟨S128x100000, .i32⟩ : BufTy).Contents (Elt F)),
    binary main_call0_call0_v27 main_call0_call0_v34 main_call0_call0_v35 (addi : (⟨S128x100000, .i32⟩ : BufTy).Contents (Elt F) → (⟨S128x100000, .i32⟩ : BufTy).Contents (Elt F) → (⟨S128x100000, .i32⟩ : BufTy).Contents (Elt F)),
    unary main_call0_call0_v1 main_call0_call0_v36 ((broadcastInDim S128x100000 ![] bcast_S_S128x100000) : (⟨S_, .i32⟩ : BufTy).Contents (Elt F) → (⟨S128x100000, .i32⟩ : BufTy).Contents (Elt F)),
    binary main_call0_call0_v33 main_call0_call0_v36 main_call0_call0_v37 (addi : (⟨S128x100000, .i32⟩ : BufTy).Contents (Elt F) → (⟨S128x100000, .i32⟩ : BufTy).Contents (Elt F) → (⟨S128x100000, .i32⟩ : BufTy).Contents (Elt F)),
    nullary main_call0_call0_c_8 (constantI S_ 32 1#32),
    unary main_call0_call0_c_8 main_call0_call0_v38 ((broadcastInDim S128x100000 ![] bcast_S_S128x100000) : (⟨S_, .i32⟩ : BufTy).Contents (Elt F) → (⟨S128x100000, .i32⟩ : BufTy).Contents (Elt F)),
    binary main_call0_call0_v37 main_call0_call0_v38 main_call0_call0_v39 (addi : (⟨S128x100000, .i32⟩ : BufTy).Contents (Elt F) → (⟨S128x100000, .i32⟩ : BufTy).Contents (Elt F) → (⟨S128x100000, .i32⟩ : BufTy).Contents (Elt F)),
    binary main_call0_call0_v35 main_call0_call0_v39 main_call0_call0_v40 (addi : (⟨S128x100000, .i32⟩ : BufTy).Contents (Elt F) → (⟨S128x100000, .i32⟩ : BufTy).Contents (Elt F) → (⟨S128x100000, .i32⟩ : BufTy).Contents (Elt F)) ]
theorem opsT4_sub : (opsT4 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
theorem opsT4_fresh : ∀ op ∈ (opsT4 : List (HloOp τ sig (Elt F))), op.fresh = ∅ := by
  intro _ h; (repeat (cases h with | head => rfl | tail _ h => ?_)); exact nomatch h

/-- Round 5 of the hash. -/
abbrev opsT5 : List (HloOp τ sig (Elt F)) :=
  [ nullary main_call0_call0_c_9 (constantI S_ 32 17#32),
    unary main_call0_call0_c_9 main_call0_call0_v41 ((broadcastInDim S128x100000 ![] bcast_S_S128x100000) : (⟨S_, .i32⟩ : BufTy).Contents (Elt F) → (⟨S128x100000, .i32⟩ : BufTy).Contents (Elt F)),
    binary main_call0_call0_v39 main_call0_call0_v41 main_call0_call0_v42 (Host.shli : (⟨S128x100000, .i32⟩ : BufTy).Contents (Elt F) → (⟨S128x100000, .i32⟩ : BufTy).Contents (Elt F) → (⟨S128x100000, .i32⟩ : BufTy).Contents (Elt F)),
    nullary main_call0_call0_c_10 (constantI S_ 32 15#32),
    unary main_call0_call0_c_10 main_call0_call0_v43 ((broadcastInDim S128x100000 ![] bcast_S_S128x100000) : (⟨S_, .i32⟩ : BufTy).Contents (Elt F) → (⟨S128x100000, .i32⟩ : BufTy).Contents (Elt F)),
    binary main_call0_call0_v39 main_call0_call0_v43 main_call0_call0_v44 (Host.shrui : (⟨S128x100000, .i32⟩ : BufTy).Contents (Elt F) → (⟨S128x100000, .i32⟩ : BufTy).Contents (Elt F) → (⟨S128x100000, .i32⟩ : BufTy).Contents (Elt F)),
    binary main_call0_call0_v42 main_call0_call0_v44 main_call0_call0_v45 (ori : (⟨S128x100000, .i32⟩ : BufTy).Contents (Elt F) → (⟨S128x100000, .i32⟩ : BufTy).Contents (Elt F) → (⟨S128x100000, .i32⟩ : BufTy).Contents (Elt F)),
    binary main_call0_call0_v40 main_call0_call0_v45 main_call0_call0_v46 (xori : (⟨S128x100000, .i32⟩ : BufTy).Contents (Elt F) → (⟨S128x100000, .i32⟩ : BufTy).Contents (Elt F) → (⟨S128x100000, .i32⟩ : BufTy).Contents (Elt F)),
    binary main_call0_call0_v40 main_call0_call0_v46 main_call0_call0_v47 (addi : (⟨S128x100000, .i32⟩ : BufTy).Contents (Elt F) → (⟨S128x100000, .i32⟩ : BufTy).Contents (Elt F) → (⟨S128x100000, .i32⟩ : BufTy).Contents (Elt F)) ]
theorem opsT5_sub : (opsT5 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT5_fresh : ∀ op ∈ (opsT5 : List (HloOp τ sig (Elt F))), op.fresh = ∅ := by
  intro _ h; (repeat (cases h with | head => rfl | tail _ h => ?_)); exact nomatch h

/-- Round 6 of the hash. -/
abbrev opsT6 : List (HloOp τ sig (Elt F)) :=
  [ nullary main_call0_call0_c_11 (constantI S_ 32 29#32),
    unary main_call0_call0_c_11 main_call0_call0_v48 ((broadcastInDim S128x100000 ![] bcast_S_S128x100000) : (⟨S_, .i32⟩ : BufTy).Contents (Elt F) → (⟨S128x100000, .i32⟩ : BufTy).Contents (Elt F)),
    binary main_call0_call0_v46 main_call0_call0_v48 main_call0_call0_v49 (Host.shli : (⟨S128x100000, .i32⟩ : BufTy).Contents (Elt F) → (⟨S128x100000, .i32⟩ : BufTy).Contents (Elt F) → (⟨S128x100000, .i32⟩ : BufTy).Contents (Elt F)),
    nullary main_call0_call0_c_12 (constantI S_ 32 3#32),
    unary main_call0_call0_c_12 main_call0_call0_v50 ((broadcastInDim S128x100000 ![] bcast_S_S128x100000) : (⟨S_, .i32⟩ : BufTy).Contents (Elt F) → (⟨S128x100000, .i32⟩ : BufTy).Contents (Elt F)),
    binary main_call0_call0_v46 main_call0_call0_v50 main_call0_call0_v51 (Host.shrui : (⟨S128x100000, .i32⟩ : BufTy).Contents (Elt F) → (⟨S128x100000, .i32⟩ : BufTy).Contents (Elt F) → (⟨S128x100000, .i32⟩ : BufTy).Contents (Elt F)),
    binary main_call0_call0_v49 main_call0_call0_v51 main_call0_call0_v52 (ori : (⟨S128x100000, .i32⟩ : BufTy).Contents (Elt F) → (⟨S128x100000, .i32⟩ : BufTy).Contents (Elt F) → (⟨S128x100000, .i32⟩ : BufTy).Contents (Elt F)),
    binary main_call0_call0_v47 main_call0_call0_v52 main_call0_call0_v53 (xori : (⟨S128x100000, .i32⟩ : BufTy).Contents (Elt F) → (⟨S128x100000, .i32⟩ : BufTy).Contents (Elt F) → (⟨S128x100000, .i32⟩ : BufTy).Contents (Elt F)),
    binary main_call0_call0_v47 main_call0_call0_v53 main_call0_call0_v54 (addi : (⟨S128x100000, .i32⟩ : BufTy).Contents (Elt F) → (⟨S128x100000, .i32⟩ : BufTy).Contents (Elt F) → (⟨S128x100000, .i32⟩ : BufTy).Contents (Elt F)) ]
theorem opsT6_sub : (opsT6 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT6_fresh : ∀ op ∈ (opsT6 : List (HloOp τ sig (Elt F))), op.fresh = ∅ := by
  intro _ h; (repeat (cases h with | head => rfl | tail _ h => ?_)); exact nomatch h

/-- Round 7 of the hash. -/
abbrev opsT7 : List (HloOp τ sig (Elt F)) :=
  [ nullary main_call0_call0_c_13 (constantI S_ 32 16#32),
    unary main_call0_call0_c_13 main_call0_call0_v55 ((broadcastInDim S128x100000 ![] bcast_S_S128x100000) : (⟨S_, .i32⟩ : BufTy).Contents (Elt F) → (⟨S128x100000, .i32⟩ : BufTy).Contents (Elt F)),
    binary main_call0_call0_v53 main_call0_call0_v55 main_call0_call0_v56 (Host.shli : (⟨S128x100000, .i32⟩ : BufTy).Contents (Elt F) → (⟨S128x100000, .i32⟩ : BufTy).Contents (Elt F) → (⟨S128x100000, .i32⟩ : BufTy).Contents (Elt F)),
    nullary main_call0_call0_c_14 (constantI S_ 32 16#32),
    unary main_call0_call0_c_14 main_call0_call0_v57 ((broadcastInDim S128x100000 ![] bcast_S_S128x100000) : (⟨S_, .i32⟩ : BufTy).Contents (Elt F) → (⟨S128x100000, .i32⟩ : BufTy).Contents (Elt F)),
    binary main_call0_call0_v53 main_call0_call0_v57 main_call0_call0_v58 (Host.shrui : (⟨S128x100000, .i32⟩ : BufTy).Contents (Elt F) → (⟨S128x100000, .i32⟩ : BufTy).Contents (Elt F) → (⟨S128x100000, .i32⟩ : BufTy).Contents (Elt F)),
    binary main_call0_call0_v56 main_call0_call0_v58 main_call0_call0_v59 (ori : (⟨S128x100000, .i32⟩ : BufTy).Contents (Elt F) → (⟨S128x100000, .i32⟩ : BufTy).Contents (Elt F) → (⟨S128x100000, .i32⟩ : BufTy).Contents (Elt F)),
    binary main_call0_call0_v54 main_call0_call0_v59 main_call0_call0_v60 (xori : (⟨S128x100000, .i32⟩ : BufTy).Contents (Elt F) → (⟨S128x100000, .i32⟩ : BufTy).Contents (Elt F) → (⟨S128x100000, .i32⟩ : BufTy).Contents (Elt F)),
    binary main_call0_call0_v54 main_call0_call0_v60 main_call0_call0_v61 (addi : (⟨S128x100000, .i32⟩ : BufTy).Contents (Elt F) → (⟨S128x100000, .i32⟩ : BufTy).Contents (Elt F) → (⟨S128x100000, .i32⟩ : BufTy).Contents (Elt F)) ]
theorem opsT7_sub : (opsT7 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT7_fresh : ∀ op ∈ (opsT7 : List (HloOp τ sig (Elt F))), op.fresh = ∅ := by
  intro _ h; (repeat (cases h with | head => rfl | tail _ h => ?_)); exact nomatch h

/-- Round 8 of the hash. -/
abbrev opsT8 : List (HloOp τ sig (Elt F)) :=
  [ nullary main_call0_call0_c_15 (constantI S_ 32 24#32),
    unary main_call0_call0_c_15 main_call0_call0_v62 ((broadcastInDim S128x100000 ![] bcast_S_S128x100000) : (⟨S_, .i32⟩ : BufTy).Contents (Elt F) → (⟨S128x100000, .i32⟩ : BufTy).Contents (Elt F)),
    binary main_call0_call0_v60 main_call0_call0_v62 main_call0_call0_v63 (Host.shli : (⟨S128x100000, .i32⟩ : BufTy).Contents (Elt F) → (⟨S128x100000, .i32⟩ : BufTy).Contents (Elt F) → (⟨S128x100000, .i32⟩ : BufTy).Contents (Elt F)),
    nullary main_call0_call0_c_16 (constantI S_ 32 8#32),
    unary main_call0_call0_c_16 main_call0_call0_v64 ((broadcastInDim S128x100000 ![] bcast_S_S128x100000) : (⟨S_, .i32⟩ : BufTy).Contents (Elt F) → (⟨S128x100000, .i32⟩ : BufTy).Contents (Elt F)),
    binary main_call0_call0_v60 main_call0_call0_v64 main_call0_call0_v65 (Host.shrui : (⟨S128x100000, .i32⟩ : BufTy).Contents (Elt F) → (⟨S128x100000, .i32⟩ : BufTy).Contents (Elt F) → (⟨S128x100000, .i32⟩ : BufTy).Contents (Elt F)),
    binary main_call0_call0_v63 main_call0_call0_v65 main_call0_call0_v66 (ori : (⟨S128x100000, .i32⟩ : BufTy).Contents (Elt F) → (⟨S128x100000, .i32⟩ : BufTy).Contents (Elt F) → (⟨S128x100000, .i32⟩ : BufTy).Contents (Elt F)),
    binary main_call0_call0_v61 main_call0_call0_v66 main_call0_call0_v67 (xori : (⟨S128x100000, .i32⟩ : BufTy).Contents (Elt F) → (⟨S128x100000, .i32⟩ : BufTy).Contents (Elt F) → (⟨S128x100000, .i32⟩ : BufTy).Contents (Elt F)),
    unary main_call0_call0_v1 main_call0_call0_v68 ((broadcastInDim S128x100000 ![] bcast_S_S128x100000) : (⟨S_, .i32⟩ : BufTy).Contents (Elt F) → (⟨S128x100000, .i32⟩ : BufTy).Contents (Elt F)),
    binary main_call0_call0_v61 main_call0_call0_v68 main_call0_call0_v69 (addi : (⟨S128x100000, .i32⟩ : BufTy).Contents (Elt F) → (⟨S128x100000, .i32⟩ : BufTy).Contents (Elt F) → (⟨S128x100000, .i32⟩ : BufTy).Contents (Elt F)),
    unary main_call0_v5 main_call0_call0_v70 ((broadcastInDim S128x100000 ![] bcast_S_S128x100000) : (⟨S_, .i32⟩ : BufTy).Contents (Elt F) → (⟨S128x100000, .i32⟩ : BufTy).Contents (Elt F)),
    binary main_call0_call0_v67 main_call0_call0_v70 main_call0_call0_v71 (addi : (⟨S128x100000, .i32⟩ : BufTy).Contents (Elt F) → (⟨S128x100000, .i32⟩ : BufTy).Contents (Elt F) → (⟨S128x100000, .i32⟩ : BufTy).Contents (Elt F)),
    nullary main_call0_call0_c_17 (constantI S_ 32 2#32),
    unary main_call0_call0_c_17 main_call0_call0_v72 ((broadcastInDim S128x100000 ![] bcast_S_S128x100000) : (⟨S_, .i32⟩ : BufTy).Contents (Elt F) → (⟨S128x100000, .i32⟩ : BufTy).Contents (Elt F)),
    binary main_call0_call0_v71 main_call0_call0_v72 main_call0_call0_v73 (addi : (⟨S128x100000, .i32⟩ : BufTy).Contents (Elt F) → (⟨S128x100000, .i32⟩ : BufTy).Contents (Elt F) → (⟨S128x100000, .i32⟩ : BufTy).Contents (Elt F)),
    binary main_call0_call0_v69 main_call0_call0_v73 main_call0_call0_v74 (addi : (⟨S128x100000, .i32⟩ : BufTy).Contents (Elt F) → (⟨S128x100000, .i32⟩ : BufTy).Contents (Elt F) → (⟨S128x100000, .i32⟩ : BufTy).Contents (Elt F)) ]
theorem opsT8_sub : (opsT8 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
theorem opsT8_fresh : ∀ op ∈ (opsT8 : List (HloOp τ sig (Elt F))), op.fresh = ∅ := by
  intro _ h; (repeat (cases h with | head => rfl | tail _ h => ?_)); exact nomatch h

/-- Round 9 of the hash. -/
abbrev opsT9 : List (HloOp τ sig (Elt F)) :=
  [ nullary main_call0_call0_c_18 (constantI S_ 32 13#32),
    unary main_call0_call0_c_18 main_call0_call0_v75 ((broadcastInDim S128x100000 ![] bcast_S_S128x100000) : (⟨S_, .i32⟩ : BufTy).Contents (Elt F) → (⟨S128x100000, .i32⟩ : BufTy).Contents (Elt F)),
    binary main_call0_call0_v73 main_call0_call0_v75 main_call0_call0_v76 (Host.shli : (⟨S128x100000, .i32⟩ : BufTy).Contents (Elt F) → (⟨S128x100000, .i32⟩ : BufTy).Contents (Elt F) → (⟨S128x100000, .i32⟩ : BufTy).Contents (Elt F)),
    nullary main_call0_call0_c_19 (constantI S_ 32 19#32),
    unary main_call0_call0_c_19 main_call0_call0_v77 ((broadcastInDim S128x100000 ![] bcast_S_S128x100000) : (⟨S_, .i32⟩ : BufTy).Contents (Elt F) → (⟨S128x100000, .i32⟩ : BufTy).Contents (Elt F)),
    binary main_call0_call0_v73 main_call0_call0_v77 main_call0_call0_v78 (Host.shrui : (⟨S128x100000, .i32⟩ : BufTy).Contents (Elt F) → (⟨S128x100000, .i32⟩ : BufTy).Contents (Elt F) → (⟨S128x100000, .i32⟩ : BufTy).Contents (Elt F)),
    binary main_call0_call0_v76 main_call0_call0_v78 main_call0_call0_v79 (ori : (⟨S128x100000, .i32⟩ : BufTy).Contents (Elt F) → (⟨S128x100000, .i32⟩ : BufTy).Contents (Elt F) → (⟨S128x100000, .i32⟩ : BufTy).Contents (Elt F)),
    binary main_call0_call0_v74 main_call0_call0_v79 main_call0_call0_v80 (xori : (⟨S128x100000, .i32⟩ : BufTy).Contents (Elt F) → (⟨S128x100000, .i32⟩ : BufTy).Contents (Elt F) → (⟨S128x100000, .i32⟩ : BufTy).Contents (Elt F)),
    binary main_call0_call0_v74 main_call0_call0_v80 main_call0_call0_v81 (addi : (⟨S128x100000, .i32⟩ : BufTy).Contents (Elt F) → (⟨S128x100000, .i32⟩ : BufTy).Contents (Elt F) → (⟨S128x100000, .i32⟩ : BufTy).Contents (Elt F)) ]
theorem opsT9_sub : (opsT9 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT9_fresh : ∀ op ∈ (opsT9 : List (HloOp τ sig (Elt F))), op.fresh = ∅ := by
  intro _ h; (repeat (cases h with | head => rfl | tail _ h => ?_)); exact nomatch h

/-- Round 10 of the hash. -/
abbrev opsT10 : List (HloOp τ sig (Elt F)) :=
  [ nullary main_call0_call0_c_20 (constantI S_ 32 15#32),
    unary main_call0_call0_c_20 main_call0_call0_v82 ((broadcastInDim S128x100000 ![] bcast_S_S128x100000) : (⟨S_, .i32⟩ : BufTy).Contents (Elt F) → (⟨S128x100000, .i32⟩ : BufTy).Contents (Elt F)),
    binary main_call0_call0_v80 main_call0_call0_v82 main_call0_call0_v83 (Host.shli : (⟨S128x100000, .i32⟩ : BufTy).Contents (Elt F) → (⟨S128x100000, .i32⟩ : BufTy).Contents (Elt F) → (⟨S128x100000, .i32⟩ : BufTy).Contents (Elt F)),
    nullary main_call0_call0_c_21 (constantI S_ 32 17#32),
    unary main_call0_call0_c_21 main_call0_call0_v84 ((broadcastInDim S128x100000 ![] bcast_S_S128x100000) : (⟨S_, .i32⟩ : BufTy).Contents (Elt F) → (⟨S128x100000, .i32⟩ : BufTy).Contents (Elt F)),
    binary main_call0_call0_v80 main_call0_call0_v84 main_call0_call0_v85 (Host.shrui : (⟨S128x100000, .i32⟩ : BufTy).Contents (Elt F) → (⟨S128x100000, .i32⟩ : BufTy).Contents (Elt F) → (⟨S128x100000, .i32⟩ : BufTy).Contents (Elt F)),
    binary main_call0_call0_v83 main_call0_call0_v85 main_call0_call0_v86 (ori : (⟨S128x100000, .i32⟩ : BufTy).Contents (Elt F) → (⟨S128x100000, .i32⟩ : BufTy).Contents (Elt F) → (⟨S128x100000, .i32⟩ : BufTy).Contents (Elt F)),
    binary main_call0_call0_v81 main_call0_call0_v86 main_call0_call0_v87 (xori : (⟨S128x100000, .i32⟩ : BufTy).Contents (Elt F) → (⟨S128x100000, .i32⟩ : BufTy).Contents (Elt F) → (⟨S128x100000, .i32⟩ : BufTy).Contents (Elt F)),
    binary main_call0_call0_v81 main_call0_call0_v87 main_call0_call0_v88 (addi : (⟨S128x100000, .i32⟩ : BufTy).Contents (Elt F) → (⟨S128x100000, .i32⟩ : BufTy).Contents (Elt F) → (⟨S128x100000, .i32⟩ : BufTy).Contents (Elt F)) ]
theorem opsT10_sub : (opsT10 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT10_fresh : ∀ op ∈ (opsT10 : List (HloOp τ sig (Elt F))), op.fresh = ∅ := by
  intro _ h; (repeat (cases h with | head => rfl | tail _ h => ?_)); exact nomatch h

/-- Round 11 of the hash. -/
abbrev opsT11 : List (HloOp τ sig (Elt F)) :=
  [ nullary main_call0_call0_c_22 (constantI S_ 32 26#32),
    unary main_call0_call0_c_22 main_call0_call0_v89 ((broadcastInDim S128x100000 ![] bcast_S_S128x100000) : (⟨S_, .i32⟩ : BufTy).Contents (Elt F) → (⟨S128x100000, .i32⟩ : BufTy).Contents (Elt F)),
    binary main_call0_call0_v87 main_call0_call0_v89 main_call0_call0_v90 (Host.shli : (⟨S128x100000, .i32⟩ : BufTy).Contents (Elt F) → (⟨S128x100000, .i32⟩ : BufTy).Contents (Elt F) → (⟨S128x100000, .i32⟩ : BufTy).Contents (Elt F)),
    nullary main_call0_call0_c_23 (constantI S_ 32 6#32),
    unary main_call0_call0_c_23 main_call0_call0_v91 ((broadcastInDim S128x100000 ![] bcast_S_S128x100000) : (⟨S_, .i32⟩ : BufTy).Contents (Elt F) → (⟨S128x100000, .i32⟩ : BufTy).Contents (Elt F)),
    binary main_call0_call0_v87 main_call0_call0_v91 main_call0_call0_v92 (Host.shrui : (⟨S128x100000, .i32⟩ : BufTy).Contents (Elt F) → (⟨S128x100000, .i32⟩ : BufTy).Contents (Elt F) → (⟨S128x100000, .i32⟩ : BufTy).Contents (Elt F)),
    binary main_call0_call0_v90 main_call0_call0_v92 main_call0_call0_v93 (ori : (⟨S128x100000, .i32⟩ : BufTy).Contents (Elt F) → (⟨S128x100000, .i32⟩ : BufTy).Contents (Elt F) → (⟨S128x100000, .i32⟩ : BufTy).Contents (Elt F)),
    binary main_call0_call0_v88 main_call0_call0_v93 main_call0_call0_v94 (xori : (⟨S128x100000, .i32⟩ : BufTy).Contents (Elt F) → (⟨S128x100000, .i32⟩ : BufTy).Contents (Elt F) → (⟨S128x100000, .i32⟩ : BufTy).Contents (Elt F)),
    binary main_call0_call0_v88 main_call0_call0_v94 main_call0_call0_v95 (addi : (⟨S128x100000, .i32⟩ : BufTy).Contents (Elt F) → (⟨S128x100000, .i32⟩ : BufTy).Contents (Elt F) → (⟨S128x100000, .i32⟩ : BufTy).Contents (Elt F)) ]
theorem opsT11_sub : (opsT11 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT11_fresh : ∀ op ∈ (opsT11 : List (HloOp τ sig (Elt F))), op.fresh = ∅ := by
  intro _ h; (repeat (cases h with | head => rfl | tail _ h => ?_)); exact nomatch h

/-- Round 12 of the hash. -/
abbrev opsT12 : List (HloOp τ sig (Elt F)) :=
  [ nullary main_call0_call0_c_24 (constantI S_ 32 6#32),
    unary main_call0_call0_c_24 main_call0_call0_v96 ((broadcastInDim S128x100000 ![] bcast_S_S128x100000) : (⟨S_, .i32⟩ : BufTy).Contents (Elt F) → (⟨S128x100000, .i32⟩ : BufTy).Contents (Elt F)),
    binary main_call0_call0_v94 main_call0_call0_v96 main_call0_call0_v97 (Host.shli : (⟨S128x100000, .i32⟩ : BufTy).Contents (Elt F) → (⟨S128x100000, .i32⟩ : BufTy).Contents (Elt F) → (⟨S128x100000, .i32⟩ : BufTy).Contents (Elt F)),
    nullary main_call0_call0_c_25 (constantI S_ 32 26#32),
    unary main_call0_call0_c_25 main_call0_call0_v98 ((broadcastInDim S128x100000 ![] bcast_S_S128x100000) : (⟨S_, .i32⟩ : BufTy).Contents (Elt F) → (⟨S128x100000, .i32⟩ : BufTy).Contents (Elt F)),
    binary main_call0_call0_v94 main_call0_call0_v98 main_call0_call0_v99 (Host.shrui : (⟨S128x100000, .i32⟩ : BufTy).Contents (Elt F) → (⟨S128x100000, .i32⟩ : BufTy).Contents (Elt F) → (⟨S128x100000, .i32⟩ : BufTy).Contents (Elt F)),
    binary main_call0_call0_v97 main_call0_call0_v99 main_call0_call0_v100 (ori : (⟨S128x100000, .i32⟩ : BufTy).Contents (Elt F) → (⟨S128x100000, .i32⟩ : BufTy).Contents (Elt F) → (⟨S128x100000, .i32⟩ : BufTy).Contents (Elt F)),
    binary main_call0_call0_v95 main_call0_call0_v100 main_call0_call0_v101 (xori : (⟨S128x100000, .i32⟩ : BufTy).Contents (Elt F) → (⟨S128x100000, .i32⟩ : BufTy).Contents (Elt F) → (⟨S128x100000, .i32⟩ : BufTy).Contents (Elt F)),
    unary main_call0_v5 main_call0_call0_v102 ((broadcastInDim S128x100000 ![] bcast_S_S128x100000) : (⟨S_, .i32⟩ : BufTy).Contents (Elt F) → (⟨S128x100000, .i32⟩ : BufTy).Contents (Elt F)),
    binary main_call0_call0_v95 main_call0_call0_v102 main_call0_call0_v103 (addi : (⟨S128x100000, .i32⟩ : BufTy).Contents (Elt F) → (⟨S128x100000, .i32⟩ : BufTy).Contents (Elt F) → (⟨S128x100000, .i32⟩ : BufTy).Contents (Elt F)),
    unary main_call0_v7 main_call0_call0_v104 ((broadcastInDim S128x100000 ![] bcast_S_S128x100000) : (⟨S_, .i32⟩ : BufTy).Contents (Elt F) → (⟨S128x100000, .i32⟩ : BufTy).Contents (Elt F)),
    binary main_call0_call0_v101 main_call0_call0_v104 main_call0_call0_v105 (addi : (⟨S128x100000, .i32⟩ : BufTy).Contents (Elt F) → (⟨S128x100000, .i32⟩ : BufTy).Contents (Elt F) → (⟨S128x100000, .i32⟩ : BufTy).Contents (Elt F)),
    nullary main_call0_call0_c_26 (constantI S_ 32 3#32),
    unary main_call0_call0_c_26 main_call0_call0_v106 ((broadcastInDim S128x100000 ![] bcast_S_S128x100000) : (⟨S_, .i32⟩ : BufTy).Contents (Elt F) → (⟨S128x100000, .i32⟩ : BufTy).Contents (Elt F)),
    binary main_call0_call0_v105 main_call0_call0_v106 main_call0_call0_v107 (addi : (⟨S128x100000, .i32⟩ : BufTy).Contents (Elt F) → (⟨S128x100000, .i32⟩ : BufTy).Contents (Elt F) → (⟨S128x100000, .i32⟩ : BufTy).Contents (Elt F)),
    binary main_call0_call0_v103 main_call0_call0_v107 main_call0_call0_v108 (addi : (⟨S128x100000, .i32⟩ : BufTy).Contents (Elt F) → (⟨S128x100000, .i32⟩ : BufTy).Contents (Elt F) → (⟨S128x100000, .i32⟩ : BufTy).Contents (Elt F)) ]
theorem opsT12_sub : (opsT12 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
theorem opsT12_fresh : ∀ op ∈ (opsT12 : List (HloOp τ sig (Elt F))), op.fresh = ∅ := by
  intro _ h; (repeat (cases h with | head => rfl | tail _ h => ?_)); exact nomatch h

/-- Round 13 of the hash. -/
abbrev opsT13 : List (HloOp τ sig (Elt F)) :=
  [ nullary main_call0_call0_c_27 (constantI S_ 32 17#32),
    unary main_call0_call0_c_27 main_call0_call0_v109 ((broadcastInDim S128x100000 ![] bcast_S_S128x100000) : (⟨S_, .i32⟩ : BufTy).Contents (Elt F) → (⟨S128x100000, .i32⟩ : BufTy).Contents (Elt F)),
    binary main_call0_call0_v107 main_call0_call0_v109 main_call0_call0_v110 (Host.shli : (⟨S128x100000, .i32⟩ : BufTy).Contents (Elt F) → (⟨S128x100000, .i32⟩ : BufTy).Contents (Elt F) → (⟨S128x100000, .i32⟩ : BufTy).Contents (Elt F)),
    nullary main_call0_call0_c_28 (constantI S_ 32 15#32),
    unary main_call0_call0_c_28 main_call0_call0_v111 ((broadcastInDim S128x100000 ![] bcast_S_S128x100000) : (⟨S_, .i32⟩ : BufTy).Contents (Elt F) → (⟨S128x100000, .i32⟩ : BufTy).Contents (Elt F)),
    binary main_call0_call0_v107 main_call0_call0_v111 main_call0_call0_v112 (Host.shrui : (⟨S128x100000, .i32⟩ : BufTy).Contents (Elt F) → (⟨S128x100000, .i32⟩ : BufTy).Contents (Elt F) → (⟨S128x100000, .i32⟩ : BufTy).Contents (Elt F)),
    binary main_call0_call0_v110 main_call0_call0_v112 main_call0_call0_v113 (ori : (⟨S128x100000, .i32⟩ : BufTy).Contents (Elt F) → (⟨S128x100000, .i32⟩ : BufTy).Contents (Elt F) → (⟨S128x100000, .i32⟩ : BufTy).Contents (Elt F)),
    binary main_call0_call0_v108 main_call0_call0_v113 main_call0_call0_v114 (xori : (⟨S128x100000, .i32⟩ : BufTy).Contents (Elt F) → (⟨S128x100000, .i32⟩ : BufTy).Contents (Elt F) → (⟨S128x100000, .i32⟩ : BufTy).Contents (Elt F)),
    binary main_call0_call0_v108 main_call0_call0_v114 main_call0_call0_v115 (addi : (⟨S128x100000, .i32⟩ : BufTy).Contents (Elt F) → (⟨S128x100000, .i32⟩ : BufTy).Contents (Elt F) → (⟨S128x100000, .i32⟩ : BufTy).Contents (Elt F)) ]
theorem opsT13_sub : (opsT13 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT13_fresh : ∀ op ∈ (opsT13 : List (HloOp τ sig (Elt F))), op.fresh = ∅ := by
  intro _ h; (repeat (cases h with | head => rfl | tail _ h => ?_)); exact nomatch h

/-- Round 14 of the hash. -/
abbrev opsT14 : List (HloOp τ sig (Elt F)) :=
  [ nullary main_call0_call0_c_29 (constantI S_ 32 29#32),
    unary main_call0_call0_c_29 main_call0_call0_v116 ((broadcastInDim S128x100000 ![] bcast_S_S128x100000) : (⟨S_, .i32⟩ : BufTy).Contents (Elt F) → (⟨S128x100000, .i32⟩ : BufTy).Contents (Elt F)),
    binary main_call0_call0_v114 main_call0_call0_v116 main_call0_call0_v117 (Host.shli : (⟨S128x100000, .i32⟩ : BufTy).Contents (Elt F) → (⟨S128x100000, .i32⟩ : BufTy).Contents (Elt F) → (⟨S128x100000, .i32⟩ : BufTy).Contents (Elt F)),
    nullary main_call0_call0_c_30 (constantI S_ 32 3#32),
    unary main_call0_call0_c_30 main_call0_call0_v118 ((broadcastInDim S128x100000 ![] bcast_S_S128x100000) : (⟨S_, .i32⟩ : BufTy).Contents (Elt F) → (⟨S128x100000, .i32⟩ : BufTy).Contents (Elt F)),
    binary main_call0_call0_v114 main_call0_call0_v118 main_call0_call0_v119 (Host.shrui : (⟨S128x100000, .i32⟩ : BufTy).Contents (Elt F) → (⟨S128x100000, .i32⟩ : BufTy).Contents (Elt F) → (⟨S128x100000, .i32⟩ : BufTy).Contents (Elt F)),
    binary main_call0_call0_v117 main_call0_call0_v119 main_call0_call0_v120 (ori : (⟨S128x100000, .i32⟩ : BufTy).Contents (Elt F) → (⟨S128x100000, .i32⟩ : BufTy).Contents (Elt F) → (⟨S128x100000, .i32⟩ : BufTy).Contents (Elt F)),
    binary main_call0_call0_v115 main_call0_call0_v120 main_call0_call0_v121 (xori : (⟨S128x100000, .i32⟩ : BufTy).Contents (Elt F) → (⟨S128x100000, .i32⟩ : BufTy).Contents (Elt F) → (⟨S128x100000, .i32⟩ : BufTy).Contents (Elt F)),
    binary main_call0_call0_v115 main_call0_call0_v121 main_call0_call0_v122 (addi : (⟨S128x100000, .i32⟩ : BufTy).Contents (Elt F) → (⟨S128x100000, .i32⟩ : BufTy).Contents (Elt F) → (⟨S128x100000, .i32⟩ : BufTy).Contents (Elt F)) ]
theorem opsT14_sub : (opsT14 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT14_fresh : ∀ op ∈ (opsT14 : List (HloOp τ sig (Elt F))), op.fresh = ∅ := by
  intro _ h; (repeat (cases h with | head => rfl | tail _ h => ?_)); exact nomatch h

/-- Round 15 of the hash. -/
abbrev opsT15 : List (HloOp τ sig (Elt F)) :=
  [ nullary main_call0_call0_c_31 (constantI S_ 32 16#32),
    unary main_call0_call0_c_31 main_call0_call0_v123 ((broadcastInDim S128x100000 ![] bcast_S_S128x100000) : (⟨S_, .i32⟩ : BufTy).Contents (Elt F) → (⟨S128x100000, .i32⟩ : BufTy).Contents (Elt F)),
    binary main_call0_call0_v121 main_call0_call0_v123 main_call0_call0_v124 (Host.shli : (⟨S128x100000, .i32⟩ : BufTy).Contents (Elt F) → (⟨S128x100000, .i32⟩ : BufTy).Contents (Elt F) → (⟨S128x100000, .i32⟩ : BufTy).Contents (Elt F)),
    nullary main_call0_call0_c_32 (constantI S_ 32 16#32),
    unary main_call0_call0_c_32 main_call0_call0_v125 ((broadcastInDim S128x100000 ![] bcast_S_S128x100000) : (⟨S_, .i32⟩ : BufTy).Contents (Elt F) → (⟨S128x100000, .i32⟩ : BufTy).Contents (Elt F)),
    binary main_call0_call0_v121 main_call0_call0_v125 main_call0_call0_v126 (Host.shrui : (⟨S128x100000, .i32⟩ : BufTy).Contents (Elt F) → (⟨S128x100000, .i32⟩ : BufTy).Contents (Elt F) → (⟨S128x100000, .i32⟩ : BufTy).Contents (Elt F)),
    binary main_call0_call0_v124 main_call0_call0_v126 main_call0_call0_v127 (ori : (⟨S128x100000, .i32⟩ : BufTy).Contents (Elt F) → (⟨S128x100000, .i32⟩ : BufTy).Contents (Elt F) → (⟨S128x100000, .i32⟩ : BufTy).Contents (Elt F)),
    binary main_call0_call0_v122 main_call0_call0_v127 main_call0_call0_v128 (xori : (⟨S128x100000, .i32⟩ : BufTy).Contents (Elt F) → (⟨S128x100000, .i32⟩ : BufTy).Contents (Elt F) → (⟨S128x100000, .i32⟩ : BufTy).Contents (Elt F)),
    binary main_call0_call0_v122 main_call0_call0_v128 main_call0_call0_v129 (addi : (⟨S128x100000, .i32⟩ : BufTy).Contents (Elt F) → (⟨S128x100000, .i32⟩ : BufTy).Contents (Elt F) → (⟨S128x100000, .i32⟩ : BufTy).Contents (Elt F)) ]
theorem opsT15_sub : (opsT15 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT15_fresh : ∀ op ∈ (opsT15 : List (HloOp τ sig (Elt F))), op.fresh = ∅ := by
  intro _ h; (repeat (cases h with | head => rfl | tail _ h => ?_)); exact nomatch h

/-- Round 16 of the hash. -/
abbrev opsT16 : List (HloOp τ sig (Elt F)) :=
  [ nullary main_call0_call0_c_33 (constantI S_ 32 24#32),
    unary main_call0_call0_c_33 main_call0_call0_v130 ((broadcastInDim S128x100000 ![] bcast_S_S128x100000) : (⟨S_, .i32⟩ : BufTy).Contents (Elt F) → (⟨S128x100000, .i32⟩ : BufTy).Contents (Elt F)),
    binary main_call0_call0_v128 main_call0_call0_v130 main_call0_call0_v131 (Host.shli : (⟨S128x100000, .i32⟩ : BufTy).Contents (Elt F) → (⟨S128x100000, .i32⟩ : BufTy).Contents (Elt F) → (⟨S128x100000, .i32⟩ : BufTy).Contents (Elt F)),
    nullary main_call0_call0_c_34 (constantI S_ 32 8#32),
    unary main_call0_call0_c_34 main_call0_call0_v132 ((broadcastInDim S128x100000 ![] bcast_S_S128x100000) : (⟨S_, .i32⟩ : BufTy).Contents (Elt F) → (⟨S128x100000, .i32⟩ : BufTy).Contents (Elt F)),
    binary main_call0_call0_v128 main_call0_call0_v132 main_call0_call0_v133 (Host.shrui : (⟨S128x100000, .i32⟩ : BufTy).Contents (Elt F) → (⟨S128x100000, .i32⟩ : BufTy).Contents (Elt F) → (⟨S128x100000, .i32⟩ : BufTy).Contents (Elt F)),
    binary main_call0_call0_v131 main_call0_call0_v133 main_call0_call0_v134 (ori : (⟨S128x100000, .i32⟩ : BufTy).Contents (Elt F) → (⟨S128x100000, .i32⟩ : BufTy).Contents (Elt F) → (⟨S128x100000, .i32⟩ : BufTy).Contents (Elt F)),
    binary main_call0_call0_v129 main_call0_call0_v134 main_call0_call0_v135 (xori : (⟨S128x100000, .i32⟩ : BufTy).Contents (Elt F) → (⟨S128x100000, .i32⟩ : BufTy).Contents (Elt F) → (⟨S128x100000, .i32⟩ : BufTy).Contents (Elt F)),
    unary main_call0_v7 main_call0_call0_v136 ((broadcastInDim S128x100000 ![] bcast_S_S128x100000) : (⟨S_, .i32⟩ : BufTy).Contents (Elt F) → (⟨S128x100000, .i32⟩ : BufTy).Contents (Elt F)),
    binary main_call0_call0_v129 main_call0_call0_v136 main_call0_call0_v137 (addi : (⟨S128x100000, .i32⟩ : BufTy).Contents (Elt F) → (⟨S128x100000, .i32⟩ : BufTy).Contents (Elt F) → (⟨S128x100000, .i32⟩ : BufTy).Contents (Elt F)),
    unary main_call0_call0_v1 main_call0_call0_v138 ((broadcastInDim S128x100000 ![] bcast_S_S128x100000) : (⟨S_, .i32⟩ : BufTy).Contents (Elt F) → (⟨S128x100000, .i32⟩ : BufTy).Contents (Elt F)),
    binary main_call0_call0_v135 main_call0_call0_v138 main_call0_call0_v139 (addi : (⟨S128x100000, .i32⟩ : BufTy).Contents (Elt F) → (⟨S128x100000, .i32⟩ : BufTy).Contents (Elt F) → (⟨S128x100000, .i32⟩ : BufTy).Contents (Elt F)),
    nullary main_call0_call0_c_35 (constantI S_ 32 4#32),
    unary main_call0_call0_c_35 main_call0_call0_v140 ((broadcastInDim S128x100000 ![] bcast_S_S128x100000) : (⟨S_, .i32⟩ : BufTy).Contents (Elt F) → (⟨S128x100000, .i32⟩ : BufTy).Contents (Elt F)),
    binary main_call0_call0_v139 main_call0_call0_v140 main_call0_call0_v141 (addi : (⟨S128x100000, .i32⟩ : BufTy).Contents (Elt F) → (⟨S128x100000, .i32⟩ : BufTy).Contents (Elt F) → (⟨S128x100000, .i32⟩ : BufTy).Contents (Elt F)),
    binary main_call0_call0_v137 main_call0_call0_v141 main_call0_call0_v142 (addi : (⟨S128x100000, .i32⟩ : BufTy).Contents (Elt F) → (⟨S128x100000, .i32⟩ : BufTy).Contents (Elt F) → (⟨S128x100000, .i32⟩ : BufTy).Contents (Elt F)) ]
theorem opsT16_sub : (opsT16 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
theorem opsT16_fresh : ∀ op ∈ (opsT16 : List (HloOp τ sig (Elt F))), op.fresh = ∅ := by
  intro _ h; (repeat (cases h with | head => rfl | tail _ h => ?_)); exact nomatch h

/-- Round 17 of the hash. -/
abbrev opsT17 : List (HloOp τ sig (Elt F)) :=
  [ nullary main_call0_call0_c_36 (constantI S_ 32 13#32),
    unary main_call0_call0_c_36 main_call0_call0_v143 ((broadcastInDim S128x100000 ![] bcast_S_S128x100000) : (⟨S_, .i32⟩ : BufTy).Contents (Elt F) → (⟨S128x100000, .i32⟩ : BufTy).Contents (Elt F)),
    binary main_call0_call0_v141 main_call0_call0_v143 main_call0_call0_v144 (Host.shli : (⟨S128x100000, .i32⟩ : BufTy).Contents (Elt F) → (⟨S128x100000, .i32⟩ : BufTy).Contents (Elt F) → (⟨S128x100000, .i32⟩ : BufTy).Contents (Elt F)),
    nullary main_call0_call0_c_37 (constantI S_ 32 19#32),
    unary main_call0_call0_c_37 main_call0_call0_v145 ((broadcastInDim S128x100000 ![] bcast_S_S128x100000) : (⟨S_, .i32⟩ : BufTy).Contents (Elt F) → (⟨S128x100000, .i32⟩ : BufTy).Contents (Elt F)),
    binary main_call0_call0_v141 main_call0_call0_v145 main_call0_call0_v146 (Host.shrui : (⟨S128x100000, .i32⟩ : BufTy).Contents (Elt F) → (⟨S128x100000, .i32⟩ : BufTy).Contents (Elt F) → (⟨S128x100000, .i32⟩ : BufTy).Contents (Elt F)),
    binary main_call0_call0_v144 main_call0_call0_v146 main_call0_call0_v147 (ori : (⟨S128x100000, .i32⟩ : BufTy).Contents (Elt F) → (⟨S128x100000, .i32⟩ : BufTy).Contents (Elt F) → (⟨S128x100000, .i32⟩ : BufTy).Contents (Elt F)),
    binary main_call0_call0_v142 main_call0_call0_v147 main_call0_call0_v148 (xori : (⟨S128x100000, .i32⟩ : BufTy).Contents (Elt F) → (⟨S128x100000, .i32⟩ : BufTy).Contents (Elt F) → (⟨S128x100000, .i32⟩ : BufTy).Contents (Elt F)),
    binary main_call0_call0_v142 main_call0_call0_v148 main_call0_call0_v149 (addi : (⟨S128x100000, .i32⟩ : BufTy).Contents (Elt F) → (⟨S128x100000, .i32⟩ : BufTy).Contents (Elt F) → (⟨S128x100000, .i32⟩ : BufTy).Contents (Elt F)) ]
theorem opsT17_sub : (opsT17 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT17_fresh : ∀ op ∈ (opsT17 : List (HloOp τ sig (Elt F))), op.fresh = ∅ := by
  intro _ h; (repeat (cases h with | head => rfl | tail _ h => ?_)); exact nomatch h

/-- Round 18 of the hash. -/
abbrev opsT18 : List (HloOp τ sig (Elt F)) :=
  [ nullary main_call0_call0_c_38 (constantI S_ 32 15#32),
    unary main_call0_call0_c_38 main_call0_call0_v150 ((broadcastInDim S128x100000 ![] bcast_S_S128x100000) : (⟨S_, .i32⟩ : BufTy).Contents (Elt F) → (⟨S128x100000, .i32⟩ : BufTy).Contents (Elt F)),
    binary main_call0_call0_v148 main_call0_call0_v150 main_call0_call0_v151 (Host.shli : (⟨S128x100000, .i32⟩ : BufTy).Contents (Elt F) → (⟨S128x100000, .i32⟩ : BufTy).Contents (Elt F) → (⟨S128x100000, .i32⟩ : BufTy).Contents (Elt F)),
    nullary main_call0_call0_c_39 (constantI S_ 32 17#32),
    unary main_call0_call0_c_39 main_call0_call0_v152 ((broadcastInDim S128x100000 ![] bcast_S_S128x100000) : (⟨S_, .i32⟩ : BufTy).Contents (Elt F) → (⟨S128x100000, .i32⟩ : BufTy).Contents (Elt F)),
    binary main_call0_call0_v148 main_call0_call0_v152 main_call0_call0_v153 (Host.shrui : (⟨S128x100000, .i32⟩ : BufTy).Contents (Elt F) → (⟨S128x100000, .i32⟩ : BufTy).Contents (Elt F) → (⟨S128x100000, .i32⟩ : BufTy).Contents (Elt F)),
    binary main_call0_call0_v151 main_call0_call0_v153 main_call0_call0_v154 (ori : (⟨S128x100000, .i32⟩ : BufTy).Contents (Elt F) → (⟨S128x100000, .i32⟩ : BufTy).Contents (Elt F) → (⟨S128x100000, .i32⟩ : BufTy).Contents (Elt F)),
    binary main_call0_call0_v149 main_call0_call0_v154 main_call0_call0_v155 (xori : (⟨S128x100000, .i32⟩ : BufTy).Contents (Elt F) → (⟨S128x100000, .i32⟩ : BufTy).Contents (Elt F) → (⟨S128x100000, .i32⟩ : BufTy).Contents (Elt F)),
    binary main_call0_call0_v149 main_call0_call0_v155 main_call0_call0_v156 (addi : (⟨S128x100000, .i32⟩ : BufTy).Contents (Elt F) → (⟨S128x100000, .i32⟩ : BufTy).Contents (Elt F) → (⟨S128x100000, .i32⟩ : BufTy).Contents (Elt F)) ]
theorem opsT18_sub : (opsT18 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT18_fresh : ∀ op ∈ (opsT18 : List (HloOp τ sig (Elt F))), op.fresh = ∅ := by
  intro _ h; (repeat (cases h with | head => rfl | tail _ h => ?_)); exact nomatch h

/-- Round 19 of the hash. -/
abbrev opsT19 : List (HloOp τ sig (Elt F)) :=
  [ nullary main_call0_call0_c_40 (constantI S_ 32 26#32),
    unary main_call0_call0_c_40 main_call0_call0_v157 ((broadcastInDim S128x100000 ![] bcast_S_S128x100000) : (⟨S_, .i32⟩ : BufTy).Contents (Elt F) → (⟨S128x100000, .i32⟩ : BufTy).Contents (Elt F)),
    binary main_call0_call0_v155 main_call0_call0_v157 main_call0_call0_v158 (Host.shli : (⟨S128x100000, .i32⟩ : BufTy).Contents (Elt F) → (⟨S128x100000, .i32⟩ : BufTy).Contents (Elt F) → (⟨S128x100000, .i32⟩ : BufTy).Contents (Elt F)),
    nullary main_call0_call0_c_41 (constantI S_ 32 6#32),
    unary main_call0_call0_c_41 main_call0_call0_v159 ((broadcastInDim S128x100000 ![] bcast_S_S128x100000) : (⟨S_, .i32⟩ : BufTy).Contents (Elt F) → (⟨S128x100000, .i32⟩ : BufTy).Contents (Elt F)),
    binary main_call0_call0_v155 main_call0_call0_v159 main_call0_call0_v160 (Host.shrui : (⟨S128x100000, .i32⟩ : BufTy).Contents (Elt F) → (⟨S128x100000, .i32⟩ : BufTy).Contents (Elt F) → (⟨S128x100000, .i32⟩ : BufTy).Contents (Elt F)),
    binary main_call0_call0_v158 main_call0_call0_v160 main_call0_call0_v161 (ori : (⟨S128x100000, .i32⟩ : BufTy).Contents (Elt F) → (⟨S128x100000, .i32⟩ : BufTy).Contents (Elt F) → (⟨S128x100000, .i32⟩ : BufTy).Contents (Elt F)),
    binary main_call0_call0_v156 main_call0_call0_v161 main_call0_call0_v162 (xori : (⟨S128x100000, .i32⟩ : BufTy).Contents (Elt F) → (⟨S128x100000, .i32⟩ : BufTy).Contents (Elt F) → (⟨S128x100000, .i32⟩ : BufTy).Contents (Elt F)),
    binary main_call0_call0_v156 main_call0_call0_v162 main_call0_call0_v163 (addi : (⟨S128x100000, .i32⟩ : BufTy).Contents (Elt F) → (⟨S128x100000, .i32⟩ : BufTy).Contents (Elt F) → (⟨S128x100000, .i32⟩ : BufTy).Contents (Elt F)) ]
theorem opsT19_sub : (opsT19 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩
theorem opsT19_fresh : ∀ op ∈ (opsT19 : List (HloOp τ sig (Elt F))), op.fresh = ∅ := by
  intro _ h; (repeat (cases h with | head => rfl | tail _ h => ?_)); exact nomatch h

/-- Round 20 of the hash. -/
abbrev opsT20 : List (HloOp τ sig (Elt F)) :=
  [ nullary main_call0_call0_c_42 (constantI S_ 32 6#32),
    unary main_call0_call0_c_42 main_call0_call0_v164 ((broadcastInDim S128x100000 ![] bcast_S_S128x100000) : (⟨S_, .i32⟩ : BufTy).Contents (Elt F) → (⟨S128x100000, .i32⟩ : BufTy).Contents (Elt F)),
    binary main_call0_call0_v162 main_call0_call0_v164 main_call0_call0_v165 (Host.shli : (⟨S128x100000, .i32⟩ : BufTy).Contents (Elt F) → (⟨S128x100000, .i32⟩ : BufTy).Contents (Elt F) → (⟨S128x100000, .i32⟩ : BufTy).Contents (Elt F)),
    nullary main_call0_call0_c_43 (constantI S_ 32 26#32),
    unary main_call0_call0_c_43 main_call0_call0_v166 ((broadcastInDim S128x100000 ![] bcast_S_S128x100000) : (⟨S_, .i32⟩ : BufTy).Contents (Elt F) → (⟨S128x100000, .i32⟩ : BufTy).Contents (Elt F)),
    binary main_call0_call0_v162 main_call0_call0_v166 main_call0_call0_v167 (Host.shrui : (⟨S128x100000, .i32⟩ : BufTy).Contents (Elt F) → (⟨S128x100000, .i32⟩ : BufTy).Contents (Elt F) → (⟨S128x100000, .i32⟩ : BufTy).Contents (Elt F)),
    binary main_call0_call0_v165 main_call0_call0_v167 main_call0_call0_v168 (ori : (⟨S128x100000, .i32⟩ : BufTy).Contents (Elt F) → (⟨S128x100000, .i32⟩ : BufTy).Contents (Elt F) → (⟨S128x100000, .i32⟩ : BufTy).Contents (Elt F)),
    binary main_call0_call0_v163 main_call0_call0_v168 main_call0_call0_v169 (xori : (⟨S128x100000, .i32⟩ : BufTy).Contents (Elt F) → (⟨S128x100000, .i32⟩ : BufTy).Contents (Elt F) → (⟨S128x100000, .i32⟩ : BufTy).Contents (Elt F)),
    unary main_call0_call0_v1 main_call0_call0_v170 ((broadcastInDim S128x100000 ![] bcast_S_S128x100000) : (⟨S_, .i32⟩ : BufTy).Contents (Elt F) → (⟨S128x100000, .i32⟩ : BufTy).Contents (Elt F)),
    binary main_call0_call0_v163 main_call0_call0_v170 main_call0_v19_0 (addi : (⟨S128x100000, .i32⟩ : BufTy).Contents (Elt F) → (⟨S128x100000, .i32⟩ : BufTy).Contents (Elt F) → (⟨S128x100000, .i32⟩ : BufTy).Contents (Elt F)),
    unary main_call0_v5 main_call0_call0_v172 ((broadcastInDim S128x100000 ![] bcast_S_S128x100000) : (⟨S_, .i32⟩ : BufTy).Contents (Elt F) → (⟨S128x100000, .i32⟩ : BufTy).Contents (Elt F)),
    binary main_call0_call0_v169 main_call0_call0_v172 main_call0_call0_v173 (addi : (⟨S128x100000, .i32⟩ : BufTy).Contents (Elt F) → (⟨S128x100000, .i32⟩ : BufTy).Contents (Elt F) → (⟨S128x100000, .i32⟩ : BufTy).Contents (Elt F)),
    nullary main_call0_call0_c_44 (constantI S_ 32 5#32),
    unary main_call0_call0_c_44 main_call0_call0_v174 ((broadcastInDim S128x100000 ![] bcast_S_S128x100000) : (⟨S_, .i32⟩ : BufTy).Contents (Elt F) → (⟨S128x100000, .i32⟩ : BufTy).Contents (Elt F)),
    binary main_call0_call0_v173 main_call0_call0_v174 main_call0_v19_1 (addi : (⟨S128x100000, .i32⟩ : BufTy).Contents (Elt F) → (⟨S128x100000, .i32⟩ : BufTy).Contents (Elt F) → (⟨S128x100000, .i32⟩ : BufTy).Contents (Elt F)) ]
theorem opsT20_sub : (opsT20 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩
theorem opsT20_fresh : ∀ op ∈ (opsT20 : List (HloOp τ sig (Elt F))), op.fresh = ∅ := by
  intro _ h; (repeat (cases h with | head => rfl | tail _ h => ?_)); exact nomatch h

/-- The words made numbers. -/
abbrev opsU2 : List (HloOp τ sig (Elt F)) :=
  [ binary main_call0_v19_0 main_call0_v19_1 main_call0_v20 (xori : (⟨S128x100000, .i32⟩ : BufTy).Contents (Elt F) → (⟨S128x100000, .i32⟩ : BufTy).Contents (Elt F) → (⟨S128x100000, .i32⟩ : BufTy).Contents (Elt F)),
    nullary main_call0_c_2 (constantI S_ 32 9#32),
    unary main_call0_c_2 main_call0_v21 ((broadcastInDim S128x100000 ![] bcast_S_S128x100000) : (⟨S_, .i32⟩ : BufTy).Contents (Elt F) → (⟨S128x100000, .i32⟩ : BufTy).Contents (Elt F)),
    binary main_call0_v20 main_call0_v21 main_call0_v22 (Host.shrui : (⟨S128x100000, .i32⟩ : BufTy).Contents (Elt F) → (⟨S128x100000, .i32⟩ : BufTy).Contents (Elt F) → (⟨S128x100000, .i32⟩ : BufTy).Contents (Elt F)),
    nullary main_call0_c_3 (constantI S_ 32 1065353216#32),
    unary main_call0_c_3 main_call0_v23 ((broadcastInDim S128x100000 ![] bcast_S_S128x100000) : (⟨S_, .i32⟩ : BufTy).Contents (Elt F) → (⟨S128x100000, .i32⟩ : BufTy).Contents (Elt F)),
    binary main_call0_v22 main_call0_v23 main_call0_v24 (ori : (⟨S128x100000, .i32⟩ : BufTy).Contents (Elt F) → (⟨S128x100000, .i32⟩ : BufTy).Contents (Elt F) → (⟨S128x100000, .i32⟩ : BufTy).Contents (Elt F)),
    unary main_call0_v24 main_call0_v25 ((bitcastToFloat .f32) : (⟨S128x100000, .i32⟩ : BufTy).Contents (Elt F) → (⟨S128x100000, .f32⟩ : BufTy).Contents (Elt F)),
    nullary main_call0_cst (constant S_ .f32 0x3F800000#32),
    unary main_call0_cst main_call0_v26 ((broadcastInDim S128x100000 ![] bcast_S_S128x100000) : (⟨S_, .f32⟩ : BufTy).Contents (Elt F) → (⟨S128x100000, .f32⟩ : BufTy).Contents (Elt F)),
    binary main_call0_v25 main_call0_v26 main_call0_v27 (subf : (⟨S128x100000, .f32⟩ : BufTy).Contents (Elt F) → (⟨S128x100000, .f32⟩ : BufTy).Contents (Elt F) → (⟨S128x100000, .f32⟩ : BufTy).Contents (Elt F)),
    binary main_call0_v3 main_call0_v2 main_call0_v28 (subf : (⟨S1x1, .f32⟩ : BufTy).Contents (Elt F) → (⟨S1x1, .f32⟩ : BufTy).Contents (Elt F) → (⟨S1x1, .f32⟩ : BufTy).Contents (Elt F)),
    unary main_call0_v28 main_call0_v29 ((broadcastInDim S128x100000 ![0, 1] bcast_S1x1_S128x100000_0_1) : (⟨S1x1, .f32⟩ : BufTy).Contents (Elt F) → (⟨S128x100000, .f32⟩ : BufTy).Contents (Elt F)),
    binary main_call0_v27 main_call0_v29 main_call0_v30 (mulf : (⟨S128x100000, .f32⟩ : BufTy).Contents (Elt F) → (⟨S128x100000, .f32⟩ : BufTy).Contents (Elt F) → (⟨S128x100000, .f32⟩ : BufTy).Contents (Elt F)),
    unary main_call0_v2 main_call0_v31 ((broadcastInDim S128x100000 ![0, 1] bcast_S1x1_S128x100000_0_1) : (⟨S1x1, .f32⟩ : BufTy).Contents (Elt F) → (⟨S128x100000, .f32⟩ : BufTy).Contents (Elt F)),
    binary main_call0_v30 main_call0_v31 main_call0_v32 (addf : (⟨S128x100000, .f32⟩ : BufTy).Contents (Elt F) → (⟨S128x100000, .f32⟩ : BufTy).Contents (Elt F) → (⟨S128x100000, .f32⟩ : BufTy).Contents (Elt F)),
    unary main_call0_v2 main_call0_v33 ((broadcastInDim S128x100000 ![0, 1] bcast_S1x1_S128x100000_0_1) : (⟨S1x1, .f32⟩ : BufTy).Contents (Elt F) → (⟨S128x100000, .f32⟩ : BufTy).Contents (Elt F)),
    binary main_call0_v33 main_call0_v32 main_v22 (maximumf : (⟨S128x100000, .f32⟩ : BufTy).Contents (Elt F) → (⟨S128x100000, .f32⟩ : BufTy).Contents (Elt F) → (⟨S128x100000, .f32⟩ : BufTy).Contents (Elt F)) ]
theorem opsU2_sub : (opsU2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub ..⟩
theorem opsU2_fresh : ∀ op ∈ (opsU2 : List (HloOp τ sig (Elt F))), op.fresh = ∅ := by
  intro _ h; (repeat (cases h with | head => rfl | tail _ h => ?_)); exact nomatch h

/-- The scores. -/
abbrev opsM2 : List (HloOp τ sig (Elt F)) :=
  [ nullary main_cst_6 (constant S_ .f32 0x00800000#32),
    unary main_cst_6 main_v23 (broadcastInDim S128x100000 ![] bcast_S_S128x100000 : (⟨S_, .f32⟩ : BufTy).Contents (Elt F) → (⟨S128x100000, .f32⟩ : BufTy).Contents (Elt F)),
    binary main_v22 main_v23 main_v24 (maximumf : (⟨S128x100000, .f32⟩ : BufTy).Contents (Elt F) → (⟨S128x100000, .f32⟩ : BufTy).Contents (Elt F) → (⟨S128x100000, .f32⟩ : BufTy).Contents (Elt F)),
    unary main_v24 main_v25 (Host.log : (⟨S128x100000, .f32⟩ : BufTy).Contents (Elt F) → (⟨S128x100000, .f32⟩ : BufTy).Contents (Elt F)),
    unary main_v25 main_v26 (Host.negf : (⟨S128x100000, .f32⟩ : BufTy).Contents (Elt F) → (⟨S128x100000, .f32⟩ : BufTy).Contents (Elt F)),
    unary main_v26 main_v27 (Host.log : (⟨S128x100000, .f32⟩ : BufTy).Contents (Elt F) → (⟨S128x100000, .f32⟩ : BufTy).Contents (Elt F)),
    unary main_v27 main_v28 (Host.negf : (⟨S128x100000, .f32⟩ : BufTy).Contents (Elt F) → (⟨S128x100000, .f32⟩ : BufTy).Contents (Elt F)),
    nullary main_cst_7 (constant S_ .f32 0x322BCC77#32),
    unary main_cst_7 main_v29 (broadcastInDim S128x100000 ![] bcast_S_S128x100000 : (⟨S_, .f32⟩ : BufTy).Contents (Elt F) → (⟨S128x100000, .f32⟩ : BufTy).Contents (Elt F)),
    binary main_v14 main_v29 main_v30 (addf : (⟨S128x100000, .f32⟩ : BufTy).Contents (Elt F) → (⟨S128x100000, .f32⟩ : BufTy).Contents (Elt F) → (⟨S128x100000, .f32⟩ : BufTy).Contents (Elt F)),
    unary main_v30 main_v31 (Host.log : (⟨S128x100000, .f32⟩ : BufTy).Contents (Elt F) → (⟨S128x100000, .f32⟩ : BufTy).Contents (Elt F)),
    binary main_v31 main_v28 main_v32 (addf : (⟨S128x100000, .f32⟩ : BufTy).Contents (Elt F) → (⟨S128x100000, .f32⟩ : BufTy).Contents (Elt F) → (⟨S128x100000, .f32⟩ : BufTy).Contents (Elt F)) ]
theorem opsM2_sub : (opsM2 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., nullary_bufs_sub .., unary_bufs_sub .., binary_bufs_sub .., unary_bufs_sub .., binary_bufs_sub ..⟩
theorem opsM2_fresh : ∀ op ∈ (opsM2 : List (HloOp τ sig (Elt F))), op.fresh = ∅ := by
  intro _ h; (repeat (cases h with | head => rfl | tail _ h => ?_)); exact nomatch h

/-- The best index. -/
abbrev opsA : List (HloOp τ sig (Elt F)) :=
  [ nullary main_call1_v0 (iotaInDim S128x100000 32 1),
    nullary main_call1_cst (constant S_ .f32 0xFF800000#32),
    nullary main_call1_c (constantI S_ 32 0#32),
    quaternary main_v32 main_call1_v0 main_call1_cst main_call1_c main_call1_v1_0 ((fun x y u v j => (Host.argReduce reducer_argmax_f32_i32 x y u v reducesTo_S128x100000_S128_d1 h_S_ j).1) : (⟨S128x100000, .f32⟩ : BufTy).Contents (Elt F) → (⟨S128x100000, .i32⟩ : BufTy).Contents (Elt F) → (⟨S_, .f32⟩ : BufTy).Contents (Elt F) → (⟨S_, .i32⟩ : BufTy).Contents (Elt F) → (⟨S128, .f32⟩ : BufTy).Contents (Elt F)),
    quaternary main_v32 main_call1_v0 main_call1_cst main_call1_c main_v33 ((fun x y u v j => (Host.argReduce reducer_argmax_f32_i32 x y u v reducesTo_S128x100000_S128_d1 h_S_ j).2) : (⟨S128x100000, .f32⟩ : BufTy).Contents (Elt F) → (⟨S128x100000, .i32⟩ : BufTy).Contents (Elt F) → (⟨S_, .f32⟩ : BufTy).Contents (Elt F) → (⟨S_, .i32⟩ : BufTy).Contents (Elt F) → (⟨S128, .i32⟩ : BufTy).Contents (Elt F)) ]
theorem opsA_sub : (opsA : List (HloOp τ sig (Elt F))).Forall fun op => op.bufs ⊆ tcRefs τ sig :=
  ⟨nullary_bufs_sub .., nullary_bufs_sub .., nullary_bufs_sub .., quaternary_bufs_sub .., quaternary_bufs_sub ..⟩
theorem opsA_fresh : ∀ op ∈ (opsA : List (HloOp τ sig (Elt F))), op.fresh = ∅ := by
  intro _ h; (repeat (cases h with | head => rfl | tail _ h => ?_)); exact nomatch h

/-- The last result. -/
abbrev opsM3 : List (HloOp τ sig (Elt F)) :=
  [ unary main_v33 main_v34 (broadcastInDim S128x1 ![0] bcast_S128_S128x1_0 : (⟨S128, .i32⟩ : BufTy).Contents (Elt F) → (⟨S128x1, .i32⟩ : BufTy).Contents (Elt F)) ]
theorem opsM3_sub : (opsM3 : List (HloOp τ sig (Elt F))).Forall fun op => op.bufs ⊆ tcRefs τ sig :=
  unary_bufs_sub ..
theorem opsM3_fresh : ∀ op ∈ (opsM3 : List (HloOp τ sig (Elt F))), op.fresh = ∅ := by
  intro _ h; (repeat (cases h with | head => rfl | tail _ h => ?_)); exact nomatch h

/-- All of them. -/
abbrev ops : List (HloOp τ sig (Elt F)) :=
  opsM1 ++ (opsU1 ++ (opsT0 ++ (opsT1 ++ (opsT2 ++ (opsT3 ++ (opsT4 ++ (opsT5 ++ (opsT6 ++ (opsT7 ++ (opsT8 ++ (opsT9 ++ (opsT10 ++ (opsT11 ++ (opsT12 ++ (opsT13 ++ (opsT14 ++ (opsT15 ++ (opsT16 ++ (opsT17 ++ (opsT18 ++ (opsT19 ++ (opsT20 ++ (opsU2 ++ (opsM2 ++ (opsA ++ (opsM3))))))))))))))))))))))))))

theorem forall_cat {α : Type*} {p : α → Prop} {a b : List α} (ha : a.Forall p) (hb : b.Forall p) : (a ++ b).Forall p :=
  List.forall_iff_forall_mem.mpr fun x hx => (List.mem_append.mp hx).elim (List.forall_iff_forall_mem.mp ha x) (List.forall_iff_forall_mem.mp hb x)

theorem mem_cat {α : Type*} {p : α → Prop} {a b : List α} (ha : ∀ x ∈ a, p x) (hb : ∀ x ∈ b, p x) : ∀ x ∈ a ++ b, p x :=
  fun x hx => (List.mem_append.mp hx).elim (ha x) (hb x)

theorem ops_sub : (ops : List (HloOp τ sig (Elt F))).Forall fun op => op.bufs ⊆ tcRefs τ sig :=
  forall_cat opsM1_sub (forall_cat opsU1_sub (forall_cat opsT0_sub (forall_cat opsT1_sub (forall_cat opsT2_sub (forall_cat opsT3_sub (forall_cat opsT4_sub (forall_cat opsT5_sub (forall_cat opsT6_sub (forall_cat opsT7_sub (forall_cat opsT8_sub (forall_cat opsT9_sub (forall_cat opsT10_sub (forall_cat opsT11_sub (forall_cat opsT12_sub (forall_cat opsT13_sub (forall_cat opsT14_sub (forall_cat opsT15_sub (forall_cat opsT16_sub (forall_cat opsT17_sub (forall_cat opsT18_sub (forall_cat opsT19_sub (forall_cat opsT20_sub (forall_cat opsU2_sub (forall_cat opsM2_sub (forall_cat opsA_sub opsM3_sub)))))))))))))))))))))))))

theorem ops_fresh : ∀ op ∈ (ops : List (HloOp τ sig (Elt F))), op.fresh = ∅ :=
  mem_cat opsM1_fresh (mem_cat opsU1_fresh (mem_cat opsT0_fresh (mem_cat opsT1_fresh (mem_cat opsT2_fresh (mem_cat opsT3_fresh (mem_cat opsT4_fresh (mem_cat opsT5_fresh (mem_cat opsT6_fresh (mem_cat opsT7_fresh (mem_cat opsT8_fresh (mem_cat opsT9_fresh (mem_cat opsT10_fresh (mem_cat opsT11_fresh (mem_cat opsT12_fresh (mem_cat opsT13_fresh (mem_cat opsT14_fresh (mem_cat opsT15_fresh (mem_cat opsT16_fresh (mem_cat opsT17_fresh (mem_cat opsT18_fresh (mem_cat opsT19_fresh (mem_cat opsT20_fresh (mem_cat opsU2_fresh (mem_cat opsM2_fresh (mem_cat opsA_fresh opsM3_fresh)))))))))))))))))))))))))

theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
theorem main_eq (c : Dev nD) : main (F := F) c = seq ops := rfl

/-- The reference's run: every buffer ends at what the operations leave in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefHash.lean ====
/-
  The hash in the reference: round by round, what its operations leave in the two words.
-/
module

public import proofs.«01_k».proof.Proof.RefOps
public import proofs.«01_k».proof.Proof.Hash

@[expose] public section

set_option maxRecDepth 16384

noncomputable section

namespace Cert.ReferenceIdeal.Hand

open Cert.ReferenceIdeal Cert.ReferenceIdeal.Gen Cert.Hand
open Idealize.ShloMosaic Idealize.ShloMosaic.TcCoe Idealize.SL.Sem Idealize.ShloMosaic.StableHlo

/-- The words of the two buffers are the given pair at every index, and the keys are what they are. -/
structure Words (V : Valuation τ sig (Elt Ideal)) (x0 x1 : IVec S128x100000 32) (p : S128x100000.Idx → BitVec 32 × BitVec 32) : Prop where
  fst : ∀ y, x0 y = (p y).1
  snd : ∀ y, x1 y = (p y).2
  k0 : (V (Proc.devRef .tc main_call0_v5) : IVec S_ 32) = fun _ => 0#32
  k1 : (V (Proc.devRef .tc main_call0_v7) : IVec S_ 32) = fun _ => 42#32
  k2 : (V (Proc.devRef .tc main_call0_call0_v1) : IVec S_ 32) = fun _ => 466689008#32

theorem words0 (V : Valuation τ sig (Elt Ideal)) (n : S128x100000.Idx → BitVec 32)
    (h0 : ∀ y, (V (Proc.devRef .tc main_call0_v18) : IVec S128x100000 32) y = 0#32)
    (h1 : ∀ y, (V (Proc.devRef .tc main_call0_v17) : IVec S128x100000 32) y = n y)
    (k0 : (V (Proc.devRef .tc main_call0_v5) : IVec S_ 32) = fun _ => 0#32)
    (k1 : (V (Proc.devRef .tc main_call0_v7) : IVec S_ 32) = fun _ => 42#32) :
    Words (after opsT0 V) (after opsT0 V (Proc.devRef .tc main_call0_call0_v6)) (after opsT0 V (Proc.devRef .tc main_call0_call0_v5)) fun y => mix0 (n y) where
  fst y := by
    unfold mix0
    rw [← h1 y]
    after_reads_simp
    show IntOp.addi (IntOp.addi ((V (Proc.devRef .tc main_call0_v18) : IVec S128x100000 32) y) _) _ = _
    rw [h0 y]
    simp only [k0, k1]
    rfl
  snd y := by
    unfold mix0
    rw [← h1 y]
    after_reads_simp
    simp only [k0, k1]
    rfl
  k0 := by after_reads_simp; exact k0
  k1 := by after_reads_simp; exact k1
  k2 := by
    after_reads_simp; simp only [k0, k1]
    funext _
    show (0#32 ^^^ 42#32) ^^^ 466688986#32 = 466689008#32
    decide

theorem words1 (V : Valuation τ sig (Elt Ideal)) (n : S128x100000.Idx → BitVec 32)
    (h : Words V (V (Proc.devRef .tc main_call0_call0_v6)) (V (Proc.devRef .tc main_call0_call0_v5)) fun y => mix0 (n y)) :
    Words (after opsT1 V) (after opsT1 V (Proc.devRef .tc main_call0_call0_v13)) (after opsT1 V (Proc.devRef .tc main_call0_call0_v12)) fun y => mix1 (n y) where
  fst y := by
    unfold mix1
    rw [show mix0 (n y) = (V (Proc.devRef .tc main_call0_call0_v6) y, V (Proc.devRef .tc main_call0_call0_v5) y) from Prod.ext (h.fst y).symm (h.snd y).symm]
    after_reads_simp
    rfl
  snd y := by
    unfold mix1
    rw [show mix0 (n y) = (V (Proc.devRef .tc main_call0_call0_v6) y, V (Proc.devRef .tc main_call0_call0_v5) y) from Prod.ext (h.fst y).symm (h.snd y).symm]
    after_reads_simp
    rfl
  k0 := by after_reads_simp; exact h.k0
  k1 := by after_reads_simp; exact h.k1
  k2 := by after_reads_simp; exact h.k2

theorem words2 (V : Valuation τ sig (Elt Ideal)) (n : S128x100000.Idx → BitVec 32)
    (h : Words V (V (Proc.devRef .tc main_call0_call0_v13)) (V (Proc.devRef .tc main_call0_call0_v12)) fun y => mix1 (n y)) :
    Words (after opsT2 V) (after opsT2 V (Proc.devRef .tc main_call0_call0_v20)) (after opsT2 V (Proc.devRef .tc main_call0_call0_v19)) fun y => mix2 (n y) where
  fst y := by
    unfold mix2
    rw [show mix1 (n y) = (V (Proc.devRef .tc main_call0_call0_v13) y, V (Proc.devRef .tc main_call0_call0_v12) y) from Prod.ext (h.fst y).symm (h.snd y).symm]
    after_reads_simp
    rfl
  snd y := by
    unfold mix2
    rw [show mix1 (n y) = (V (Proc.devRef .tc main_call0_call0_v13) y, V (Proc.devRef .tc main_call0_call0_v12) y) from Prod.ext (h.fst y).symm (h.snd y).symm]
    after_reads_simp
    rfl
  k0 := by after_reads_simp; exact h.k0
  k1 := by after_reads_simp; exact h.k1
  k2 := by after_reads_simp; exact h.k2

theorem words3 (V : Valuation τ sig (Elt Ideal)) (n : S128x100000.Idx → BitVec 32)
    (h : Words V (V (Proc.devRef .tc main_call0_call0_v20)) (V (Proc.devRef .tc main_call0_call0_v19)) fun y => mix2 (n y)) :
    Words (after opsT3 V) (after opsT3 V (Proc.devRef .tc main_call0_call0_v27)) (after opsT3 V (Proc.devRef .tc main_call0_call0_v26)) fun y => mix3 (n y) where
  fst y := by
    unfold mix3
    rw [show mix2 (n y) = (V (Proc.devRef .tc main_call0_call0_v20) y, V (Proc.devRef .tc main_call0_call0_v19) y) from Prod.ext (h.fst y).symm (h.snd y).symm]
    after_reads_simp
    rfl
  snd y := by
    unfold mix3
    rw [show mix2 (n y) = (V (Proc.devRef .tc main_call0_call0_v20) y, V (Proc.devRef .tc main_call0_call0_v19) y) from Prod.ext (h.fst y).symm (h.snd y).symm]
    after_reads_simp
    rfl
  k0 := by after_reads_simp; exact h.k0
  k1 := by after_reads_simp; exact h.k1
  k2 := by after_reads_simp; exact h.k2

theorem words4 (V : Valuation τ sig (Elt Ideal)) (n : S128x100000.Idx → BitVec 32)
    (h : Words V (V (Proc.devRef .tc main_call0_call0_v27)) (V (Proc.devRef .tc main_call0_call0_v26)) fun y => mix3 (n y)) :
    Words (after opsT4 V) (after opsT4 V (Proc.devRef .tc main_call0_call0_v40)) (after opsT4 V (Proc.devRef .tc main_call0_call0_v39)) fun y => mix4 (n y) where
  fst y := by
    unfold mix4
    rw [show mix3 (n y) = (V (Proc.devRef .tc main_call0_call0_v27) y, V (Proc.devRef .tc main_call0_call0_v26) y) from Prod.ext (h.fst y).symm (h.snd y).symm]
    after_reads_simp
    simp only [h.k0, h.k1, h.k2]
    rfl
  snd y := by
    unfold mix4
    rw [show mix3 (n y) = (V (Proc.devRef .tc main_call0_call0_v27) y, V (Proc.devRef .tc main_call0_call0_v26) y) from Prod.ext (h.fst y).symm (h.snd y).symm]
    after_reads_simp
    simp only [h.k0, h.k1, h.k2]
    rfl
  k0 := by after_reads_simp; exact h.k0
  k1 := by after_reads_simp; exact h.k1
  k2 := by after_reads_simp; exact h.k2

theorem words5 (V : Valuation τ sig (Elt Ideal)) (n : S128x100000.Idx → BitVec 32)
    (h : Words V (V (Proc.devRef .tc main_call0_call0_v40)) (V (Proc.devRef .tc main_call0_call0_v39)) fun y => mix4 (n y)) :
    Words (after opsT5 V) (after opsT5 V (Proc.devRef .tc main_call0_call0_v47)) (after opsT5 V (Proc.devRef .tc main_call0_call0_v46)) fun y => mix5 (n y) where
  fst y := by
    unfold mix5
    rw [show mix4 (n y) = (V (Proc.devRef .tc main_call0_call0_v40) y, V (Proc.devRef .tc main_call0_call0_v39) y) from Prod.ext (h.fst y).symm (h.snd y).symm]
    after_reads_simp
    rfl
  snd y := by
    unfold mix5
    rw [show mix4 (n y) = (V (Proc.devRef .tc main_call0_call0_v40) y, V (Proc.devRef .tc main_call0_call0_v39) y) from Prod.ext (h.fst y).symm (h.snd y).symm]
    after_reads_simp
    rfl
  k0 := by after_reads_simp; exact h.k0
  k1 := by after_reads_simp; exact h.k1
  k2 := by after_reads_simp; exact h.k2

theorem words6 (V : Valuation τ sig (Elt Ideal)) (n : S128x100000.Idx → BitVec 32)
    (h : Words V (V (Proc.devRef .tc main_call0_call0_v47)) (V (Proc.devRef .tc main_call0_call0_v46)) fun y => mix5 (n y)) :
    Words (after opsT6 V) (after opsT6 V (Proc.devRef .tc main_call0_call0_v54)) (after opsT6 V (Proc.devRef .tc main_call0_call0_v53)) fun y => mix6 (n y) where
  fst y := by
    unfold mix6
    rw [show mix5 (n y) = (V (Proc.devRef .tc main_call0_call0_v47) y, V (Proc.devRef .tc main_call0_call0_v46) y) from Prod.ext (h.fst y).symm (h.snd y).symm]
    after_reads_simp
    rfl
  snd y := by
    unfold mix6
    rw [show mix5 (n y) = (V (Proc.devRef .tc main_call0_call0_v47) y, V (Proc.devRef .tc main_call0_call0_v46) y) from Prod.ext (h.fst y).symm (h.snd y).symm]
    after_reads_simp
    rfl
  k0 := by after_reads_simp; exact h.k0
  k1 := by after_reads_simp; exact h.k1
  k2 := by after_reads_simp; exact h.k2

theorem words7 (V : Valuation τ sig (Elt Ideal)) (n : S128x100000.Idx → BitVec 32)
    (h : Words V (V (Proc.devRef .tc main_call0_call0_v54)) (V (Proc.devRef .tc main_call0_call0_v53)) fun y => mix6 (n y)) :
    Words (after opsT7 V) (after opsT7 V (Proc.devRef .tc main_call0_call0_v61)) (after opsT7 V (Proc.devRef .tc main_call0_call0_v60)) fun y => mix7 (n y) where
  fst y := by
    unfold mix7
    rw [show mix6 (n y) = (V (Proc.devRef .tc main_call0_call0_v54) y, V (Proc.devRef .tc main_call0_call0_v53) y) from Prod.ext (h.fst y).symm (h.snd y).symm]
    after_reads_simp
    rfl
  snd y := by
    unfold mix7
    rw [show mix6 (n y) = (V (Proc.devRef .tc main_call0_call0_v54) y, V (Proc.devRef .tc main_call0_call0_v53) y) from Prod.ext (h.fst y).symm (h.snd y).symm]
    after_reads_simp
    rfl
  k0 := by after_reads_simp; exact h.k0
  k1 := by after_reads_simp; exact h.k1
  k2 := by after_reads_simp; exact h.k2

theorem words8 (V : Valuation τ sig (Elt Ideal)) (n : S128x100000.Idx → BitVec 32)
    (h : Words V (V (Proc.devRef .tc main_call0_call0_v61)) (V (Proc.devRef .tc main_call0_call0_v60)) fun y => mix7 (n y)) :
    Words (after opsT8 V) (after opsT8 V (Proc.devRef .tc main_call0_call0_v74)) (after opsT8 V (Proc.devRef .tc main_call0_call0_v73)) fun y => mix8 (n y) where
  fst y := by
    unfold mix8
    rw [show mix7 (n y) = (V (Proc.devRef .tc main_call0_call0_v61) y, V (Proc.devRef .tc main_call0_call0_v60) y) from Prod.ext (h.fst y).symm (h.snd y).symm]
    after_reads_simp
    simp only [h.k0, h.k1, h.k2]
    rfl
  snd y := by
    unfold mix8
    rw [show mix7 (n y) = (V (Proc.devRef .tc main_call0_call0_v61) y, V (Proc.devRef .tc main_call0_call0_v60) y) from Prod.ext (h.fst y).symm (h.snd y).symm]
    after_reads_simp
    simp only [h.k0, h.k1, h.k2]
    rfl
  k0 := by after_reads_simp; exact h.k0
  k1 := by after_reads_simp; exact h.k1
  k2 := by after_reads_simp; exact h.k2

theorem words9 (V : Valuation τ sig (Elt Ideal)) (n : S128x100000.Idx → BitVec 32)
    (h : Words V (V (Proc.devRef .tc main_call0_call0_v74)) (V (Proc.devRef .tc main_call0_call0_v73)) fun y => mix8 (n y)) :
    Words (after opsT9 V) (after opsT9 V (Proc.devRef .tc main_call0_call0_v81)) (after opsT9 V (Proc.devRef .tc main_call0_call0_v80)) fun y => mix9 (n y) where
  fst y := by
    unfold mix9
    rw [show mix8 (n y) = (V (Proc.devRef .tc main_call0_call0_v74) y, V (Proc.devRef .tc main_call0_call0_v73) y) from Prod.ext (h.fst y).symm (h.snd y).symm]
    after_reads_simp
    rfl
  snd y := by
    unfold mix9
    rw [show mix8 (n y) = (V (Proc.devRef .tc main_call0_call0_v74) y, V (Proc.devRef .tc main_call0_call0_v73) y) from Prod.ext (h.fst y).symm (h.snd y).symm]
    after_reads_simp
    rfl
  k0 := by after_reads_simp; exact h.k0
  k1 := by after_reads_simp; exact h.k1
  k2 := by after_reads_simp; exact h.k2

theorem words10 (V : Valuation τ sig (Elt Ideal)) (n : S128x100000.Idx → BitVec 32)
    (h : Words V (V (Proc.devRef .tc main_call0_call0_v81)) (V (Proc.devRef .tc main_call0_call0_v80)) fun y => mix9 (n y)) :
    Words (after opsT10 V) (after opsT10 V (Proc.devRef .tc main_call0_call0_v88)) (after opsT10 V (Proc.devRef .tc main_call0_call0_v87)) fun y => mix10 (n y) where
  fst y := by
    unfold mix10
    rw [show mix9 (n y) = (V (Proc.devRef .tc main_call0_call0_v81) y, V (Proc.devRef .tc main_call0_call0_v80) y) from Prod.ext (h.fst y).symm (h.snd y).symm]
    after_reads_simp
    rfl
  snd y := by
    unfold mix10
    rw [show mix9 (n y) = (V (Proc.devRef .tc main_call0_call0_v81) y, V (Proc.devRef .tc main_call0_call0_v80) y) from Prod.ext (h.fst y).symm (h.snd y).symm]
    after_reads_simp
    rfl
  k0 := by after_reads_simp; exact h.k0
  k1 := by after_reads_simp; exact h.k1
  k2 := by after_reads_simp; exact h.k2

theorem words11 (V : Valuation τ sig (Elt Ideal)) (n : S128x100000.Idx → BitVec 32)
    (h : Words V (V (Proc.devRef .tc main_call0_call0_v88)) (V (Proc.devRef .tc main_call0_call0_v87)) fun y => mix10 (n y)) :
    Words (after opsT11 V) (after opsT11 V (Proc.devRef .tc main_call0_call0_v95)) (after opsT11 V (Proc.devRef .tc main_call0_call0_v94)) fun y => mix11 (n y) where
  fst y := by
    unfold mix11
    rw [show mix10 (n y) = (V (Proc.devRef .tc main_call0_call0_v88) y, V (Proc.devRef .tc main_call0_call0_v87) y) from Prod.ext (h.fst y).symm (h.snd y).symm]
    after_reads_simp
    rfl
  snd y := by
    unfold mix11
    rw [show mix10 (n y) = (V (Proc.devRef .tc main_call0_call0_v88) y, V (Proc.devRef .tc main_call0_call0_v87) y) from Prod.ext (h.fst y).symm (h.snd y).symm]
    after_reads_simp
    rfl
  k0 := by after_reads_simp; exact h.k0
  k1 := by after_reads_simp; exact h.k1
  k2 := by after_reads_simp; exact h.k2

theorem words12 (V : Valuation τ sig (Elt Ideal)) (n : S128x100000.Idx → BitVec 32)
    (h : Words V (V (Proc.devRef .tc main_call0_call0_v95)) (V (Proc.devRef .tc main_call0_call0_v94)) fun y => mix11 (n y)) :
    Words (after opsT12 V) (after opsT12 V (Proc.devRef .tc main_call0_call0_v108)) (after opsT12 V (Proc.devRef .tc main_call0_call0_v107)) fun y => mix12 (n y) where
  fst y := by
    unfold mix12
    rw [show mix11 (n y) = (V (Proc.devRef .tc main_call0_call0_v95) y, V (Proc.devRef .tc main_call0_call0_v94) y) from Prod.ext (h.fst y).symm (h.snd y).symm]
    after_reads_simp
    simp only [h.k0, h.k1, h.k2]
    rfl
  snd y := by
    unfold mix12
    rw [show mix11 (n y) = (V (Proc.devRef .tc main_call0_call0_v95) y, V (Proc.devRef .tc main_call0_call0_v94) y) from Prod.ext (h.fst y).symm (h.snd y).symm]
    after_reads_simp
    simp only [h.k0, h.k1, h.k2]
    rfl
  k0 := by after_reads_simp; exact h.k0
  k1 := by after_reads_simp; exact h.k1
  k2 := by after_reads_simp; exact h.k2

theorem words13 (V : Valuation τ sig (Elt Ideal)) (n : S128x100000.Idx → BitVec 32)
    (h : Words V (V (Proc.devRef .tc main_call0_call0_v108)) (V (Proc.devRef .tc main_call0_call0_v107)) fun y => mix12 (n y)) :
    Words (after opsT13 V) (after opsT13 V (Proc.devRef .tc main_call0_call0_v115)) (after opsT13 V (Proc.devRef .tc main_call0_call0_v114)) fun y => mix13 (n y) where
  fst y := by
    unfold mix13
    rw [show mix12 (n y) = (V (Proc.devRef .tc main_call0_call0_v108) y, V (Proc.devRef .tc main_call0_call0_v107) y) from Prod.ext (h.fst y).symm (h.snd y).symm]
    after_reads_simp
    rfl
  snd y := by
    unfold mix13
    rw [show mix12 (n y) = (V (Proc.devRef .tc main_call0_call0_v108) y, V (Proc.devRef .tc main_call0_call0_v107) y) from Prod.ext (h.fst y).symm (h.snd y).symm]
    after_reads_simp
    rfl
  k0 := by after_reads_simp; exact h.k0
  k1 := by after_reads_simp; exact h.k1
  k2 := by after_reads_simp; exact h.k2

theorem words14 (V : Valuation τ sig (Elt Ideal)) (n : S128x100000.Idx → BitVec 32)
    (h : Words V (V (Proc.devRef .tc main_call0_call0_v115)) (V (Proc.devRef .tc main_call0_call0_v114)) fun y => mix13 (n y)) :
    Words (after opsT14 V) (after opsT14 V (Proc.devRef .tc main_call0_call0_v122)) (after opsT14 V (Proc.devRef .tc main_call0_call0_v121)) fun y => mix14 (n y) where
  fst y := by
    unfold mix14
    rw [show mix13 (n y) = (V (Proc.devRef .tc main_call0_call0_v115) y, V (Proc.devRef .tc main_call0_call0_v114) y) from Prod.ext (h.fst y).symm (h.snd y).symm]
    after_reads_simp
    rfl
  snd y := by
    unfold mix14
    rw [show mix13 (n y) = (V (Proc.devRef .tc main_call0_call0_v115) y, V (Proc.devRef .tc main_call0_call0_v114) y) from Prod.ext (h.fst y).symm (h.snd y).symm]
    after_reads_simp
    rfl
  k0 := by after_reads_simp; exact h.k0
  k1 := by after_reads_simp; exact h.k1
  k2 := by after_reads_simp; exact h.k2

theorem words15 (V : Valuation τ sig (Elt Ideal)) (n : S128x100000.Idx → BitVec 32)
    (h : Words V (V (Proc.devRef .tc main_call0_call0_v122)) (V (Proc.devRef .tc main_call0_call0_v121)) fun y => mix14 (n y)) :
    Words (after opsT15 V) (after opsT15 V (Proc.devRef .tc main_call0_call0_v129)) (after opsT15 V (Proc.devRef .tc main_call0_call0_v128)) fun y => mix15 (n y) where
  fst y := by
    unfold mix15
    rw [show mix14 (n y) = (V (Proc.devRef .tc main_call0_call0_v122) y, V (Proc.devRef .tc main_call0_call0_v121) y) from Prod.ext (h.fst y).symm (h.snd y).symm]
    after_reads_simp
    rfl
  snd y := by
    unfold mix15
    rw [show mix14 (n y) = (V (Proc.devRef .tc main_call0_call0_v122) y, V (Proc.devRef .tc main_call0_call0_v121) y) from Prod.ext (h.fst y).symm (h.snd y).symm]
    after_reads_simp
    rfl
  k0 := by after_reads_simp; exact h.k0
  k1 := by after_reads_simp; exact h.k1
  k2 := by after_reads_simp; exact h.k2

theorem words16 (V : Valuation τ sig (Elt Ideal)) (n : S128x100000.Idx → BitVec 32)
    (h : Words V (V (Proc.devRef .tc main_call0_call0_v129)) (V (Proc.devRef .tc main_call0_call0_v128)) fun y => mix15 (n y)) :
    Words (after opsT16 V) (after opsT16 V (Proc.devRef .tc main_call0_call0_v142)) (after opsT16 V (Proc.devRef .tc main_call0_call0_v141)) fun y => mix16 (n y) where
  fst y := by
    unfold mix16
    rw [show mix15 (n y) = (V (Proc.devRef .tc main_call0_call0_v129) y, V (Proc.devRef .tc main_call0_call0_v128) y) from Prod.ext (h.fst y).symm (h.snd y).symm]
    after_reads_simp
    simp only [h.k0, h.k1, h.k2]
    rfl
  snd y := by
    unfold mix16
    rw [show mix15 (n y) = (V (Proc.devRef .tc main_call0_call0_v129) y, V (Proc.devRef .tc main_call0_call0_v128) y) from Prod.ext (h.fst y).symm (h.snd y).symm]
    after_reads_simp
    simp only [h.k0, h.k1, h.k2]
    rfl
  k0 := by after_reads_simp; exact h.k0
  k1 := by after_reads_simp; exact h.k1
  k2 := by after_reads_simp; exact h.k2

theorem words17 (V : Valuation τ sig (Elt Ideal)) (n : S128x100000.Idx → BitVec 32)
    (h : Words V (V (Proc.devRef .tc main_call0_call0_v142)) (V (Proc.devRef .tc main_call0_call0_v141)) fun y => mix16 (n y)) :
    Words (after opsT17 V) (after opsT17 V (Proc.devRef .tc main_call0_call0_v149)) (after opsT17 V (Proc.devRef .tc main_call0_call0_v148)) fun y => mix17 (n y) where
  fst y := by
    unfold mix17
    rw [show mix16 (n y) = (V (Proc.devRef .tc main_call0_call0_v142) y, V (Proc.devRef .tc main_call0_call0_v141) y) from Prod.ext (h.fst y).symm (h.snd y).symm]
    after_reads_simp
    rfl
  snd y := by
    unfold mix17
    rw [show mix16 (n y) = (V (Proc.devRef .tc main_call0_call0_v142) y, V (Proc.devRef .tc main_call0_call0_v141) y) from Prod.ext (h.fst y).symm (h.snd y).symm]
    after_reads_simp
    rfl
  k0 := by after_reads_simp; exact h.k0
  k1 := by after_reads_simp; exact h.k1
  k2 := by after_reads_simp; exact h.k2

theorem words18 (V : Valuation τ sig (Elt Ideal)) (n : S128x100000.Idx → BitVec 32)
    (h : Words V (V (Proc.devRef .tc main_call0_call0_v149)) (V (Proc.devRef .tc main_call0_call0_v148)) fun y => mix17 (n y)) :
    Words (after opsT18 V) (after opsT18 V (Proc.devRef .tc main_call0_call0_v156)) (after opsT18 V (Proc.devRef .tc main_call0_call0_v155)) fun y => mix18 (n y) where
  fst y := by
    unfold mix18
    rw [show mix17 (n y) = (V (Proc.devRef .tc main_call0_call0_v149) y, V (Proc.devRef .tc main_call0_call0_v148) y) from Prod.ext (h.fst y).symm (h.snd y).symm]
    after_reads_simp
    rfl
  snd y := by
    unfold mix18
    rw [show mix17 (n y) = (V (Proc.devRef .tc main_call0_call0_v149) y, V (Proc.devRef .tc main_call0_call0_v148) y) from Prod.ext (h.fst y).symm (h.snd y).symm]
    after_reads_simp
    rfl
  k0 := by after_reads_simp; exact h.k0
  k1 := by after_reads_simp; exact h.k1
  k2 := by after_reads_simp; exact h.k2

theorem words19 (V : Valuation τ sig (Elt Ideal)) (n : S128x100000.Idx → BitVec 32)
    (h : Words V (V (Proc.devRef .tc main_call0_call0_v156)) (V (Proc.devRef .tc main_call0_call0_v155)) fun y => mix18 (n y)) :
    Words (after opsT19 V) (after opsT19 V (Proc.devRef .tc main_call0_call0_v163)) (after opsT19 V (Proc.devRef .tc main_call0_call0_v162)) fun y => mix19 (n y) where
  fst y := by
    unfold mix19
    rw [show mix18 (n y) = (V (Proc.devRef .tc main_call0_call0_v156) y, V (Proc.devRef .tc main_call0_call0_v155) y) from Prod.ext (h.fst y).symm (h.snd y).symm]
    after_reads_simp
    rfl
  snd y := by
    unfold mix19
    rw [show mix18 (n y) = (V (Proc.devRef .tc main_call0_call0_v156) y, V (Proc.devRef .tc main_call0_call0_v155) y) from Prod.ext (h.fst y).symm (h.snd y).symm]
    after_reads_simp
    rfl
  k0 := by after_reads_simp; exact h.k0
  k1 := by after_reads_simp; exact h.k1
  k2 := by after_reads_simp; exact h.k2

theorem words20 (V : Valuation τ sig (Elt Ideal)) (n : S128x100000.Idx → BitVec 32)
    (h : Words V (V (Proc.devRef .tc main_call0_call0_v163)) (V (Proc.devRef .tc main_call0_call0_v162)) fun y => mix19 (n y)) :
    Words (after opsT20 V) (after opsT20 V (Proc.devRef .tc main_call0_v19_0)) (after opsT20 V (Proc.devRef .tc main_call0_v19_1)) fun y => mix20 (n y) where
  fst y := by
    unfold mix20
    rw [show mix19 (n y) = (V (Proc.devRef .tc main_call0_call0_v163) y, V (Proc.devRef .tc main_call0_call0_v162) y) from Prod.ext (h.fst y).symm (h.snd y).symm]
    after_reads_simp
    simp only [h.k0, h.k1, h.k2]
    rfl
  snd y := by
    unfold mix20
    rw [show mix19 (n y) = (V (Proc.devRef .tc main_call0_call0_v163) y, V (Proc.devRef .tc main_call0_call0_v162) y) from Prod.ext (h.fst y).symm (h.snd y).symm]
    after_reads_simp
    simp only [h.k0, h.k1, h.k2]
    rfl
  k0 := by after_reads_simp; exact h.k0
  k1 := by after_reads_simp; exact h.k1
  k2 := by after_reads_simp; exact h.k2

/-- All the rounds, as one list. -/
abbrev opsT : List (HloOp τ sig (Elt Ideal)) :=
  opsT0 ++ (opsT1 ++ (opsT2 ++ (opsT3 ++ (opsT4 ++ (opsT5 ++ (opsT6 ++ (opsT7 ++ (opsT8 ++ (opsT9 ++ (opsT10 ++ (opsT11 ++ (opsT12 ++ (opsT13 ++ (opsT14 ++ (opsT15 ++ (opsT16 ++ (opsT17 ++ (opsT18 ++ (opsT19 ++ (opsT20))))))))))))))))))))

theorem after_cat (a b : List (HloOp τ sig (Elt Ideal))) (V : Valuation τ sig (Elt Ideal)) : after (a ++ b) V = after b (after a V) := by
  induction a generalizing V with
  | nil => rfl
  | cons op l ih => exact ih _

theorem words_all (V : Valuation τ sig (Elt Ideal)) (n : S128x100000.Idx → BitVec 32)
    (h0 : ∀ y, (V (Proc.devRef .tc main_call0_v18) : IVec S128x100000 32) y = 0#32)
    (h1 : ∀ y, (V (Proc.devRef .tc main_call0_v17) : IVec S128x100000 32) y = n y)
    (k0 : (V (Proc.devRef .tc main_call0_v5) : IVec S_ 32) = fun _ => 0#32)
    (k1 : (V (Proc.devRef .tc main_call0_v7) : IVec S_ 32) = fun _ => 42#32) :
    ∃ U, after opsT V = U ∧ Words U (U (Proc.devRef .tc main_call0_v19_0)) (U (Proc.devRef .tc main_call0_v19_1)) fun y => mix20 (n y) := by
  refine ⟨_, rfl, ?_⟩
  unfold opsT
  simp only [after_cat]
  exact words20 _ n (words19 _ n (words18 _ n (words17 _ n (words16 _ n (words15 _ n (words14 _ n (words13 _ n (words12 _ n (words11 _ n (words10 _ n (words9 _ n (words8 _ n (words7 _ n (words6 _ n (words5 _ n (words4 _ n (words3 _ n (words2 _ n (words1 _ n (words0 V n h0 h1 k0 k1))))))))))))))))))))

end Cert.ReferenceIdeal.Hand

end
-- ==== Proof.RefScore.lean ====
/-
  The reference's two results, read off its operations: the probabilities, and the first column of the largest score of each row.
-/
module

public import proofs.«01_k».proof.Proof.RefHash
public import proofs.«01_k».proof.Proof.ProbsRef
public import proofs.«01_k».proof.Proof.FirstMax
public import proofs.«01_k».proof.Proof.Score

@[expose] public section

set_option maxRecDepth 16384

noncomputable section

namespace Cert.ReferenceIdeal.Hand

open Cert.ReferenceIdeal Cert.ReferenceIdeal.Gen Cert.Hand
open Cert.ReferenceIdeal.Facts
open Idealize.ShloMosaic Idealize.ShloMosaic.TcCoe Idealize.ShloMosaic.Tactic Idealize.SL.Sem Idealize.ShloMosaic.StableHlo

/-- The reference's reduction body keeps the better of two pairs. -/
theorem reducer_better : Better (reducer_argmax_f32_i32 (F := Ideal)) := by
  rintro ⟨a, k⟩ ⟨b, l⟩
  unfold reducer_argmax_f32_i32 Beats
  rcases lt_trichotomy a b with h | h | h
  · simp [Ideal.cmpf_def, Ideal.cmp, Scalar.select, IntOp.ori, IntOp.andi, IntOp.cmpi, h, not_lt.mpr h.le, h.ne]
  · subst h
    by_cases hkl : k.slt l = true
    · have h' : k.toInt < l.toInt := of_decide_eq_true hkl
      simp [Ideal.cmpf_def, Ideal.cmp, Scalar.select, IntOp.ori, IntOp.andi, IntOp.cmpi, hkl, h'.le]
    · have h' : ¬ k.toInt < l.toInt := fun hh => hkl (decide_eq_true hh)
      have h'' : k.slt l = false := Bool.eq_false_iff.mpr hkl
      simp [Ideal.cmpf_def, Ideal.cmp, Scalar.select, IntOp.ori, IntOp.andi, IntOp.cmpi, h'', not_lt.mp h']
  · simp [Ideal.cmpf_def, Ideal.cmp, Scalar.select, IntOp.ori, IntOp.andi, IntOp.cmpi, h, h.ne']

/-- The valuation before the hash. -/
abbrev pre (V : Valuation τ sig (Elt Ideal)) : Valuation τ sig (Elt Ideal) := after opsU1 (after opsM1 V)

theorem pre_probs (V : Valuation τ sig (Elt Ideal)) :
    (pre V (Proc.devRef .tc main_v14) : FVec Ideal S128x100000 .f32)
      = refProbs (refLogits (V (Proc.devRef .tc main_arg0)) (V (Proc.devRef .tc main_arg1)) (V (Proc.devRef .tc main_arg2))) := by
  after_reads_simp
  rfl

theorem pre_k0 (V : Valuation τ sig (Elt Ideal)) : (pre V (Proc.devRef .tc main_call0_v5) : IVec S_ 32) = fun _ => 0#32 := by
  after_reads_simp
  funext y
  pointwise []
  after_reads_simp
  show IntOp.shrui ArithUnit.host 42#32 32#32 = 0#32
  first | rfl | decide

theorem pre_k1 (V : Valuation τ sig (Elt Ideal)) : (pre V (Proc.devRef .tc main_call0_v7) : IVec S_ 32) = fun _ => 42#32 := by
  after_reads_simp
  funext y
  pointwise []
  after_reads_simp
  show IntOp.andi 42#32 4294967295#32 = 42#32
  first | rfl | decide

theorem pre_zero (V : Valuation τ sig (Elt Ideal)) : (pre V (Proc.devRef .tc main_call0_v2) : FVec Ideal S1x1 .f32) = fun _ => (0 : EReal) := by
  after_reads_simp
  funext y
  pointwise []
  show constant (F := Ideal) S_ .f32 0x00000000#32 ix0 = (0 : EReal)
  pointwise []

theorem pre_one (V : Valuation τ sig (Elt Ideal)) : (pre V (Proc.devRef .tc main_call0_v3) : FVec Ideal S1x1 .f32) = fun _ => (1 : EReal) := by
  after_reads_simp
  funext y
  pointwise []
  show constant (F := Ideal) S_ .f32 0x3F800000#32 ix0 = (1 : EReal)
  pointwise []

/-- The counter, as 64 bits. -/
theorem counter64 (i j : ℕ) : IntOp.addi (IntOp.muli (100000#64) (BitVec.ofNat 64 i)) (IntOp.muli (1#64) (BitVec.ofNat 64 j)) = BitVec.ofNat 64 (i * 100000 + j) := by
  show 100000#64 * BitVec.ofNat 64 i + 1#64 * BitVec.ofNat 64 j = _
  rw [BitVec.one_mul, ← BitVec.ofNat_mul, ← BitVec.ofNat_add, Nat.mul_comm]

theorem low_word (n : ℕ) (h : n < 4294967296) : BitVec.setWidth 32 (BitVec.ofNat 64 n) = BitVec.ofNat 32 n := by
  apply BitVec.eq_of_toNat_eq
  rw [BitVec.toNat_setWidth, BitVec.toNat_ofNat, BitVec.toNat_ofNat]
  omega

theorem high_word (n : ℕ) (h : n < 4294967296) : BitVec.setWidth 32 (IntOp.shrui ArithUnit.host (BitVec.ofNat 64 n) 32#64) = 0#32 := by
  have e : IntOp.shrui ArithUnit.host (BitVec.ofNat 64 n) 32#64 = BitVec.ofNat 64 n >>> (32#64) := if_pos (by decide)
  rw [e]
  apply BitVec.eq_of_toNat_eq
  rw [BitVec.toNat_setWidth, BitVec.ushiftRight_eq', BitVec.toNat_ushiftRight, BitVec.toNat_ofNat, BitVec.toNat_ofNat, Nat.shiftRight_eq_div_pow]
  rw [show (32 % 2 ^ 64) = 32 from rfl, Nat.mod_eq_of_lt (show n < 2 ^ 64 by omega), Nat.div_eq_of_lt (show n < 2 ^ 32 by omega)]
  rfl

theorem pre_lo (V : Valuation τ sig (Elt Ideal)) (i : Fin 128) (j : Fin 100000) :
    (pre V (Proc.devRef .tc main_call0_v17) : IVec S128x100000 32) (ix2 i j) = BitVec.ofNat 32 (i.val * 100000 + j.val) := by
  after_reads_simp
  pointwise []
  rw [counter64]
  exact low_word _ (by have := i.isLt; have := j.isLt; omega)

theorem pre_hi (V : Valuation τ sig (Elt Ideal)) (i : Fin 128) (j : Fin 100000) :
    (pre V (Proc.devRef .tc main_call0_v18) : IVec S128x100000 32) (ix2 i j) = 0#32 := by
  after_reads_simp
  pointwise []
  rw [counter64]
  exact high_word _ (by have := i.isLt; have := j.isLt; omega)

/-- The score of a row and a column, from what the hash leaves. -/
theorem score_at (U : Valuation τ sig (Elt Ideal)) (P : FVec Ideal S128x100000 .f32) (A B : IVec S128x100000 32)
    (z : (U (Proc.devRef .tc main_call0_v2) : FVec Ideal S1x1 .f32) = fun _ => (0 : EReal))
    (o : (U (Proc.devRef .tc main_call0_v3) : FVec Ideal S1x1 .f32) = fun _ => (1 : EReal))
    (hP : U (Proc.devRef .tc main_v14) = P) (hA : U (Proc.devRef .tc main_call0_v19_0) = A) (hB : U (Proc.devRef .tc main_call0_v19_1) = B)
    (i : Fin 128) (j : Fin 100000) :
    (after opsM2 (after opsU2 U) (Proc.devRef .tc main_v32) : FVec Ideal S128x100000 .f32) (ix2 i j)
      = refScore (P (ix2 i j)) (A (ix2 i j) ^^^ B (ix2 i j)) := by
  after_reads_simp
  rw [hP, hA, hB]
  simp only [z, o]
  unfold refScore mant
  pointwise []
  rfl

/-- The last result, from the indices of the rows. -/
theorem last_at (U : Valuation τ sig (Elt Ideal)) (M : IVec S128 32) (hM : U (Proc.devRef .tc main_v33) = M) (i : Fin 128) :
    (after opsM3 U (Proc.devRef .tc main_v34) : IVec S128x1 32) (ix2 i 0) = M (ix1 i) := by
  after_reads_simp
  rw [hM]
  pointwise []

/-- The indices of the rows, from the scores. -/
theorem arg_read (U : Valuation τ sig (Elt Ideal)) :
    (after opsA U (Proc.devRef .tc main_v33) : IVec S128 32)
      = fun i => (Host.argReduce (F := Ideal) (φ := .f32) reducer_argmax_f32_i32 (U (Proc.devRef .tc main_v32) : FVec Ideal S128x100000 .f32) (iotaInDim S128x100000 32 1)
          (constant (F := Ideal) S_ .f32 0xFF800000#32) (constantI S_ 32 0#32) reducesTo_S128x100000_S128_d1 h_S_ i).2 := by
  after_reads_simp

end Cert.ReferenceIdeal.Hand

end
-- ==== Proof.RefRun.lean ====
/-
  The reference's results at the end of its run.
-/
module

public import proofs.«01_k».proof.Proof.RefScore

@[expose] public section

set_option maxRecDepth 16384

noncomputable section

namespace Cert.ReferenceIdeal.Hand

open Cert.ReferenceIdeal Cert.ReferenceIdeal.Gen Cert.Hand
open Cert.ReferenceIdeal.Facts
open Idealize.ShloMosaic Idealize.ShloMosaic.TcCoe Idealize.ShloMosaic.Tactic Idealize.SL.Sem Idealize.ShloMosaic.StableHlo

/-- The operations, stretch by stretch. -/
theorem after_ops (V : Valuation τ sig (Elt Ideal)) :
    after ops V = after opsM3 (after opsA (after opsM2 (after opsU2 (after opsT (pre V))))) := by
  unfold ops opsT pre
  simp only [after_cat]

/-- The hash leaves the rest alone. -/
theorem hash_keeps (W : Valuation τ sig (Elt Ideal)) :
    after opsT W (Proc.devRef .tc main_v14) = W (Proc.devRef .tc main_v14)
    ∧ after opsT W (Proc.devRef .tc main_call0_v2) = W (Proc.devRef .tc main_call0_v2)
    ∧ after opsT W (Proc.devRef .tc main_call0_v3) = W (Proc.devRef .tc main_call0_v3)
    ∧ after opsT W (Proc.devRef .tc main_arg0) = W (Proc.devRef .tc main_arg0)
    ∧ after opsT W (Proc.devRef .tc main_arg1) = W (Proc.devRef .tc main_arg1)
    ∧ after opsT W (Proc.devRef .tc main_arg2) = W (Proc.devRef .tc main_arg2) := by
  unfold opsT
  simp only [after_cat]
  refine ⟨?_, ?_, ?_, ?_, ?_, ?_⟩ <;> after_reads_simp

theorem pre_keeps (V : Valuation τ sig (Elt Ideal)) :
    pre V (Proc.devRef .tc main_arg0) = V (Proc.devRef .tc main_arg0)
    ∧ pre V (Proc.devRef .tc main_arg1) = V (Proc.devRef .tc main_arg1)
    ∧ pre V (Proc.devRef .tc main_arg2) = V (Proc.devRef .tc main_arg2) := by
  refine ⟨?_, ?_, ?_⟩ <;> after_reads_simp

theorem post_keeps (U : Valuation τ sig (Elt Ideal)) :
    after opsM3 (after opsA (after opsM2 (after opsU2 U))) (Proc.devRef .tc main_v14) = U (Proc.devRef .tc main_v14)
    ∧ after opsM3 (after opsA (after opsM2 (after opsU2 U))) (Proc.devRef .tc main_arg0) = U (Proc.devRef .tc main_arg0)
    ∧ after opsM3 (after opsA (after opsM2 (after opsU2 U))) (Proc.devRef .tc main_arg1) = U (Proc.devRef .tc main_arg1)
    ∧ after opsM3 (after opsA (after opsM2 (after opsU2 U))) (Proc.devRef .tc main_arg2) = U (Proc.devRef .tc main_arg2) := by
  refine ⟨?_, ?_, ?_, ?_⟩ <;> after_reads_simp

/-- The arguments stay. -/
theorem ends_args (V : Valuation τ sig (Elt Ideal)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2) := by
  rw [after_ops]
  obtain ⟨-, a0, a1, a2⟩ := post_keeps (after opsT (pre V))
  obtain ⟨-, -, -, b0, b1, b2⟩ := hash_keeps (pre V)
  obtain ⟨c0, c1, c2⟩ := pre_keeps V
  exact ⟨a0.trans (b0.trans c0), a1.trans (b1.trans c1), a2.trans (b2.trans c2)⟩

/-- The first result. -/
theorem ends_probs (V : Valuation τ sig (Elt Ideal)) :
    (after ops V (Proc.devRef .tc main_v14) : FVec Ideal S128x100000 .f32)
      = refProbs (refLogits (V (Proc.devRef .tc main_arg0)) (V (Proc.devRef .tc main_arg1)) (V (Proc.devRef .tc main_arg2))) := by
  rw [after_ops]
  exact (post_keeps _).1.trans ((hash_keeps _).1.trans (pre_probs V))

/-- The second result, at row `i`: the first column of the largest score, whenever every score is above minus infinity. -/
theorem ends_actions (V : Valuation τ sig (Elt Ideal)) (P : FVec Ideal S128x100000 .f32)
    (hP : refProbs (refLogits (V (Proc.devRef .tc main_arg0)) (V (Proc.devRef .tc main_arg1)) (V (Proc.devRef .tc main_arg2))) = P)
    (i : Fin 128) (f : ℕ → EReal)
    (hf : ∀ j : Fin 100000, refScore (P (ix2 i j)) (wordOf (BitVec.ofNat 32 (i.val * 100000 + j.val))) = f j.val) (hb : ∀ l < 100000, ⊥ < f l) :
    ∃ j, IsFirst f 100000 j ∧ (after ops V (Proc.devRef .tc main_v34) : IVec S128x1 32) (ix2 i 0) = BitVec.ofNat 32 j := by
  obtain ⟨U, hU, hw⟩ := words_all (pre V) (fun y => BitVec.ofNat 32 ((y 0).val * 100000 + (y 1).val))
    (fun y => (congrArg _ (show y = ix2 (n0 := 128) (n1 := 100000) (y 0) (y 1) from funext fun a => match a with | 0 => rfl | 1 => rfl)).trans (pre_hi V (y 0) (y 1)))
    (fun y => (congrArg _ (show y = ix2 (n0 := 128) (n1 := 100000) (y 0) (y 1) from funext fun a => match a with | 0 => rfl | 1 => rfl)).trans (pre_lo V (y 0) (y 1)))
    (pre_k0 V) (pre_k1 V)
  obtain ⟨k14, kz, ko, -⟩ := hash_keeps (pre V)
  have hU14 : (U (Proc.devRef .tc main_v14) : FVec Ideal S128x100000 .f32) = P := by
    rw [← hU]; exact k14.trans ((pre_probs V).trans hP)
  have hUz : (U (Proc.devRef .tc main_call0_v2) : FVec Ideal S1x1 .f32) = fun _ => (0 : EReal) := by rw [← hU]; exact kz.trans (pre_zero V)
  have hUo : (U (Proc.devRef .tc main_call0_v3) : FVec Ideal S1x1 .f32) = fun _ => (1 : EReal) := by rw [← hU]; exact ko.trans (pre_one V)
  rw [after_ops, hU]
  have hsc : ∀ j : Fin 100000, (after opsM2 (after opsU2 U) (Proc.devRef .tc main_v32) : FVec Ideal S128x100000 .f32) (ix2 i j) = f j.val := fun j => by
    rw [score_at U P _ _ hUz hUo hU14 rfl rfl, hw.fst, hw.snd]
    exact hf j
  obtain ⟨j, hj, e⟩ := argReduce_first (n0 := 128) (n1 := 100000) (u := S_) (reducer_argmax_f32_i32 (F := Ideal)) reducer_better
    (after opsM2 (after opsU2 U) (Proc.devRef .tc main_v32) : FVec Ideal S128x100000 .f32) reducesTo_S128x100000_S128_d1 h_S_ i f hsc hb (by decide) (by decide)
  exact ⟨j, hj, (last_at _ _ (arg_read _) i).trans e⟩

end Cert.ReferenceIdeal.Hand

end
-- ==== Proof.Actions.lean ====
/-
  The two programs choose the same action: on real logits each probability is a positive real number, the kernel's score is a positive
  real number and the reference's is its logarithm, so the two scores of a row are ordered alike.
-/
module

public import proofs.«01_k».proof.Proof.KerRun
public import proofs.«01_k».proof.Proof.RefRun

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem Idealize.ShloMosaic.StableHlo

variable (m : (ℓ : Loc nD τ sig) → Buf (Elt Ideal) ℓ)

/-- On real logits a probability is a positive real number. -/
theorem probs_pos (c : Dev nD) (ρ : Fin 128 → Fin 100000 → ℝ) (hρ : ∀ i j, argLogit m c i j = (ρ i j : EReal)) (i : Fin 128) (j : Fin 100000) :
    ∃ q : ℝ, 0 < q ∧ probs m c (ix2 i j) = (q : EReal) := by
  have hS : 0 < ∑ k : Fin 100000, Real.exp (ρ i k) :=
    Finset.sum_pos (fun k _ => Real.exp_pos _) ⟨⟨0, by decide⟩, Finset.mem_univ _⟩
  refine ⟨Real.exp (ρ i j) * (1 / ∑ k : Fin 100000, Real.exp (ρ i k)), by positivity, ?_⟩
  have e : probs m c (ix2 i j) = Ideal.exp (argLogit m c i j) * Ideal.div 1 (∑ k : Fin 100000, Ideal.exp (argLogit m c i k)) := rfl
  rw [e]
  simp only [hρ]
  simp only [exp_coe]
  rw [Cert.Hand.sum_coe, ← EReal.coe_one, div_coe _ _ hS.ne', ← EReal.coe_mul]

/-- On real logits the scores of a row: the kernel's is a positive real number, the reference's its logarithm. -/
theorem rows_scores (c : Dev nD) (ρ : Fin 128 → Fin 100000 → ℝ) (hρ : ∀ i j, argLogit m c i j = (ρ i j : EReal)) (i : Fin 128) (n : ℕ) (h : n < 100000) :
    ∃ s : ℝ, 0 < s ∧ scoreRow m c i n = (s : EReal)
      ∧ refScore (probs m c (ix2 i (⟨n, h⟩ : Fin 100000))) (wordOf (count i.val n)) = (Real.log s : EReal) := by
  obtain ⟨q, hq, e⟩ := probs_pos m c ρ hρ i ⟨n, h⟩
  obtain ⟨s, hs, e1, e2⟩ := scores q hq (wordOf (count i.val n))
  refine ⟨s, hs, ?_, by rw [e]; exact e2⟩
  unfold scoreRow
  rw [dif_pos h, e]
  exact e1

/-- On real logits every score is above minus infinity. -/
theorem scoreRow_pos (c : Dev nD) (ρ : Fin 128 → Fin 100000 → ℝ) (hρ : ∀ i j, argLogit m c i j = (ρ i j : EReal)) (i : Fin 128) (n : ℕ) : ⊥ < scoreRow m c i n := by
  by_cases h : n < 100000
  · obtain ⟨s, -, e, -⟩ := rows_scores m c ρ hρ i n h
    rw [e]; exact EReal.bot_lt_coe s
  · unfold scoreRow
    rw [dif_neg h]; exact EReal.bot_lt_coe 0

/-- The first position of the largest score of a row. -/
def actionAt (c : Dev nD) (i : Fin 128) : ℕ := Classical.epsilon fun j => IsFirst (scoreRow m c i) 100000 j

/-- The actions. -/
def actions (c : Dev nD) : Vec Ideal S128x1 .i32 := fun y => BitVec.ofNat 32 (actionAt m c (y 0))

/-- Any first position of the largest score of a row is the action. -/
theorem actionAt_eq (c : Dev nD) (i : Fin 128) (j : ℕ) (hj : IsFirst (scoreRow m c i) 100000 j) : j = actionAt m c i :=
  isFirst_unique hj (Classical.epsilon_spec (p := fun j => IsFirst (scoreRow m c i) 100000 j) ⟨j, hj⟩)

theorem idx_one (y : S128x1.Idx) : y = ix2 (n0 := 128) (n1 := 1) (y 0) 0 :=
  funext fun a => match a with
    | 0 => rfl
    | 1 => Fin.ext (show (y 1).val = 0 from Nat.lt_one_iff.mp (y 1).isLt)

/-- A vector of rows whose every element is the action is the actions. -/
theorem actions_ext (c : Dev nD) (v : Vec Ideal S128x1 .i32) (h : ∀ i : Fin 128, ∃ j, IsFirst (scoreRow m c i) 100000 j ∧ v (ix2 i 0) = BitVec.ofNat 32 j) :
    v = actions m c := by
  funext y
  obtain ⟨j, hj, e⟩ := h (y 0)
  refine (congrArg v (idx_one y)).trans (e.trans ?_)
  exact congrArg (BitVec.ofNat 32) (actionAt_eq m c (y 0) j hj)

/-- The kernel ends with the actions. -/
theorem ends_actions_eq (c : Dev nD) (ρ : Fin 128 → Fin 100000 → ℝ) (hρ : ∀ i j, argLogit m c i j = (ρ i j : EReal))
    (s : MemSt nD τ sig (Elt Ideal)) (h : Ends m c s) : (s.mem ((c.tc : Thread nD τ).loc main_v180_1) : Vec Ideal S128x1 .i32) = actions m c :=
  actions_ext m c _ fun i => ends_actions m c s h (scoreRow_pos m c ρ hρ) i

/-- The reference's score of row `i` at a natural number; past the vocabulary, zero. -/
def refRow (c : Dev nD) (i : Fin 128) (n : ℕ) : EReal :=
  if h : n < 100000 then refScore (probs m c (ix2 i (⟨n, h⟩ : Fin 100000))) (wordOf (count i.val n)) else 0

theorem refRow_eq (c : Dev nD) (i : Fin 128) (n : ℕ) (h : n < 100000) :
    refRow m c i n = refScore (probs m c (ix2 i (⟨n, h⟩ : Fin 100000))) (wordOf (count i.val n)) := dif_pos h

/-- The reference, run on the same arguments, ends with the actions. -/
theorem ref_actions_eq (c : Dev nD) (ρ : Fin 128 → Fin 100000 → ℝ) (hρ : ∀ i j, argLogit m c i j = (ρ i j : EReal))
    (V : Valuation Cert.ReferenceIdeal.τ Cert.ReferenceIdeal.sig (Elt Ideal))
    (hP : Cert.ReferenceIdeal.Hand.refProbs (Cert.ReferenceIdeal.Hand.refLogits (V (Proc.devRef .tc Cert.ReferenceIdeal.main_arg0))
      (V (Proc.devRef .tc Cert.ReferenceIdeal.main_arg1)) (V (Proc.devRef .tc Cert.ReferenceIdeal.main_arg2))) = probs m c) :
    (after Cert.ReferenceIdeal.Hand.ops V (Proc.devRef .tc Cert.ReferenceIdeal.main_v34) : Vec Ideal S128x1 .i32) = actions m c := by
  refine actions_ext m c _ fun i => ?_
  have hR := rows_scores m c ρ hρ i
  have hf : ∀ j : Fin 100000, refScore (probs m c (ix2 i j)) (wordOf (BitVec.ofNat 32 (i.val * 100000 + j.val))) = refRow m c i j.val :=
    fun j => (refRow_eq m c i j.val j.isLt).symm
  have hb : ∀ l < 100000, ⊥ < refRow m c i l := fun l hl => by
    obtain ⟨s, -, -, e⟩ := hR l hl
    rw [refRow_eq m c i l hl, e]; exact EReal.bot_lt_coe _
  obtain ⟨j, hj, e⟩ := Cert.ReferenceIdeal.Hand.ends_actions V (probs m c) hP i (refRow m c i) hf hb
  refine ⟨j, isFirst_of_lt_iff (fun a ha b hb => ?_) hj, e⟩
  obtain ⟨s, hs, e1, e2⟩ := hR a ha
  obtain ⟨t, ht, f1, f2⟩ := hR b hb
  rw [refRow_eq m c i a ha, refRow_eq m c i b hb, e2, f2, e1, f1, EReal.coe_lt_coe_iff, EReal.coe_lt_coe_iff]
  exact Real.log_lt_log_iff hs ht

end Cert.KernelIdeal.Hand

end
-- ==== Proof.lean ====
/-
  The proof of the certificate's claims: each program runs to the end with its arguments unchanged and every semaphore counter
  at zero, and on finite arguments the kernel's probabilities and actions are the reference's.
-/
module

public import proofs.«01_k».proof.Defs
public import proofs.«01_k».proof.Proof.KernelRun
public import proofs.«01_k».proof.Proof.KernelIdealRun
public import proofs.«01_k».proof.Proof.ProbsRef
public import proofs.«01_k».proof.Proof.ProbsPre
public import proofs.«01_k».proof.Proof.Actions
public import proofs.«01_k».proof.Proof.Gen.Pre_finite_args
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's frame, at the machine's words. -/
theorem frame_kernel : letI := Cert.Kernel.Gen.facts; Cert.quiescent_Kernel := fun m g _ =>
  θ_run_mono (Cert.Kernel.Hand.run_main m g) fun r h => ⟨fun c => Cert.Kernel.Hand.ends_args m c r.2 (h.1 c), h.2⟩

/-- The kernel's frame, at the extended reals. -/
theorem frame_kernelIdeal : letI := Cert.KernelIdeal.Gen.facts; Cert.quiescent_KernelIdeal := fun m g _ =>
  θ_run_mono (Cert.KernelIdeal.Hand.run_main m g) fun r h => ⟨fun c => Cert.KernelIdeal.Hand.ends_args m c r.2 (h.1 c), h.2⟩

/-- The reference's frame, at the extended reals: it declares no semaphore. -/
theorem frame_referenceIdeal : letI := Cert.ReferenceIdeal.Gen.facts; Cert.quiescent_ReferenceIdeal := fun m g _ =>
  θ_run_mono (Cert.ReferenceIdeal.Hand.run (F := Ideal) m g) fun r h => ⟨fun c =>
    have a := Cert.ReferenceIdeal.Hand.ends_args (StableHlo.launchContents m c)
    ⟨(h c _).trans a.1, (h c _).trans a.2.1, (h c _).trans a.2.2⟩, sem_eq_zero_of_no_sems (by decide) r.2⟩

/-- On finite arguments the kernel's probabilities and actions, on extended reals, are the reference's. -/
theorem algebraic_results : letI := Cert.KernelIdeal.Gen.facts; letI := Cert.ReferenceIdeal.Gen.facts; letI := Cert.Pre_finite_args.Gen.facts
    Cert.algebraic_KernelIdeal_ReferenceIdeal_pre_finite_args := by
  intro m g m' g' hpre hm
  have hreal := fun c => Cert.Pre_finite_args.Hand.real_logits _ _ _ (hpre c)
  refine ⟨fun c => Cert.KernelIdeal.Hand.probs m c, fun c => Cert.KernelIdeal.Hand.actions m c, ?_, ?_⟩
  · refine θ_run_mono (Cert.KernelIdeal.Hand.run_main m g) fun r h c => ?_
    obtain ⟨ρ, hρ⟩ := hreal c
    exact ⟨Cert.KernelIdeal.Hand.ends_probs m c r.2 (h.1 c), Cert.KernelIdeal.Hand.ends_actions_eq m c ρ hρ r.2 (h.1 c),
      Cert.KernelIdeal.Hand.ends_args m c r.2 (h.1 c)⟩
  · refine θ_run_mono (Cert.ReferenceIdeal.Hand.run (F := Ideal) m' g') fun r h c => ?_
    obtain ⟨ρ, hρ⟩ := hreal c
    obtain ⟨e0, e1, e2⟩ := hm c
    have a := Cert.ReferenceIdeal.Hand.ends_args (StableHlo.launchContents m' c)
    have f0 : StableHlo.launchContents m' c (Proc.devRef .tc Cert.ReferenceIdeal.main_arg0) = _ := e0
    have f1 : StableHlo.launchContents m' c (Proc.devRef .tc Cert.ReferenceIdeal.main_arg1) = _ := e1
    have f2 : StableHlo.launchContents m' c (Proc.devRef .tc Cert.ReferenceIdeal.main_arg2) = _ := e2
    have hP : Cert.ReferenceIdeal.Hand.refProbs (Cert.ReferenceIdeal.Hand.refLogits
        (StableHlo.launchContents m' c (Proc.devRef .tc Cert.ReferenceIdeal.main_arg0))
        (StableHlo.launchContents m' c (Proc.devRef .tc Cert.ReferenceIdeal.main_arg1))
        (StableHlo.launchContents m' c (Proc.devRef .tc Cert.ReferenceIdeal.main_arg2))) = Cert.KernelIdeal.Hand.probs m c := by
      rw [f0, f1, f2]
      exact Cert.ReferenceIdeal.Hand.probs_eq _ _ _ ρ hρ
    exact ⟨(h c _).trans ((Cert.ReferenceIdeal.Hand.ends_probs _).trans hP),
      (h c _).trans (Cert.KernelIdeal.Hand.ref_actions_eq m c ρ hρ _ hP),
      (h c _).trans a.1, (h c _).trans a.2.1, (h c _).trans a.2.2⟩

/-- All the claims. -/
theorem claim : Cert.Claim := ⟨Cert.Kernel.Gen.facts, Cert.KernelIdeal.Gen.facts, Cert.ReferenceIdeal.Gen.facts, Cert.Pre_finite_args.Gen.facts,
  frame_kernel, frame_kernelIdeal, fun m g _ => frame_kernelIdeal m g trivial, frame_referenceIdeal, fun m g _ => frame_referenceIdeal m g trivial, trivial, algebraic_results⟩

end Cert.Proof

end
